-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_global [hPre_finite_global : Cert.Pre_finite_global.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_global.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite_global.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2.1 = (fun _ => 1#1)
    ∧ (Cert.Pre_finite_global.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_global [hPre_finite_global : Cert.Pre_finite_global.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_global.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite_global.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2.1 = (fun _ => 1#1)
    ∧ (Cert.Pre_finite_global.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_global [hKernel7Ideal : Cert.Kernel7Ideal.Facts] [hPre_finite_global : Cert.Pre_finite_global.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_global m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_global [hReference7Ideal : Cert.Reference7Ideal.Facts] [hPre_finite_global : Cert.Pre_finite_global.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_global m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v37)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v97)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v97) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v225) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite_global [hKernel7Ideal : Cert.Kernel7Ideal.Facts] [hReference7Ideal : Cert.Reference7Ideal.Facts] [hPre_finite_global : Cert.Pre_finite_global.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_global m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_finite_global : Cert.Pre_finite_global.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_global (hKernel7Ideal := hKernel7Ideal) (hPre_finite_global := hPre_finite_global)
    ∧ quiescent_Reference7Ideal (hReference7Ideal := hReference7Ideal)
    ∧ quiescent_Reference7Ideal_pre_finite_global (hReference7Ideal := hReference7Ideal) (hPre_finite_global := hPre_finite_global)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_global (hKernel7Ideal := hKernel7Ideal) (hReference7Ideal := hReference7Ideal) (hPre_finite_global := hPre_finite_global)
    ∧ preserves_Kernel8_Kernel8Ideal
    ∧ algebraic_Kernel8Ideal_Reference8Ideal (hKernel8Ideal := hKernel8Ideal) (hReference8Ideal := hReference8Ideal)
-- ==== Pre_finite_global.lean ====
abbrev S16x2048x3072 : Shape := ⟨3, ![16, 2048, 3072]⟩
abbrev S16x256x3072 : Shape := ⟨3, ![16, 256, 3072]⟩
abbrev S8 : Shape := ⟨1, ![8]⟩
abbrev S16x2048x1024 : Shape := ⟨3, ![16, 2048, 1024]⟩
abbrev S_ : Shape := ⟨0, ![]⟩
abbrev S16x2048x256 : Shape := ⟨3, ![16, 2048, 256]⟩
abbrev S16x256x256 : Shape := ⟨3, ![16, 256, 256]⟩

class Facts : Prop where
  slices_S16x2048x3072_S16x2048x1024_0_0_0 : S16x2048x3072.Slices ![0, 0, 0] S16x2048x1024
  bcast_S_S16x2048x1024 : S_.BroadcastsInDim S16x2048x1024 (![] : Fin 0 → Fin S16x2048x1024.rank)
  slices_S16x2048x3072_S16x2048x256_0_0_2048 : S16x2048x3072.Slices ![0, 0, 2048] S16x2048x256
  bcast_S_S16x2048x256 : S_.BroadcastsInDim S16x2048x256 (![] : Fin 0 → Fin S16x2048x256.rank)
  slices_S16x256x3072_S16x256x256_0_0_2048 : S16x256x3072.Slices ![0, 0, 2048] S16x256x256
  bcast_S_S16x256x256 : S_.BroadcastsInDim S16x256x256 (![] : Fin 0 → Fin S16x256x256.rank)

variable [Facts]

def fn {F : FTy → Type} [FloatOps F] (main_arg0 : FVec F S16x2048x3072 .f32) (main_arg1 : FVec F S16x256x3072 .f32) (main_arg2 : FVec F S8 .f32) : IVec S16x2048x1024 1 × IVec S16x2048x256 1 × IVec S16x256x256 1 :=
  let main_v0 : FVec F S16x2048x1024 .f32 := (extractStridedSlice S16x2048x1024 ![0, 0, 0] · slices_S16x2048x3072_S16x2048x1024_0_0_0) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_v4 : FVec F S16x2048x256 .f32 := (extractStridedSlice S16x2048x256 ![0, 0, 2048] · slices_S16x2048x3072_S16x2048x256_0_0_2048) main_arg0
  let main_v5 : FVec F S16x2048x256 .f32 := Host.absf main_v4
  let main_cst_0 : FVec F S_ .f32 := constant S_ .f32 0x7F800000#32
  let main_v6 : FVec F S16x2048x256 .f32 := broadcastInDim S16x2048x256 ![] bcast_S_S16x2048x256 main_cst_0
  let main_v7 : IVec S16x2048x256 1 := cmpf .olt main_v5 main_v6
  let main_v8 : FVec F S16x256x256 .f32 := (extractStridedSlice S16x256x256 ![0, 0, 2048] · slices_S16x256x3072_S16x256x256_0_0_2048) main_arg1
  let main_v9 : FVec F S16x256x256 .f32 := Host.absf main_v8
  let main_cst_1 : FVec F S_ .f32 := constant S_ .f32 0x7F800000#32
  let main_v10 : FVec F S16x256x256 .f32 := broadcastInDim S16x256x256 ![] bcast_S_S16x256x256 main_cst_1
  let main_v11 : IVec S16x256x256 1 := cmpf .olt main_v9 main_v10
  (main_v3, main_v7, main_v11)
-- ==== Pre_finite_scores.lean ====
abbrev S16x2048x3072 : Shape := ⟨3, ![16, 2048, 3072]⟩
abbrev S16x256x3072 : Shape := ⟨3, ![16, 256, 3072]⟩
abbrev S8 : Shape := ⟨1, ![8]⟩
abbrev S16x2048x1024 : Shape := ⟨3, ![16, 2048, 1024]⟩
abbrev S_ : Shape := ⟨0, ![]⟩
abbrev S16x2048x256 : Shape := ⟨3, ![16, 2048, 256]⟩
abbrev S16x256x256 : Shape := ⟨3, ![16, 256, 256]⟩

class Facts : Prop where
  slices_S16x2048x3072_S16x2048x1024_0_0_1024 : S16x2048x3072.Slices ![0, 0, 1024] S16x2048x1024
  bcast_S_S16x2048x1024 : S_.BroadcastsInDim S16x2048x1024 (![] : Fin 0 → Fin S16x2048x1024.rank)
  slices_S16x2048x3072_S16x2048x256_0_0_2560 : S16x2048x3072.Slices ![0, 0, 2560] S16x2048x256
  bcast_S_S16x2048x256 : S_.BroadcastsInDim S16x2048x256 (![] : Fin 0 → Fin S16x2048x256.rank)
  slices_S16x256x3072_S16x256x256_0_0_2560 : S16x256x3072.Slices ![0, 0, 2560] S16x256x256
  bcast_S_S16x256x256 : S_.BroadcastsInDim S16x256x256 (![] : Fin 0 → Fin S16x256x256.rank)
  bcast_S_S8 : S_.BroadcastsInDim S8 (![] : Fin 0 → Fin S8.rank)

variable [Facts]

def fn {F : FTy → Type} [FloatOps F] (main_arg0 : FVec F S16x2048x3072 .f32) (main_arg1 : FVec F S16x256x3072 .f32) (main_arg2 : FVec F S8 .f32) : IVec S16x2048x1024 1 × IVec S16x2048x256 1 × IVec S16x256x256 1 × IVec S8 1 :=
  let main_v0 : FVec F S16x2048x1024 .f32 := (extractStridedSlice S16x2048x1024 ![0, 0, 1024] · slices_S16x2048x3072_S16x2048x1024_0_0_1024) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_v4 : FVec F S16x2048x256 .f32 := (extractStridedSlice S16x2048x256 ![0, 0, 2560] · slices_S16x2048x3072_S16x2048x256_0_0_2560) main_arg0
  let main_v5 : FVec F S16x2048x256 .f32 := Host.absf main_v4
  let main_cst_0 : FVec F S_ .f32 := constant S_ .f32 0x7F800000#32
  let main_v6 : FVec F S16x2048x256 .f32 := broadcastInDim S16x2048x256 ![] bcast_S_S16x2048x256 main_cst_0
  let main_v7 : IVec S16x2048x256 1 := cmpf .olt main_v5 main_v6
  let main_v8 : FVec F S16x256x256 .f32 := (extractStridedSlice S16x256x256 ![0, 0, 2560] · slices_S16x256x3072_S16x256x256_0_0_2560) main_arg1
  let main_v9 : FVec F S16x256x256 .f32 := Host.absf main_v8
  let main_cst_1 : FVec F S_ .f32 := constant S_ .f32 0x7F800000#32
  let main_v10 : FVec F S16x256x256 .f32 := broadcastInDim S16x256x256 ![] bcast_S_S16x256x256 main_cst_1
  let main_v11 : IVec S16x256x256 1 := cmpf .olt main_v9 main_v10
  let main_v12 : FVec F S8 .f32 := Host.absf main_arg2
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  (main_v3, main_v7, main_v11, main_v14)
-- ==== Kernel.lean ====
abbrev S16x2048x3072 : Shape := ⟨3, ![16, 2048, 3072]⟩
abbrev S16x256x3072 : Shape := ⟨3, ![16, 256, 3072]⟩
abbrev S8 : Shape := ⟨1, ![8]⟩
abbrev S_ : Shape := ⟨0, ![]⟩
abbrev S2048 : Shape := ⟨1, ![2048]⟩
abbrev S1024 : Shape := ⟨1, ![1024]⟩
abbrev S3072 : Shape := ⟨1, ![3072]⟩
abbrev S1x3072 : Shape := ⟨2, ![1, 3072]⟩
abbrev S32768x3072 : Shape := ⟨2, ![32768, 3072]⟩
abbrev S4096x3072 : Shape := ⟨2, ![4096, 3072]⟩
abbrev S32768x1024 : Shape := ⟨2, ![32768, 1024]⟩
abbrev S256x512 : Shape := ⟨2, ![256, 512]⟩
abbrev S256x128 : Shape := ⟨2, ![256, 128]⟩
abbrev S2048x128 : Shape := ⟨2, ![2048, 128]⟩
abbrev S256x1 : Shape := ⟨2, ![256, 1]⟩
abbrev S1x512 : Shape := ⟨2, ![1, 512]⟩
abbrev S256x256 : Shape := ⟨2, ![256, 256]⟩
abbrev S256 : Shape := ⟨1, ![256]⟩
abbrev S512x128 : Shape := ⟨2, ![512, 128]⟩
abbrev S1 : Shape := ⟨1, ![1]⟩

abbrev nBuf : Space → Nat
  | .hbm => 24
  | .vmem => 12
  | .smem => 1
  | _ => 0

abbrev bufTy : (tb : Table) → Fin (tcTables nBuf tb) → BufTy
  | .hbm, ⟨0, _⟩ => ⟨S16x2048x3072, .f32⟩
  | .hbm, ⟨1, _⟩ => ⟨S16x256x3072, .f32⟩
  | .hbm, ⟨2, _⟩ => ⟨S8, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S1024, .f32⟩
  | .hbm, ⟨7, _⟩ => ⟨S3072, .f32⟩
  | .hbm, ⟨8, _⟩ => ⟨S1x3072, .f32⟩
  | .hbm, ⟨9, _⟩ => ⟨S32768x3072, .f32⟩
  | .hbm, ⟨10, _⟩ => ⟨S32768x3072, .f32⟩
  | .hbm, ⟨11, _⟩ => ⟨S32768x3072, .f32⟩
  | .hbm, ⟨12, _⟩ => ⟨S32768x3072, .bf16⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S1024, .f32⟩
  | .hbm, ⟨17, _⟩ => ⟨S3072, .f32⟩
  | .hbm, ⟨18, _⟩ => ⟨S1x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3072, .bf16⟩
  | .hbm, ⟨23, _⟩ => ⟨S32768x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S256x512, .bf16⟩
  | .local _ .vmem, ⟨11, _⟩ => ⟨S256x512, .bf16⟩
  | .local _ .smem, ⟨0, _⟩ => ⟨S8, .f32⟩
  | _, _ => ⟨S16x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 2, 8], ![false, false, false]⟩

def k0_mult1 (i : grid0.Coords) : BitVec 32 :=
  let c1536_i32 : BitVec 32 := 1536#32
  let c0_i32 : BitVec 32 := 0#32
  let arg2 : BitVec 32 := BitVec.ofNat 32 (i 2).val
  let c256_i32 : BitVec 32 := 256#32
  let v0 : BitVec 32 := Scalar.muli arg2 c256_i32
  let c128_i32 : BitVec 32 := 128#32
  let v1 : BitVec 32 := Scalar.subi v0 c128_i32
  let v2 : BitVec 32 := Scalar.maxsi c0_i32 v1
  let v3 : BitVec 32 := Scalar.minsi c1536_i32 v2
  v3
def k0_off1 (i : grid0.Coords) : Fin 2 → Nat :=
  let c1536_i32 : BitVec 32 := 1536#32
  let c0_i32 : BitVec 32 := 0#32
  let arg2 : BitVec 32 := BitVec.ofNat 32 (i 2).val
  let c256_i32 : BitVec 32 := 256#32
  let v0 : BitVec 32 := Scalar.muli arg2 c256_i32
  let c128_i32 : BitVec 32 := 128#32
  let v1 : BitVec 32 := Scalar.subi v0 c128_i32
  let v2 : BitVec 32 := Scalar.maxsi c0_i32 v1
  let v3 : BitVec 32 := Scalar.minsi c1536_i32 v2
  let v4 : BitVec 32 := v3
  let v48 : Index := Scalar.indexCast v4
  let c0_23 : Index := 0#32
  ![v48.toNat, 0]
def k0_off2 (i : grid0.Coords) (c0_i32_45 : BitVec 32) : Fin 1 → Nat :=
  let arg1 : BitVec 32 := BitVec.ofNat 32 (i 1).val
  let c4_i32 : BitVec 32 := 4#32
  let v90 : BitVec 32 := Scalar.muli arg1 c4_i32
  let v91 : BitVec 32 := Scalar.addi v90 c0_i32_45
  let v92 : Index := Scalar.indexCast v91
  ![v92.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x2048x3072 : Shape := ⟨3, ![16, 2048, 3072]⟩
abbrev S16x256x3072 : Shape := ⟨3, ![16, 256, 3072]⟩
abbrev S8 : Shape := ⟨1, ![8]⟩
abbrev S16x2048x1024 : Shape := ⟨3, ![16, 2048, 1024]⟩
abbrev S16x2048x2x4x128 : Shape := ⟨5, ![16, 2048, 2, 4, 128]⟩
abbrev S16x256x256 : Shape := ⟨3, ![16, 256, 256]⟩
abbrev S16x2048x256 : Shape := ⟨3, ![16, 2048, 256]⟩
abbrev S16x2304x256 : Shape := ⟨3, ![16, 2304, 256]⟩
abbrev S16x2304x2x128 : Shape := ⟨4, ![16, 2304, 2, 128]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x256 : Shape := ⟨2, ![2048, 256]⟩
abbrev S2048x2048 : Shape := ⟨2, ![2048, 2048]⟩
abbrev S2048x2304 : Shape := ⟨2, ![2048, 2304]⟩
abbrev S16x2x2304x2048x4 : Shape := ⟨5, ![16, 2, 2304, 2048, 4]⟩
abbrev S16x2x4x2048x2304 : Shape := ⟨5, ![16, 2, 4, 2048, 2304]⟩
abbrev S2x4 : Shape := ⟨2, ![2, 4]⟩
abbrev S1x2x4x1x1 : Shape := ⟨5, ![1, 2, 4, 1, 1]⟩
abbrev S16x2x4x2048x1 : Shape := ⟨5, ![16, 2, 4, 2048, 1]⟩
abbrev S16x2x4x2048x2305 : Shape := ⟨5, ![16, 2, 4, 2048, 2305]⟩
abbrev S16x2x4x2048 : Shape := ⟨4, ![16, 2, 4, 2048]⟩
abbrev S16x2x128x4x2048 : Shape := ⟨5, ![16, 2, 128, 4, 2048]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x3072, .f32⟩
  | .hbm, ⟨1, _⟩ => ⟨S16x256x3072, .f32⟩
  | .hbm, ⟨2, _⟩ => ⟨S8, .f32⟩
  | .hbm, ⟨3, _⟩ => ⟨S16x2048x1024, .f32⟩
  | .hbm, ⟨4, _⟩ => ⟨S16x2048x2x4x128, .f32⟩
  | .hbm, ⟨5, _⟩ => ⟨S16x256x256, .f32⟩
  | .hbm, ⟨6, _⟩ => ⟨S16x2048x256, .f32⟩
  | .hbm, ⟨7, _⟩ => ⟨S16x2304x256, .f32⟩
  | .hbm, ⟨8, _⟩ => ⟨S16x2304x2x128, .f32⟩
  | .hbm, ⟨9, _⟩ => ⟨S16x256x256, .f32⟩
  | .hbm, ⟨10, _⟩ => ⟨S16x2048x256, .f32⟩
  | .hbm, ⟨11, _⟩ => ⟨S16x2304x256, .f32⟩
  | .hbm, ⟨12, _⟩ => ⟨S16x2304x2x128, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S_, .i1⟩
  | .hbm, ⟨18, _⟩ => ⟨S2048x256, .i1⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S2048x2304, .i1⟩
  | .hbm, ⟨27, _⟩ => ⟨S16x2x2304x2048x4, .f32⟩
  | .hbm, ⟨28, _⟩ => ⟨S16x2x4x2048x2304, .f32⟩
  | .hbm, ⟨29, _⟩ => ⟨S_, .f32⟩
  | .hbm, ⟨30, _⟩ => ⟨S16x2x4x2048x2304, .f32⟩
  | .hbm, ⟨31, _⟩ => ⟨S16x2x4x2048x2304, .f32⟩
  | .hbm, ⟨32, _⟩ => ⟨S_, .f32⟩
  | .hbm, ⟨33, _⟩ => ⟨S_, .f32⟩
  | .hbm, ⟨34, _⟩ => ⟨S16x2x4x2048x2304, .i1⟩
  | .hbm, ⟨35, _⟩ => ⟨S16x2x4x2048x2304, .f32⟩
  | .hbm, ⟨36, _⟩ => ⟨S16x2x4x2048x2304, .f32⟩
  | .hbm, ⟨37, _⟩ => ⟨S2x4, .f32⟩
  | .hbm, ⟨38, _⟩ => ⟨S1x2x4x1x1, .f32⟩
  | .hbm, ⟨39, _⟩ => ⟨S16x2x4x2048x1, .f32⟩
  | .hbm, ⟨40, _⟩ => ⟨S16x2x4x2048x2305, .f32⟩
  | .hbm, ⟨41, _⟩ => ⟨S_, .f32⟩
  | .hbm, ⟨42, _⟩ => ⟨S16x2x4x2048, .f32⟩
  | .hbm, ⟨43, _⟩ => ⟨S_, .f32⟩
  | .hbm, ⟨44, _⟩ => ⟨S16x2x4x2048, .f32⟩
  | .hbm, ⟨45, _⟩ => ⟨S16x2x4x2048, .f32⟩
  | .hbm, ⟨46, _⟩ => ⟨S16x2x4x2048x1, .f32⟩
  | .hbm, ⟨47, _⟩ => ⟨S16x2x4x2048x2305, .f32⟩
  | .hbm, ⟨48, _⟩ => ⟨S16x2x4x2048x2305, .f32⟩
  | .hbm, ⟨49, _⟩ => ⟨S16x2x4x2048x2305, .f32⟩
  | .hbm, ⟨50, _⟩ => ⟨S_, .f32⟩
  | .hbm, ⟨51, _⟩ => ⟨S16x2x4x2048, .f32⟩
  | .hbm, ⟨52, _⟩ => ⟨S16x2x4x2048x1, .f32⟩
  | .hbm, ⟨53, _⟩ => ⟨S16x2x4x2048x2305, .f32⟩
  | .hbm, ⟨54, _⟩ => ⟨S16x2x4x2048x2305, .f32⟩
  | .hbm, ⟨55, _⟩ => ⟨S16x2x4x2048x2304, .f32⟩
  | .hbm, ⟨56, _⟩ => ⟨S16x2x128x4x2048, .f32⟩
  | .hbm, ⟨57, _⟩ => ⟨S16x2048x2x4x128, .f32⟩
  | .hbm, ⟨58, _⟩ => ⟨S32768x1024, .f32⟩
  | .hbm, ⟨59, _⟩ => ⟨S32768x1024, .bf16⟩
  | _, _ => ⟨S16x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Kernel2.lean ====
abbrev S16x2048x2048 : Shape := ⟨3, ![16, 2048, 2048]⟩
abbrev S16x9x2048 : Shape := ⟨3, ![16, 9, 2048]⟩
abbrev S4x3x2048 : Shape := ⟨3, ![4, 3, 2048]⟩
abbrev S4x2x2048x11264 : Shape := ⟨4, ![4, 2, 2048, 11264]⟩
abbrev S4x2x5632x2048 : Shape := ⟨4, ![4, 2, 5632, 2048]⟩
abbrev S32768x2048 : Shape := ⟨2, ![32768, 2048]⟩
abbrev S16x3x2048 : Shape := ⟨3, ![16, 3, 2048]⟩
abbrev S1x1x2048 : Shape := ⟨3, ![1, 1, 2048]⟩
abbrev S2048 : Shape := ⟨1, ![2048]⟩
abbrev S1x2048 : Shape := ⟨2, ![1, 2048]⟩
abbrev S1024x2048 : Shape := ⟨2, ![1024, 2048]⟩
abbrev S1x3x2048 : Shape := ⟨3, ![1, 3, 2048]⟩
abbrev S1x1x2048x512 : Shape := ⟨4, ![1, 1, 2048, 512]⟩
abbrev S1x1x512x2048 : Shape := ⟨4, ![1, 1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x2048, .f32⟩
  | .hbm, ⟨1, _⟩ => ⟨S16x9x2048, .f32⟩
  | .hbm, ⟨2, _⟩ => ⟨S4x3x2048, .f32⟩
  | .hbm, ⟨3, _⟩ => ⟨S4x2x2048x11264, .f32⟩
  | .hbm, ⟨4, _⟩ => ⟨S4x2x5632x2048, .f32⟩
  | .hbm, ⟨5, _⟩ => ⟨S32768x2048, .f32⟩
  | .hbm, ⟨6, _⟩ => ⟨S16x3x2048, .f32⟩
  | .hbm, ⟨7, _⟩ => ⟨S1x1x2048, .f32⟩
  | .hbm, ⟨8, _⟩ => ⟨S2048, .f32⟩
  | .hbm, ⟨9, _⟩ => ⟨S4x2x2048x11264, .bf16⟩
  | .hbm, ⟨10, _⟩ => ⟨S4x2x5632x2048, .bf16⟩
  | .hbm, ⟨11, _⟩ => ⟨S1x2048, .f32⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x512x2048, .bf16⟩
  | .local _ .vmem, ⟨10, _⟩ => ⟨S1x1x512x2048, .bf16⟩
  | .local _ .vmem, ⟨11, _⟩ => ⟨S1024x2048, .f32⟩
  | .local _ .vmem, ⟨12, _⟩ => ⟨S1024x2048, .bf16⟩
  | .local _ .vmem, ⟨13, _⟩ => ⟨S1024x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c10_i32_4 : BitVec 32 := 10#32
  let v9 : BitVec 1 := Scalar.cmpi .eq arg1 c10_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c1_i32 : BitVec 32 := 1#32
  let c0_i32 : BitVec 32 := 0#32
  let c0_i32_0 : BitVec 32 := 0#32
  ![c3_i32.toNat, c1_i32.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference2Ideal.lean ====
abbrev S16x2048x2048 : Shape := ⟨3, ![16, 2048, 2048]⟩
abbrev S16x9x2048 : Shape := ⟨3, ![16, 9, 2048]⟩
abbrev S4x3x2048 : Shape := ⟨3, ![4, 3, 2048]⟩
abbrev S4x2x2048x11264 : Shape := ⟨4, ![4, 2, 2048, 11264]⟩
abbrev S4x2x5632x2048 : Shape := ⟨4, ![4, 2, 5632, 2048]⟩
abbrev S16x1x2048 : Shape := ⟨3, ![16, 1, 2048]⟩
abbrev S16x2048 : Shape := ⟨2, ![16, 2048]⟩
abbrev S_ : Shape := ⟨0, ![]⟩
abbrev S1x1x2048 : Shape := ⟨3, ![1, 1, 2048]⟩
abbrev S2048 : Shape := ⟨1, ![2048]⟩
abbrev S16x2048x1 : Shape := ⟨3, ![16, 2048, 1]⟩
abbrev S1x1x2048x11264 : Shape := ⟨4, ![1, 1, 2048, 11264]⟩
abbrev S2048x11264 : Shape := ⟨2, ![2048, 11264]⟩
abbrev S1x1x5632x2048 : Shape := ⟨4, ![1, 1, 5632, 2048]⟩
abbrev S5632x2048 : Shape := ⟨2, ![5632, 2048]⟩
abbrev S16x2048x11264 : Shape := ⟨3, ![16, 2048, 11264]⟩
abbrev S16x2048x5632 : Shape := ⟨3, ![16, 2048, 5632]⟩
abbrev S32768x2048 : Shape := ⟨2, ![32768, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x9x2048, .f32⟩
  | .hbm, ⟨2, _⟩ => ⟨S4x3x2048, .f32⟩
  | .hbm, ⟨3, _⟩ => ⟨S4x2x2048x11264, .f32⟩
  | .hbm, ⟨4, _⟩ => ⟨S4x2x5632x2048, .f32⟩
  | .hbm, ⟨5, _⟩ => ⟨S16x1x2048, .f32⟩
  | .hbm, ⟨6, _⟩ => ⟨S16x2048, .f32⟩
  | .hbm, ⟨7, _⟩ => ⟨S16x1x2048, .f32⟩
  | .hbm, ⟨8, _⟩ => ⟨S_, .f32⟩
  | .hbm, ⟨9, _⟩ => ⟨S16x1x2048, .f32⟩
  | .hbm, ⟨10, _⟩ => ⟨S16x1x2048, .f32⟩
  | .hbm, ⟨11, _⟩ => ⟨S1x1x2048, .f32⟩
  | .hbm, ⟨12, _⟩ => ⟨S2048, .f32⟩
  | .hbm, ⟨13, _⟩ => ⟨S16x1x2048, .f32⟩
  | .hbm, ⟨14, _⟩ => ⟨S16x2048, .f32⟩
  | .hbm, ⟨15, _⟩ => ⟨S16x1x2048, .f32⟩
  | .hbm, ⟨16, _⟩ => ⟨S16x1x2048, .f32⟩
  | .hbm, ⟨17, _⟩ => ⟨S16x2048, .f32⟩
  | .hbm, ⟨18, _⟩ => ⟨S16x1x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S1x1x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x1x2048, .f32⟩
  | .hbm, ⟨37, _⟩ => ⟨S16x1x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S1x1x2048x11264, .f32⟩
  | .hbm, ⟨43, _⟩ => ⟨S2048x11264, .f32⟩
  | .hbm, ⟨44, _⟩ => ⟨S1x1x5632x2048, .f32⟩
  | .hbm, ⟨45, _⟩ => ⟨S5632x2048, .f32⟩
  | .hbm, ⟨46, _⟩ => ⟨S16x2048x11264, .f32⟩
  | .hbm, ⟨47, _⟩ => ⟨S16x2048x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S_, .f32⟩
  | .hbm, ⟨52, _⟩ => ⟨S16x2048x5632, .f32⟩
  | .hbm, ⟨53, _⟩ => ⟨S16x2048x5632, .f32⟩
  | .hbm, ⟨54, _⟩ => ⟨S_, .f32⟩
  | .hbm, ⟨55, _⟩ => ⟨S16x2048x5632, .f32⟩
  | .hbm, ⟨56, _⟩ => ⟨S16x2048x5632, .f32⟩
  | .hbm, ⟨57, _⟩ => ⟨S16x2048x5632, .f32⟩
  | .hbm, ⟨58, _⟩ => ⟨S16x2048x5632, .f32⟩
  | .hbm, ⟨59, _⟩ => ⟨S16x2048x2048, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel3.lean ====
abbrev S16x2048x2048 : Shape := ⟨3, ![16, 2048, 2048]⟩
abbrev S16x9x2048 : Shape := ⟨3, ![16, 9, 2048]⟩
abbrev S4x3x2048 : Shape := ⟨3, ![4, 3, 2048]⟩
abbrev S2x2048x6144 : Shape := ⟨3, ![2, 2048, 6144]⟩
abbrev S2x6144 : Shape := ⟨2, ![2, 6144]⟩
abbrev S2x3x6144 : Shape := ⟨3, ![2, 3, 6144]⟩
abbrev S1x2048x6144 : Shape := ⟨3, ![1, 2048, 6144]⟩
abbrev S2048x6144 : Shape := ⟨2, ![2048, 6144]⟩
abbrev S2048x12x512 : Shape := ⟨3, ![2048, 12, 512]⟩
abbrev S12x2048x512 : Shape := ⟨3, ![12, 2048, 512]⟩
abbrev S32768x2048 : Shape := ⟨2, ![32768, 2048]⟩
abbrev S16x3x2048 : Shape := ⟨3, ![16, 3, 2048]⟩
abbrev S1x1x2048 : Shape := ⟨3, ![1, 1, 2048]⟩
abbrev S2048 : Shape := ⟨1, ![2048]⟩
abbrev S1x6144 : Shape := ⟨2, ![1, 6144]⟩
abbrev S6144 : Shape := ⟨1, ![6144]⟩
abbrev S1x3x6144 : Shape := ⟨3, ![1, 3, 6144]⟩
abbrev S3x6144 : Shape := ⟨2, ![3, 6144]⟩
abbrev S1x2048 : Shape := ⟨2, ![1, 2048]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S2x16384x6144 : Shape := ⟨3, ![2, 16384, 6144]⟩
abbrev S2048x2048 : Shape := ⟨2, ![2048, 2048]⟩
abbrev S1x3x2048 : Shape := ⟨3, ![1, 3, 2048]⟩
abbrev S1x2048x512 : Shape := ⟨3, ![1, 2048, 512]⟩
abbrev S1x512 : Shape := ⟨2, ![1, 512]⟩
abbrev S3x512 : Shape := ⟨2, ![3, 512]⟩
abbrev S2x1024x512 : Shape := ⟨3, ![2, 1024, 512]⟩
abbrev S256x2048 : Shape := ⟨2, ![256, 2048]⟩
abbrev S128x2048 : Shape := ⟨2, ![128, 2048]⟩
abbrev S2048x512 : Shape := ⟨2, ![2048, 512]⟩
abbrev S1024x512 : Shape := ⟨2, ![1024, 512]⟩
abbrev S1024x1 : Shape := ⟨2, ![1024, 1]⟩
abbrev S1x1024x512 : Shape := ⟨3, ![1, 1024, 512]⟩

abbrev nBuf : Space → Nat
  | .hbm => 50
  | .vmem => 17
  | .smem => 0
  | _ => 0

abbrev bufTy : (tb : Table) → Fin (tcTables nBuf tb) → BufTy
  | .hbm, ⟨0, _⟩ => ⟨S16x2048x2048, .f32⟩
  | .hbm, ⟨1, _⟩ => ⟨S16x9x2048, .f32⟩
  | .hbm, ⟨2, _⟩ => ⟨S4x3x2048, .f32⟩
  | .hbm, ⟨3, _⟩ => ⟨S2x2048x6144, .f32⟩
  | .hbm, ⟨4, _⟩ => ⟨S2x6144, .f32⟩
  | .hbm, ⟨5, _⟩ => ⟨S2x3x6144, .f32⟩
  | .hbm, ⟨6, _⟩ => ⟨S2x6144, .f32⟩
  | .hbm, ⟨7, _⟩ => ⟨S1x2048x6144, .f32⟩
  | .hbm, ⟨8, _⟩ => ⟨S2048x6144, .f32⟩
  | .hbm, ⟨9, _⟩ => ⟨S2048x12x512, .f32⟩
  | .hbm, ⟨10, _⟩ => ⟨S12x2048x512, .f32⟩
  | .hbm, ⟨11, _⟩ => ⟨S12x2048x512, .bf16⟩
  | .hbm, ⟨12, _⟩ => ⟨S32768x2048, .f32⟩
  | .hbm, ⟨13, _⟩ => ⟨S16x3x2048, .f32⟩
  | .hbm, ⟨14, _⟩ => ⟨S1x1x2048, .f32⟩
  | .hbm, ⟨15, _⟩ => ⟨S2048, .f32⟩
  | .hbm, ⟨16, _⟩ => ⟨S1x6144, .f32⟩
  | .hbm, ⟨17, _⟩ => ⟨S6144, .f32⟩
  | .hbm, ⟨18, _⟩ => ⟨S1x3x6144, .f32⟩
  | .hbm, ⟨19, _⟩ => ⟨S3x6144, .f32⟩
  | .hbm, ⟨20, _⟩ => ⟨S1x6144, .f32⟩
  | .hbm, ⟨21, _⟩ => ⟨S6144, .f32⟩
  | .hbm, ⟨22, _⟩ => ⟨S1x2048, .f32⟩
  | .hbm, ⟨23, _⟩ => ⟨S256, .i32⟩
  | .hbm, ⟨24, _⟩ => ⟨S256x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S256x1, .i32⟩
  | .hbm, ⟨29, _⟩ => ⟨S256x1, .i1⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S256x1, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S256x256, .bf16⟩
  | .hbm, ⟨47, _⟩ => ⟨S1x6144, .f32⟩
  | .hbm, ⟨48, _⟩ => ⟨S1x6144, .f32⟩
  | .hbm, ⟨49, _⟩ => ⟨S2x16384x6144, .bf16⟩
  | .local _ .vmem, ⟨0, _⟩ => ⟨S2048x2048, .f32⟩
  | .local _ .vmem, ⟨1, _⟩ => ⟨S2048x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S256x256, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512, .f32⟩
  | .local _ .vmem, ⟨9, _⟩ => ⟨S1x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S2x1024x512, .bf16⟩
  | .local _ .vmem, ⟨15, _⟩ => ⟨S2x1024x512, .bf16⟩
  | .local _ .vmem, ⟨16, _⟩ => ⟨S2048x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let v1 : BitVec 32 := Scalar.addi arg0 v0
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x2048x2048 : Shape := ⟨3, ![16, 2048, 2048]⟩
abbrev S16x9x2048 : Shape := ⟨3, ![16, 9, 2048]⟩
abbrev S4x3x2048 : Shape := ⟨3, ![4, 3, 2048]⟩
abbrev S2x2048x6144 : Shape := ⟨3, ![2, 2048, 6144]⟩
abbrev S2x6144 : Shape := ⟨2, ![2, 6144]⟩
abbrev S2x3x6144 : Shape := ⟨3, ![2, 3, 6144]⟩
abbrev S1x1x2048 : Shape := ⟨3, ![1, 1, 2048]⟩
abbrev S2048 : Shape := ⟨1, ![2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x2048x6144 : Shape := ⟨3, ![1, 2048, 6144]⟩
abbrev S2048x6144 : Shape := ⟨2, ![2048, 6144]⟩
abbrev S16x2048x6144 : Shape := ⟨3, ![16, 2048, 6144]⟩
abbrev S1x6144 : Shape := ⟨2, ![1, 6144]⟩
abbrev S6144 : Shape := ⟨1, ![6144]⟩
abbrev S1x1x6144 : Shape := ⟨3, ![1, 1, 6144]⟩
abbrev S16x2050x6144 : Shape := ⟨3, ![16, 2050, 6144]⟩
abbrev S16384x2x6144 : Shape := ⟨3, ![16384, 2, 6144]⟩
abbrev S2x16384x6144 : Shape := ⟨3, ![2, 16384, 6144]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x9x2048, .f32⟩
  | .hbm, ⟨2, _⟩ => ⟨S4x3x2048, .f32⟩
  | .hbm, ⟨3, _⟩ => ⟨S2x2048x6144, .f32⟩
  | .hbm, ⟨4, _⟩ => ⟨S2x6144, .f32⟩
  | .hbm, ⟨5, _⟩ => ⟨S2x3x6144, .f32⟩
  | .hbm, ⟨6, _⟩ => ⟨S2x6144, .f32⟩
  | .hbm, ⟨7, _⟩ => ⟨S1x1x2048, .f32⟩
  | .hbm, ⟨8, _⟩ => ⟨S2048, .f32⟩
  | .hbm, ⟨9, _⟩ => ⟨S16x1x2048, .f32⟩
  | .hbm, ⟨10, _⟩ => ⟨S16x2048, .f32⟩
  | .hbm, ⟨11, _⟩ => ⟨S16x1x2048, .f32⟩
  | .hbm, ⟨12, _⟩ => ⟨S16x1x2048, .f32⟩
  | .hbm, ⟨13, _⟩ => ⟨S16x2048, .f32⟩
  | .hbm, ⟨14, _⟩ => ⟨S16x1x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S1x1x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x1x2048, .f32⟩
  | .hbm, ⟨33, _⟩ => ⟨S16x1x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S1x2048x6144, .f32⟩
  | .hbm, ⟨39, _⟩ => ⟨S2048x6144, .f32⟩
  | .hbm, ⟨40, _⟩ => ⟨S16x2048x6144, .f32⟩
  | .hbm, ⟨41, _⟩ => ⟨S1x6144, .f32⟩
  | .hbm, ⟨42, _⟩ => ⟨S6144, .f32⟩
  | .hbm, ⟨43, _⟩ => ⟨S1x1x6144, .f32⟩
  | .hbm, ⟨44, _⟩ => ⟨S16x2048x6144, .f32⟩
  | .hbm, ⟨45, _⟩ => ⟨S16x2048x6144, .f32⟩
  | .hbm, ⟨46, _⟩ => ⟨S_, .i32⟩
  | .hbm, ⟨47, _⟩ => ⟨S_, .f32⟩
  | .hbm, ⟨48, _⟩ => ⟨S16x2050x6144, .f32⟩
  | .hbm, ⟨49, _⟩ => ⟨S1x6144, .f32⟩
  | .hbm, ⟨50, _⟩ => ⟨S6144, .f32⟩
  | .hbm, ⟨51, _⟩ => ⟨S16x2048x6144, .f32⟩
  | .hbm, ⟨52, _⟩ => ⟨S1x1x6144, .f32⟩
  | .hbm, ⟨53, _⟩ => ⟨S6144, .f32⟩
  | .hbm, ⟨54, _⟩ => ⟨S1x1x6144, .f32⟩
  | .hbm, ⟨55, _⟩ => ⟨S16x2048x6144, .f32⟩
  | .hbm, ⟨56, _⟩ => ⟨S16x2048x6144, .f32⟩
  | .hbm, ⟨57, _⟩ => ⟨S1x1x6144, .f32⟩
  | .hbm, ⟨58, _⟩ => ⟨S16x2048x6144, .f32⟩
  | .hbm, ⟨59, _⟩ => ⟨S16x2048x6144, .f32⟩
  | .hbm, ⟨60, _⟩ => ⟨S16x2048x6144, .f32⟩
  | .hbm, ⟨61, _⟩ => ⟨S1x1x6144, .f32⟩
  | .hbm, ⟨62, _⟩ => ⟨S6144, .f32⟩
  | .hbm, ⟨63, _⟩ => ⟨S1x1x6144, .f32⟩
  | .hbm, ⟨64, _⟩ => ⟨S16x2048x6144, .f32⟩
  | .hbm, ⟨65, _⟩ => ⟨S16x2048x6144, .f32⟩
  | .hbm, ⟨66, _⟩ => ⟨S16x2048x6144, .f32⟩
  | .hbm, ⟨67, _⟩ => ⟨S16x2048x6144, .f32⟩
  | .hbm, ⟨68, _⟩ => ⟨S1x1x6144, .f32⟩
  | .hbm, ⟨69, _⟩ => ⟨S6144, .f32⟩
  | .hbm, ⟨70, _⟩ => ⟨S1x1x6144, .f32⟩
  | .hbm, ⟨71, _⟩ => ⟨S16x2048x6144, .f32⟩
  | .hbm, ⟨72, _⟩ => ⟨S16x2048x6144, .f32⟩
  | .hbm, ⟨73, _⟩ => ⟨S16x2048x6144, .f32⟩
  | .hbm, ⟨74, _⟩ => ⟨S16384x2x6144, .f32⟩
  | .hbm, ⟨75, _⟩ => ⟨S2x16384x6144, .f32⟩
  | .hbm, ⟨76, _⟩ => ⟨S2x16384x6144, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Kernel4.lean ====
abbrev S32768x1024 : Shape := ⟨2, ![32768, 1024]⟩
abbrev S16x2048x2048 : Shape := ⟨3, ![16, 2048, 2048]⟩
abbrev S16x9x2048 : Shape := ⟨3, ![16, 9, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S2048 : Shape := ⟨1, ![2048]⟩
abbrev S32768x2048 : Shape := ⟨2, ![32768, 2048]⟩
abbrev S16x3x2048 : Shape := ⟨3, ![16, 3, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S1x3x2048 : Shape := ⟨3, ![1, 3, 2048]⟩
abbrev S1x1x2048 : Shape := ⟨3, ![1, 1, 2048]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S16x2048x2048, .f32⟩
  | .hbm, ⟨3, _⟩ => ⟨S16x9x2048, .f32⟩
  | .hbm, ⟨4, _⟩ => ⟨S2x2048x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S_, .f32⟩
  | .hbm, ⟨9, _⟩ => ⟨S2048, .f32⟩
  | .hbm, ⟨10, _⟩ => ⟨S32768x2048, .f32⟩
  | .hbm, ⟨11, _⟩ => ⟨S16x3x2048, .f32⟩
  | .hbm, ⟨12, _⟩ => ⟨S1x2048, .f32⟩
  | .hbm, ⟨13, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x3x2048, .f32⟩
  | .local _ .vmem, ⟨10, _⟩ => ⟨S1x3x2048, .f32⟩
  | .local _ .vmem, ⟨11, _⟩ => ⟨S512x2048, .f32⟩
  | .local _ .vmem, ⟨12, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1024 : Shape := ⟨2, ![32768, 1024]⟩
abbrev S16x2048x2048 : Shape := ⟨3, ![16, 2048, 2048]⟩
abbrev S16x9x2048 : Shape := ⟨3, ![16, 9, 2048]⟩
abbrev S2x2048x2048 : Shape := ⟨3, ![2, 2048, 2048]⟩
abbrev S32768x2048 : Shape := ⟨2, ![32768, 2048]⟩
abbrev S16x1x2048 : Shape := ⟨3, ![16, 1, 2048]⟩
abbrev S16x2048 : Shape := ⟨2, ![16, 2048]⟩
abbrev S1x2048x2048 : Shape := ⟨3, ![1, 2048, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S16x2048x2048, .f32⟩
  | .hbm, ⟨3, _⟩ => ⟨S16x9x2048, .f32⟩
  | .hbm, ⟨4, _⟩ => ⟨S2x2048x2048, .f32⟩
  | .hbm, ⟨5, _⟩ => ⟨S32768x2048, .bf16⟩
  | .hbm, ⟨6, _⟩ => ⟨S32768x2048, .f32⟩
  | .hbm, ⟨7, _⟩ => ⟨S16x2048x2048, .f32⟩
  | .hbm, ⟨8, _⟩ => ⟨S16x1x2048, .f32⟩
  | .hbm, ⟨9, _⟩ => ⟨S16x2048, .f32⟩
  | .hbm, ⟨10, _⟩ => ⟨S16x1x2048, .f32⟩
  | .hbm, ⟨11, _⟩ => ⟨S1x2048x2048, .f32⟩
  | .hbm, ⟨12, _⟩ => ⟨S2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S2x16384x2048 : Shape := ⟨3, ![2, 16384, 2048]⟩
abbrev S16x2048x2048 : Shape := ⟨3, ![16, 2048, 2048]⟩
abbrev S16x9x2048 : Shape := ⟨3, ![16, 9, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S32768x2048 : Shape := ⟨2, ![32768, 2048]⟩
abbrev S16x3x2048 : Shape := ⟨3, ![16, 3, 2048]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S2x256x2048 : Shape := ⟨3, ![2, 256, 2048]⟩
abbrev S512x2048 : Shape := ⟨2, ![512, 2048]⟩
abbrev S1x3x2048 : Shape := ⟨3, ![1, 3, 2048]⟩
abbrev S1x128x2048 : Shape := ⟨3, ![1, 128, 2048]⟩
abbrev S128x2048 : Shape := ⟨2, ![128, 2048]⟩
abbrev S256x2048 : Shape := ⟨2, ![256, 2048]⟩
abbrev S1x1x2048 : Shape := ⟨3, ![1, 1, 2048]⟩

abbrev nBuf : Space → Nat
  | .hbm => 39
  | .vmem => 11
  | .smem => 0
  | _ => 0

abbrev bufTy : (tb : Table) → Fin (tcTables nBuf tb) → BufTy
  | .hbm, ⟨0, _⟩ => ⟨S2x16384x2048, .bf16⟩
  | .hbm, ⟨1, _⟩ => ⟨S16x2048x2048, .f32⟩
  | .hbm, ⟨2, _⟩ => ⟨S16x9x2048, .f32⟩
  | .hbm, ⟨3, _⟩ => ⟨S2x2048x2048, .f32⟩
  | .hbm, ⟨4, _⟩ => ⟨S2x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S2048, .f32⟩
  | .hbm, ⟨10, _⟩ => ⟨S32768x2048, .f32⟩
  | .hbm, ⟨11, _⟩ => ⟨S16x3x2048, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S256x256, .i32⟩
  | .hbm, ⟨33, _⟩ => ⟨S256x256, .i32⟩
  | .hbm, ⟨34, _⟩ => ⟨S256x256, .i1⟩
  | .hbm, ⟨35, _⟩ => ⟨S256x256, .bf16⟩
  | .hbm, ⟨36, _⟩ => ⟨S256x256, .bf16⟩
  | .hbm, ⟨37, _⟩ => ⟨S1x2048, .f32⟩
  | .hbm, ⟨38, _⟩ => ⟨S32768x2048, .f32⟩
  | .local _ .vmem, ⟨0, _⟩ => ⟨S2x256x2048, .bf16⟩
  | .local _ .vmem, ⟨1, _⟩ => ⟨S2x256x2048, .bf16⟩
  | .local _ .vmem, ⟨2, _⟩ => ⟨S256x256, .bf16⟩
  | .local _ .vmem, ⟨3, _⟩ => ⟨S2048x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x3x2048, .f32⟩
  | .local _ .vmem, ⟨8, _⟩ => ⟨S1x3x2048, .f32⟩
  | .local _ .vmem, ⟨9, _⟩ => ⟨S512x2048, .f32⟩
  | .local _ .vmem, ⟨10, _⟩ => ⟨S512x2048, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x16384x2048 : Shape := ⟨3, ![2, 16384, 2048]⟩
abbrev S16x2048x2048 : Shape := ⟨3, ![16, 2048, 2048]⟩
abbrev S16x9x2048 : Shape := ⟨3, ![16, 9, 2048]⟩
abbrev S2x2048x2048 : Shape := ⟨3, ![2, 2048, 2048]⟩
abbrev S2x2048 : Shape := ⟨2, ![2, 2048]⟩
abbrev S16384x2x2048 : Shape := ⟨3, ![16384, 2, 2048]⟩
abbrev S16x1x2048 : Shape := ⟨3, ![16, 1, 2048]⟩
abbrev S16x2048 : Shape := ⟨2, ![16, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x1x2048 : Shape := ⟨3, ![1, 1, 2048]⟩
abbrev S32768x2048 : Shape := ⟨2, ![32768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S16x2048x2048, .f32⟩
  | .hbm, ⟨2, _⟩ => ⟨S16x9x2048, .f32⟩
  | .hbm, ⟨3, _⟩ => ⟨S2x2048x2048, .f32⟩
  | .hbm, ⟨4, _⟩ => ⟨S2x2048, .f32⟩
  | .hbm, ⟨5, _⟩ => ⟨S2x16384x2048, .f32⟩
  | .hbm, ⟨6, _⟩ => ⟨S16384x2x2048, .f32⟩
  | .hbm, ⟨7, _⟩ => ⟨S16x2048x2048, .f32⟩
  | .hbm, ⟨8, _⟩ => ⟨S16x1x2048, .f32⟩
  | .hbm, ⟨9, _⟩ => ⟨S16x2048, .f32⟩
  | .hbm, ⟨10, _⟩ => ⟨S16x1x2048, .f32⟩
  | .hbm, ⟨11, _⟩ => ⟨S1x2048x2048, .f32⟩
  | .hbm, ⟨12, _⟩ => ⟨S2048x2048, .f32⟩
  | .hbm, ⟨13, _⟩ => ⟨S16x2048x2048, .f32⟩
  | .hbm, ⟨14, _⟩ => ⟨S1x2048, .f32⟩
  | .hbm, ⟨15, _⟩ => ⟨S2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S32768x2048, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel6.lean ====
abbrev S16x2048x2048 : Shape := ⟨3, ![16, 2048, 2048]⟩
abbrev S16x9x2048 : Shape := ⟨3, ![16, 9, 2048]⟩
abbrev S4x3x2048 : Shape := ⟨3, ![4, 3, 2048]⟩
abbrev S2x2048x3072 : Shape := ⟨3, ![2, 2048, 3072]⟩
abbrev S2x2x128 : Shape := ⟨3, ![2, 2, 128]⟩
abbrev S1x2x128 : Shape := ⟨3, ![1, 2, 128]⟩
abbrev S2x128 : Shape := ⟨2, ![2, 128]⟩
abbrev S_ : Shape := ⟨0, ![]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S256 : Shape := ⟨1, ![256]⟩
abbrev S3072 : Shape := ⟨1, ![3072]⟩
abbrev S1x3072 : Shape := ⟨2, ![1, 3072]⟩
abbrev S2048 : Shape := ⟨1, ![2048]⟩
abbrev S1x2048x3072 : Shape := ⟨3, ![1, 2048, 3072]⟩
abbrev S2048x3072 : Shape := ⟨2, ![2048, 3072]⟩
abbrev S2048x3x1024 : Shape := ⟨3, ![2048, 3, 1024]⟩
abbrev S3x2048x1024 : Shape := ⟨3, ![3, 2048, 1024]⟩
abbrev S32768x2048 : Shape := ⟨2, ![32768, 2048]⟩
abbrev S16x3x2048 : Shape := ⟨3, ![16, 3, 2048]⟩
abbrev S1x1x2048 : Shape := ⟨3, ![1, 1, 2048]⟩
abbrev S32 : Shape := ⟨1, ![32]⟩
abbrev S32x64 : Shape := ⟨2, ![32, 64]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x64x2 : Shape := ⟨3, ![2048, 64, 2]⟩
abbrev S2048x128 : Shape := ⟨2, ![2048, 128]⟩
abbrev S1x2048 : Shape := ⟨2, ![1, 2048]⟩
abbrev S32768x3072 : Shape := ⟨2, ![32768, 3072]⟩
abbrev S1024x2048 : Shape := ⟨2, ![1024, 2048]⟩
abbrev S1x3x2048 : Shape := ⟨3, ![1, 3, 2048]⟩
abbrev S1x2048x1024 : Shape := ⟨3, ![1, 2048, 1024]⟩
abbrev S1x1024 : Shape := ⟨2, ![1, 1024]⟩
abbrev S1024x128 : Shape := ⟨2, ![1024, 128]⟩
abbrev S1024x1024 : Shape := ⟨2, ![1024, 1024]⟩
abbrev S1024x1 : Shape := ⟨2, ![1024, 1]⟩
abbrev S2048x1024 : Shape := ⟨2, ![2048, 1024]⟩

abbrev nBuf : Space → Nat
  | .hbm => 140
  | .vmem => 21
  | .smem => 0
  | _ => 0

abbrev hbmTy0_0 (i : Nat) : BufTy := match i % 128 with
  | 0 => ⟨S16x2048x2048, .f32⟩
  | 1 => ⟨S16x9x2048, .f32⟩
  | 2 => ⟨S4x3x2048, .f32⟩
  | 3 => ⟨S2x2048x3072, .f32⟩
  | 4 => ⟨S2x2x128, .f32⟩
  | 5 => ⟨S2x2x128, .f32⟩
  | 6 => ⟨S1x2x128, .f32⟩
  | 7 => ⟨S2x128, .f32⟩
  | 8 => ⟨S1x2x128, .f32⟩
  | 9 => ⟨S2x128, .f32⟩
  | 10 => ⟨S_, .f32⟩
  | 11 => ⟨S128, .f32⟩
  | 12 => ⟨S1x128, .f32⟩
  | 13 => ⟨S128, .f32⟩
  | 14 => ⟨S1x128, .f32⟩
  | 15 => ⟨S8x128, .f32⟩
  | 16 => ⟨S1024, .f32⟩
  | 17 => ⟨S1x128, .f32⟩
  | 18 => ⟨S128, .f32⟩
  | 19 => ⟨S1x128, .f32⟩
  | 20 => ⟨S8x128, .f32⟩
  | 21 => ⟨S1024, .f32⟩
  | 22 => ⟨S1x128, .f32⟩
  | 23 => ⟨S128, .f32⟩
  | 24 => ⟨S1x128, .f32⟩
  | 25 => ⟨S2x128, .f32⟩
  | 26 => ⟨S256, .f32⟩
  | 27 => ⟨S1x128, .f32⟩
  | 28 => ⟨S2x128, .f32⟩
  | 29 => ⟨S256, .f32⟩
  | 30 => ⟨S1x128, .f32⟩
  | 31 => ⟨S128, .f32⟩
  | 32 => ⟨S1x128, .f32⟩
  | 33 => ⟨S2x128, .f32⟩
  | 34 => ⟨S256, .f32⟩
  | 35 => ⟨S1x128, .f32⟩
  | 36 => ⟨S2x128, .f32⟩
  | 37 => ⟨S256, .f32⟩
  | 38 => ⟨S3072, .f32⟩
  | 39 => ⟨S1x3072, .f32⟩
  | 40 => ⟨S_, .f32⟩
  | 41 => ⟨S2048, .f32⟩
  | 42 => ⟨S_, .f32⟩
  | 43 => ⟨S1024, .f32⟩
  | 44 => ⟨S3072, .f32⟩
  | 45 => ⟨S1x3072, .f32⟩
  | 46 => ⟨S_, .f32⟩
  | 47 => ⟨S256, .f32⟩
  | 48 => ⟨S_, .f32⟩
  | 49 => ⟨S256, .f32⟩
  | 50 => ⟨S_, .f32⟩
  | 51 => ⟨S2048, .f32⟩
  | 52 => ⟨S3072, .f32⟩
  | 53 => ⟨S1x3072, .f32⟩
  | 54 => ⟨S1x2048x3072, .f32⟩
  | 55 => ⟨S2048x3072, .f32⟩
  | 56 => ⟨S2048x3x1024, .f32⟩
  | 57 => ⟨S3x2048x1024, .f32⟩
  | 58 => ⟨S3x2048x1024, .bf16⟩
  | 59 => ⟨S32768x2048, .f32⟩
  | 60 => ⟨S16x3x2048, .f32⟩
  | 61 => ⟨S1x1x2048, .f32⟩
  | 62 => ⟨S2048, .f32⟩
  | 63 => ⟨S32, .i32⟩
  | 64 => ⟨S32x64, .i32⟩
  | 65 => ⟨S2048, .i32⟩
  | 66 => ⟨S2048, .f32⟩
  | 67 => ⟨S64, .i32⟩
  | 68 => ⟨S1x64, .i32⟩
  | 69 => ⟨S32x64, .i32⟩
  | 70 => ⟨S2048, .i32⟩
  | 71 => ⟨S2048, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S2048x1, .f32⟩
  | 87 => ⟨S1x32, .f32⟩
  | 88 => ⟨S2048x32, .f32⟩
  | 89 => ⟨S2048x32, .f32⟩
  | 90 => ⟨S2048x32, .f32⟩
  | 91 => ⟨S2048x1, .f32⟩
  | 92 => ⟨S1x32, .f32⟩
  | 93 => ⟨S2048x32, .f32⟩
  | 94 => ⟨S2048x32, .f32⟩
  | 95 => ⟨S2048x32, .f32⟩
  | 96 => ⟨S2048x64, .f32⟩
  | 97 => ⟨S2048x64, .f32⟩
  | 98 => ⟨S2048x64x2, .f32⟩
  | 99 => ⟨S2048x128, .f32⟩
  | 100 => ⟨S2048x64, .f32⟩
  | 101 => ⟨S2048x64x2, .f32⟩
  | 102 => ⟨S2048x128, .f32⟩
  | 103 => ⟨S128, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S128, .i32⟩
  | 111 => ⟨S128, .i32⟩
  | 112 => ⟨S_, .i32⟩
  | 113 => ⟨S128, .i32⟩
  | 114 => ⟨S128, .i1⟩
  | 115 => ⟨S_, .i32⟩
  | 116 => ⟨S128, .i32⟩
  | 117 => ⟨S128, .i1⟩
  | 118 => ⟨S_, .i32⟩
  | 119 => ⟨S_, .i1⟩
  | 120 => ⟨S128, .i1⟩
  | 121 => ⟨S128, .i1⟩
  | 122 => ⟨S128, .i1⟩
  | 123 => ⟨S128, .i32⟩
  | 124 => ⟨S128, .i32⟩
  | 125 => ⟨S128, .i32⟩
  | 126 => ⟨S_, .i32⟩
  | 127 => ⟨S128, .i32⟩
  | _ => ⟨S16x2048x2048, .f32⟩

abbrev hbmTy0_1 (i : Nat) : BufTy := match i % 128 with
  | 0 => ⟨S128, .i1⟩
  | 1 => ⟨S_, .f32⟩
  | 2 => ⟨S_, .f32⟩
  | 3 => ⟨S128, .f32⟩
  | 4 => ⟨S128, .f32⟩
  | 5 => ⟨S128, .f32⟩
  | 6 => ⟨S128, .f32⟩
  | 7 => ⟨S1x128, .f32⟩
  | 8 => ⟨S2048x128, .f32⟩
  | 9 => ⟨S2048x128, .f32⟩
  | 10 => ⟨S1x2048, .f32⟩
  | 11 => ⟨S32768x3072, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x1024, .bf16⟩
  | .local _ .vmem, ⟨18, _⟩ => ⟨S1024x1024, .bf16⟩
  | .local _ .vmem, ⟨19, _⟩ => ⟨S1024x2048, .bf16⟩
  | .local _ .vmem, ⟨20, _⟩ => ⟨S1024x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_c : Ref sig .tc := ⟨.hbm, 104, rfl⟩
abbrev main_call0_v0 : Ref sig .tc := ⟨.hbm, 105, rfl⟩
abbrev main_call0_c : Ref sig .tc := ⟨.hbm, 106, rfl⟩
abbrev main_call0_v1 : Ref sig .tc := ⟨.hbm, 107, rfl⟩
abbrev main_call0_c_0 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_c_1 : Ref sig .tc := ⟨.hbm, 112, rfl⟩
abbrev main_call0_v5 : Ref sig .tc := ⟨.hbm, 113, rfl⟩
abbrev main_call0_v6 : Ref sig .tc := ⟨.hbm, 114, rfl⟩
abbrev main_call0_c_2 : Ref sig .tc := ⟨.hbm, 115, rfl⟩
abbrev main_call0_v7 : Ref sig .tc := ⟨.hbm, 116, rfl⟩
abbrev main_call0_v8 : Ref sig .tc := ⟨.hbm, 117, rfl⟩
abbrev main_call0_c_3 : Ref sig .tc := ⟨.hbm, 118, rfl⟩
abbrev main_call0_v9 : Ref sig .tc := ⟨.hbm, 119, rfl⟩
abbrev main_call0_v10 : Ref sig .tc := ⟨.hbm, 120, rfl⟩
abbrev main_call0_v11 : Ref sig .tc := ⟨.hbm, 121, rfl⟩
abbrev main_call0_v12 : Ref sig .tc := ⟨.hbm, 122, rfl⟩
abbrev main_call0_v13 : Ref sig .tc := ⟨.hbm, 123, rfl⟩
abbrev main_call0_v14 : Ref sig .tc := ⟨.hbm, 124, rfl⟩
abbrev main_v88 : Ref sig .tc := ⟨.hbm, 125, rfl⟩
abbrev main_c_9 : Ref sig .tc := ⟨.hbm, 126, rfl⟩
abbrev main_v89 : Ref sig .tc := ⟨.hbm, 127, rfl⟩
abbrev main_v90 : Ref sig .tc := ⟨.hbm, 128, rfl⟩
abbrev main_cst_10 : Ref sig .tc := ⟨.hbm, 129, rfl⟩
abbrev main_cst_11 : Ref sig .tc := ⟨.hbm, 130, rfl⟩
abbrev main_call1_v0 : Ref sig .tc := ⟨.hbm, 131, rfl⟩
abbrev main_call1_v1 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let v1 : BitVec 32 := Scalar.addi arg0 v0
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S16x2048x2048 : Shape := ⟨3, ![16, 2048, 2048]⟩
abbrev S16x9x2048 : Shape := ⟨3, ![16, 9, 2048]⟩
abbrev S4x3x2048 : Shape := ⟨3, ![4, 3, 2048]⟩
abbrev S2x2048x3072 : Shape := ⟨3, ![2, 2048, 3072]⟩
abbrev S2x2x128 : Shape := ⟨3, ![2, 2, 128]⟩
abbrev S1x1x2048 : Shape := ⟨3, ![1, 1, 2048]⟩
abbrev S2048 : Shape := ⟨1, ![2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x2048x3072 : Shape := ⟨3, ![1, 2048, 3072]⟩
abbrev S2048x3072 : Shape := ⟨2, ![2048, 3072]⟩
abbrev S16x2048x3072 : Shape := ⟨3, ![16, 2048, 3072]⟩
abbrev S32 : Shape := ⟨1, ![32]⟩
abbrev S64 : Shape := ⟨1, ![64]⟩
abbrev S32x64 : Shape := ⟨2, ![32, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x1x128 : Shape := ⟨3, ![1, 1, 128]⟩
abbrev S128 : Shape := ⟨1, ![128]⟩
abbrev S16x2048x1024 : Shape := ⟨3, ![16, 2048, 1024]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x8x64x2 : Shape := ⟨5, ![16, 2048, 8, 64, 2]⟩
abbrev S16x2048x8x64x1 : Shape := ⟨5, ![16, 2048, 8, 64, 1]⟩
abbrev S16x2048x8x64 : Shape := ⟨4, ![16, 2048, 8, 64]⟩
abbrev S1x2048x1x64 : Shape := ⟨4, ![1, 2048, 1, 64]⟩
abbrev S16x2048x256 : Shape := ⟨3, ![16, 2048, 256]⟩
abbrev S16x2048x2x128 : Shape := ⟨4, ![16, 2048, 2, 128]⟩
abbrev S16x2048x2 : Shape := ⟨3, ![16, 2048, 2]⟩
abbrev S16x2048x2x1 : Shape := ⟨4, ![16, 2048, 2, 1]⟩
abbrev S16x2048x2x64x2 : Shape := ⟨5, ![16, 2048, 2, 64, 2]⟩
abbrev S16x2048x2x64x1 : Shape := ⟨5, ![16, 2048, 2, 64, 1]⟩
abbrev S16x2048x2x64 : Shape := ⟨4, ![16, 2048, 2, 64]⟩
abbrev S32768x3072 : Shape := ⟨2, ![32768, 3072]⟩

abbrev nBuf : Space → Nat
  | .hbm => 254
  | .vmem => 0
  | .smem => 0
  | _ => 0

abbrev hbmTy0_0 (i : Nat) : BufTy := match i % 128 with
  | 0 => ⟨S16x2048x2048, .f32⟩
  | 1 => ⟨S16x9x2048, .f32⟩
  | 2 => ⟨S4x3x2048, .f32⟩
  | 3 => ⟨S2x2048x3072, .f32⟩
  | 4 => ⟨S2x2x128, .f32⟩
  | 5 => ⟨S2x2x128, .f32⟩
  | 6 => ⟨S1x1x2048, .f32⟩
  | 7 => ⟨S2048, .f32⟩
  | 8 => ⟨S16x1x2048, .f32⟩
  | 9 => ⟨S16x2048, .f32⟩
  | 10 => ⟨S16x1x2048, .f32⟩
  | 11 => ⟨S16x1x2048, .f32⟩
  | 12 => ⟨S16x2048, .f32⟩
  | 13 => ⟨S16x1x2048, .f32⟩
  | 14 => ⟨S16x2048x2048, .f32⟩
  | 15 => ⟨S_, .f32⟩
  | 16 => ⟨S16x2048, .f32⟩
  | 17 => ⟨S16x2048x1, .f32⟩
  | 18 => ⟨S_, .f32⟩
  | 19 => ⟨S16x2048x1, .f32⟩
  | 20 => ⟨S16x2048x1, .f32⟩
  | 21 => ⟨S_, .f32⟩
  | 22 => ⟨S16x2048x1, .f32⟩
  | 23 => ⟨S16x2048x1, .f32⟩
  | 24 => ⟨S16x2048x1, .f32⟩
  | 25 => ⟨S16x2048x2048, .f32⟩
  | 26 => ⟨S16x2048x2048, .f32⟩
  | 27 => ⟨S1x1x2048, .f32⟩
  | 28 => ⟨S16x2048x2048, .f32⟩
  | 29 => ⟨S16x2048x2048, .f32⟩
  | 30 => ⟨S_, .f32⟩
  | 31 => ⟨S16x1x2048, .f32⟩
  | 32 => ⟨S16x1x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S1x2048x3072, .f32⟩
  | 38 => ⟨S2048x3072, .f32⟩
  | 39 => ⟨S16x2048x3072, .f32⟩
  | 40 => ⟨S32, .i32⟩
  | 41 => ⟨S64, .i32⟩
  | 42 => ⟨S32x64, .i32⟩
  | 43 => ⟨S32x64, .i32⟩
  | 44 => ⟨S2048, .i32⟩
  | 45 => ⟨S2048, .f32⟩
  | 46 => ⟨S2048, .i32⟩
  | 47 => ⟨S2048, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S2048x1, .f32⟩
  | 63 => ⟨S1x32, .f32⟩
  | 64 => ⟨S2048x32, .f32⟩
  | 65 => ⟨S2048x32, .f32⟩
  | 66 => ⟨S2048x32, .f32⟩
  | 67 => ⟨S2048x1, .f32⟩
  | 68 => ⟨S1x32, .f32⟩
  | 69 => ⟨S2048x32, .f32⟩
  | 70 => ⟨S2048x32, .f32⟩
  | 71 => ⟨S2048x32, .f32⟩
  | 72 => ⟨S2048x64, .f32⟩
  | 73 => ⟨S2048x64, .f32⟩
  | 74 => ⟨S2048x64, .f32⟩
  | 75 => ⟨S1x1x128, .f32⟩
  | 76 => ⟨S128, .f32⟩
  | 77 => ⟨S16x2048x1024, .f32⟩
  | 78 => ⟨S16x2048x8x128, .f32⟩
  | 79 => ⟨S16x2048x8x128, .f32⟩
  | 80 => ⟨S_, .f32⟩
  | 81 => ⟨S16x2048x8, .f32⟩
  | 82 => ⟨S16x2048x8x1, .f32⟩
  | 83 => ⟨S_, .f32⟩
  | 84 => ⟨S16x2048x8x1, .f32⟩
  | 85 => ⟨S16x2048x8x1, .f32⟩
  | 86 => ⟨S_, .f32⟩
  | 87 => ⟨S16x2048x8x1, .f32⟩
  | 88 => ⟨S16x2048x8x1, .f32⟩
  | 89 => ⟨S16x2048x8x1, .f32⟩
  | 90 => ⟨S16x2048x8x128, .f32⟩
  | 91 => ⟨S16x2048x8x128, .f32⟩
  | 92 => ⟨S1x1x1x128, .f32⟩
  | 93 => ⟨S16x2048x8x128, .f32⟩
  | 94 => ⟨S16x2048x8x128, .f32⟩
  | 95 => ⟨S16x2048x8x64x2, .f32⟩
  | 96 => ⟨S16x2048x8x64x1, .f32⟩
  | 97 => ⟨S16x2048x8x64, .f32⟩
  | 98 => ⟨S16x2048x8x64x1, .f32⟩
  | 99 => ⟨S16x2048x8x64, .f32⟩
  | 100 => ⟨S1x2048x1x64, .f32⟩
  | 101 => ⟨S1x2048x1x64, .f32⟩
  | 102 => ⟨S16x2048x8x64, .f32⟩
  | 103 => ⟨S16x2048x8x64, .f32⟩
  | 104 => ⟨S16x2048x8x64, .f32⟩
  | 105 => ⟨S16x2048x8x64, .f32⟩
  | 106 => ⟨S16x2048x8x64, .f32⟩
  | 107 => ⟨S16x2048x8x64, .f32⟩
  | 108 => ⟨S16x2048x8x64, .f32⟩
  | 109 => ⟨S16x2048x8x64, .f32⟩
  | 110 => ⟨S16x2048x8x64, .f32⟩
  | 111 => ⟨S16x2048x8x64, .f32⟩
  | 112 => ⟨S16x2048x8x64x1, .f32⟩
  | 113 => ⟨S16x2048x8x64x1, .f32⟩
  | 114 => ⟨S16x2048x8x64x2, .f32⟩
  | 115 => ⟨S16x2048x8x128, .f32⟩
  | 116 => ⟨S16x2048x1024, .f32⟩
  | 117 => ⟨S1x1x128, .f32⟩
  | 118 => ⟨S128, .f32⟩
  | 119 => ⟨S16x2048x1024, .f32⟩
  | 120 => ⟨S16x2048x8x128, .f32⟩
  | 121 => ⟨S16x2048x8x128, .f32⟩
  | 122 => ⟨S_, .f32⟩
  | 123 => ⟨S16x2048x8, .f32⟩
  | 124 => ⟨S16x2048x8x1, .f32⟩
  | 125 => ⟨S_, .f32⟩
  | 126 => ⟨S16x2048x8x1, .f32⟩
  | 127 => ⟨S16x2048x8x1, .f32⟩
  | _ => ⟨S16x2048x2048, .f32⟩

abbrev hbmTy0_1 (i : Nat) : BufTy := match i % 128 with
  | 0 => ⟨S_, .f32⟩
  | 1 => ⟨S16x2048x8x1, .f32⟩
  | 2 => ⟨S16x2048x8x1, .f32⟩
  | 3 => ⟨S16x2048x8x1, .f32⟩
  | 4 => ⟨S16x2048x8x128, .f32⟩
  | 5 => ⟨S16x2048x8x128, .f32⟩
  | 6 => ⟨S1x1x1x128, .f32⟩
  | 7 => ⟨S16x2048x8x128, .f32⟩
  | 8 => ⟨S16x2048x8x128, .f32⟩
  | 9 => ⟨S16x2048x8x64x2, .f32⟩
  | 10 => ⟨S16x2048x8x64x1, .f32⟩
  | 11 => ⟨S16x2048x8x64, .f32⟩
  | 12 => ⟨S16x2048x8x64x1, .f32⟩
  | 13 => ⟨S16x2048x8x64, .f32⟩
  | 14 => ⟨S1x2048x1x64, .f32⟩
  | 15 => ⟨S1x2048x1x64, .f32⟩
  | 16 => ⟨S16x2048x8x64, .f32⟩
  | 17 => ⟨S16x2048x8x64, .f32⟩
  | 18 => ⟨S16x2048x8x64, .f32⟩
  | 19 => ⟨S16x2048x8x64, .f32⟩
  | 20 => ⟨S16x2048x8x64, .f32⟩
  | 21 => ⟨S16x2048x8x64, .f32⟩
  | 22 => ⟨S16x2048x8x64, .f32⟩
  | 23 => ⟨S16x2048x8x64, .f32⟩
  | 24 => ⟨S16x2048x8x64, .f32⟩
  | 25 => ⟨S16x2048x8x64, .f32⟩
  | 26 => ⟨S16x2048x8x64x1, .f32⟩
  | 27 => ⟨S16x2048x8x64x1, .f32⟩
  | 28 => ⟨S16x2048x8x64x2, .f32⟩
  | 29 => ⟨S16x2048x8x128, .f32⟩
  | 30 => ⟨S16x2048x1024, .f32⟩
  | 31 => ⟨S1x1x128, .f32⟩
  | 32 => ⟨S128, .f32⟩
  | 33 => ⟨S16x2048x256, .f32⟩
  | 34 => ⟨S16x2048x2x128, .f32⟩
  | 35 => ⟨S16x2048x2x128, .f32⟩
  | 36 => ⟨S_, .f32⟩
  | 37 => ⟨S16x2048x2, .f32⟩
  | 38 => ⟨S16x2048x2x1, .f32⟩
  | 39 => ⟨S_, .f32⟩
  | 40 => ⟨S16x2048x2x1, .f32⟩
  | 41 => ⟨S16x2048x2x1, .f32⟩
  | 42 => ⟨S_, .f32⟩
  | 43 => ⟨S16x2048x2x1, .f32⟩
  | 44 => ⟨S16x2048x2x1, .f32⟩
  | 45 => ⟨S16x2048x2x1, .f32⟩
  | 46 => ⟨S16x2048x2x128, .f32⟩
  | 47 => ⟨S16x2048x2x128, .f32⟩
  | 48 => ⟨S1x1x1x128, .f32⟩
  | 49 => ⟨S16x2048x2x128, .f32⟩
  | 50 => ⟨S16x2048x2x128, .f32⟩
  | 51 => ⟨S16x2048x2x64x2, .f32⟩
  | 52 => ⟨S16x2048x2x64x1, .f32⟩
  | 53 => ⟨S16x2048x2x64, .f32⟩
  | 54 => ⟨S16x2048x2x64x1, .f32⟩
  | 55 => ⟨S16x2048x2x64, .f32⟩
  | 56 => ⟨S1x2048x1x64, .f32⟩
  | 57 => ⟨S1x2048x1x64, .f32⟩
  | 58 => ⟨S16x2048x2x64, .f32⟩
  | 59 => ⟨S16x2048x2x64, .f32⟩
  | 60 => ⟨S16x2048x2x64, .f32⟩
  | 61 => ⟨S16x2048x2x64, .f32⟩
  | 62 => ⟨S16x2048x2x64, .f32⟩
  | 63 => ⟨S16x2048x2x64, .f32⟩
  | 64 => ⟨S16x2048x2x64, .f32⟩
  | 65 => ⟨S16x2048x2x64, .f32⟩
  | 66 => ⟨S16x2048x2x64, .f32⟩
  | 67 => ⟨S16x2048x2x64, .f32⟩
  | 68 => ⟨S16x2048x2x64x1, .f32⟩
  | 69 => ⟨S16x2048x2x64x1, .f32⟩
  | 70 => ⟨S16x2048x2x64x2, .f32⟩
  | 71 => ⟨S16x2048x2x128, .f32⟩
  | 72 => ⟨S16x2048x256, .f32⟩
  | 73 => ⟨S1x1x128, .f32⟩
  | 74 => ⟨S128, .f32⟩
  | 75 => ⟨S16x2048x256, .f32⟩
  | 76 => ⟨S16x2048x2x128, .f32⟩
  | 77 => ⟨S16x2048x2x128, .f32⟩
  | 78 => ⟨S_, .f32⟩
  | 79 => ⟨S16x2048x2, .f32⟩
  | 80 => ⟨S16x2048x2x1, .f32⟩
  | 81 => ⟨S_, .f32⟩
  | 82 => ⟨S16x2048x2x1, .f32⟩
  | 83 => ⟨S16x2048x2x1, .f32⟩
  | 84 => ⟨S_, .f32⟩
  | 85 => ⟨S16x2048x2x1, .f32⟩
  | 86 => ⟨S16x2048x2x1, .f32⟩
  | 87 => ⟨S16x2048x2x1, .f32⟩
  | 88 => ⟨S16x2048x2x128, .f32⟩
  | 89 => ⟨S16x2048x2x128, .f32⟩
  | 90 => ⟨S1x1x1x128, .f32⟩
  | 91 => ⟨S16x2048x2x128, .f32⟩
  | 92 => ⟨S16x2048x2x128, .f32⟩
  | 93 => ⟨S16x2048x2x64x2, .f32⟩
  | 94 => ⟨S16x2048x2x64x1, .f32⟩
  | 95 => ⟨S16x2048x2x64, .f32⟩
  | 96 => ⟨S16x2048x2x64x1, .f32⟩
  | 97 => ⟨S16x2048x2x64, .f32⟩
  | 98 => ⟨S1x2048x1x64, .f32⟩
  | 99 => ⟨S1x2048x1x64, .f32⟩
  | 100 => ⟨S16x2048x2x64, .f32⟩
  | 101 => ⟨S16x2048x2x64, .f32⟩
  | 102 => ⟨S16x2048x2x64, .f32⟩
  | 103 => ⟨S16x2048x2x64, .f32⟩
  | 104 => ⟨S16x2048x2x64, .f32⟩
  | 105 => ⟨S16x2048x2x64, .f32⟩
  | 106 => ⟨S16x2048x2x64, .f32⟩
  | 107 => ⟨S16x2048x2x64, .f32⟩
  | 108 => ⟨S16x2048x2x64, .f32⟩
  | 109 => ⟨S16x2048x2x64, .f32⟩
  | 110 => ⟨S16x2048x2x64x1, .f32⟩
  | 111 => ⟨S16x2048x2x64x1, .f32⟩
  | 112 => ⟨S16x2048x2x64x2, .f32⟩
  | 113 => ⟨S16x2048x2x128, .f32⟩
  | 114 => ⟨S16x2048x256, .f32⟩
  | 115 => ⟨S_, .f32⟩
  | 116 => ⟨S16x2048x1024, .f32⟩
  | 117 => ⟨S16x2048x1024, .f32⟩
  | 118 => ⟨S_, .f32⟩
  | 119 => ⟨S16x2048x1024, .f32⟩
  | 120 => ⟨S16x2048x1024, .f32⟩
  | 121 => ⟨S16x2048x256, .f32⟩
  | 122 => ⟨S16x2048x256, .f32⟩
  | 123 => ⟨S16x2048x3072, .f32⟩
  | 124 => ⟨S32768x3072, .f32⟩
  | 125 => ⟨S32768x3072, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_cst_10 : Ref sig .tc := ⟨.hbm, 122, rfl⟩
abbrev main_v105 : Ref sig .tc := ⟨.hbm, 123, rfl⟩
abbrev main_v106 : Ref sig .tc := ⟨.hbm, 124, rfl⟩
abbrev main_cst_11 : Ref sig .tc := ⟨.hbm, 125, rfl⟩
abbrev main_v107 : Ref sig .tc := ⟨.hbm, 126, rfl⟩
abbrev main_v108 : Ref sig .tc := ⟨.hbm, 127, rfl⟩
abbrev main_cst_12 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_cst_13 : Ref sig .tc := ⟨.hbm, 164, rfl⟩
abbrev main_v144 : Ref sig .tc := ⟨.hbm, 165, rfl⟩
abbrev main_v145 : Ref sig .tc := ⟨.hbm, 166, rfl⟩
abbrev main_cst_14 : Ref sig .tc := ⟨.hbm, 167, rfl⟩
abbrev main_v146 : Ref sig .tc := ⟨.hbm, 168, rfl⟩
abbrev main_v147 : Ref sig .tc := ⟨.hbm, 169, rfl⟩
abbrev main_cst_15 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_cst_16 : Ref sig .tc := ⟨.hbm, 206, rfl⟩
abbrev main_v183 : Ref sig .tc := ⟨.hbm, 207, rfl⟩
abbrev main_v184 : Ref sig .tc := ⟨.hbm, 208, rfl⟩
abbrev main_cst_17 : Ref sig .tc := ⟨.hbm, 209, rfl⟩
abbrev main_v185 : Ref sig .tc := ⟨.hbm, 210, rfl⟩
abbrev main_v186 : Ref sig .tc := ⟨.hbm, 211, rfl⟩
abbrev main_cst_18 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_cst_19 : Ref sig .tc := ⟨.hbm, 243, rfl⟩
abbrev main_v217 : Ref sig .tc := ⟨.hbm, 244, rfl⟩
abbrev main_v218 : Ref sig .tc := ⟨.hbm, 245, rfl⟩
abbrev main_cst_20 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩

abbrev nD : Nat := 1
abbrev τ : Topo := Topo.v7x

variable {F : FTy → Type} [FloatOps F]
-- ==== Kernel7.lean ====
abbrev S16x2048x3072 : Shape := ⟨3, ![16, 2048, 3072]⟩
abbrev S16x256x3072 : Shape := ⟨3, ![16, 256, 3072]⟩
abbrev S8 : Shape := ⟨1, ![8]⟩
abbrev S_ : Shape := ⟨0, ![]⟩
abbrev S2048 : Shape := ⟨1, ![2048]⟩
abbrev S1024 : Shape := ⟨1, ![1024]⟩
abbrev S3072 : Shape := ⟨1, ![3072]⟩
abbrev S1x3072 : Shape := ⟨2, ![1, 3072]⟩
abbrev S32768x3072 : Shape := ⟨2, ![32768, 3072]⟩
abbrev S4096x3072 : Shape := ⟨2, ![4096, 3072]⟩
abbrev S32768x1024 : Shape := ⟨2, ![32768, 1024]⟩
abbrev S512x512 : Shape := ⟨2, ![512, 512]⟩
abbrev S256x128 : Shape := ⟨2, ![256, 128]⟩
abbrev S2048x128 : Shape := ⟨2, ![2048, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩

abbrev nBuf : Space → Nat
  | .hbm => 24
  | .vmem => 12
  | .smem => 1
  | _ => 0

abbrev bufTy : (tb : Table) → Fin (tcTables nBuf tb) → BufTy
  | .hbm, ⟨0, _⟩ => ⟨S16x2048x3072, .f32⟩
  | .hbm, ⟨1, _⟩ => ⟨S16x256x3072, .f32⟩
  | .hbm, ⟨2, _⟩ => ⟨S8, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S1024, .f32⟩
  | .hbm, ⟨7, _⟩ => ⟨S3072, .f32⟩
  | .hbm, ⟨8, _⟩ => ⟨S1x3072, .f32⟩
  | .hbm, ⟨9, _⟩ => ⟨S32768x3072, .f32⟩
  | .hbm, ⟨10, _⟩ => ⟨S32768x3072, .f32⟩
  | .hbm, ⟨11, _⟩ => ⟨S32768x3072, .f32⟩
  | .hbm, ⟨12, _⟩ => ⟨S32768x3072, .bf16⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S1024, .f32⟩
  | .hbm, ⟨17, _⟩ => ⟨S3072, .f32⟩
  | .hbm, ⟨18, _⟩ => ⟨S1x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3072, .bf16⟩
  | .hbm, ⟨23, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S512x512, .bf16⟩
  | .local _ .vmem, ⟨11, _⟩ => ⟨S512x512, .bf16⟩
  | .local _ .smem, ⟨0, _⟩ => ⟨S8, .f32⟩
  | _, _ => ⟨S16x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference7Ideal.lean ====
abbrev S16x2048x3072 : Shape := ⟨3, ![16, 2048, 3072]⟩
abbrev S16x256x3072 : Shape := ⟨3, ![16, 256, 3072]⟩
abbrev S8 : Shape := ⟨1, ![8]⟩
abbrev S16x2048x1024 : Shape := ⟨3, ![16, 2048, 1024]⟩
abbrev S16x2048x2x4x128 : Shape := ⟨5, ![16, 2048, 2, 4, 128]⟩
abbrev S16x256x256 : Shape := ⟨3, ![16, 256, 256]⟩
abbrev S16x2048x256 : Shape := ⟨3, ![16, 2048, 256]⟩
abbrev S16x2304x256 : Shape := ⟨3, ![16, 2304, 256]⟩
abbrev S16x2304x2x128 : Shape := ⟨4, ![16, 2304, 2, 128]⟩
abbrev S16x2x2304x2048x4 : Shape := ⟨5, ![16, 2, 2304, 2048, 4]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x128x4x2048 : Shape := ⟨5, ![16, 2, 128, 4, 2048]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x3072, .f32⟩
  | .hbm, ⟨1, _⟩ => ⟨S16x256x3072, .f32⟩
  | .hbm, ⟨2, _⟩ => ⟨S8, .f32⟩
  | .hbm, ⟨3, _⟩ => ⟨S16x2048x1024, .f32⟩
  | .hbm, ⟨4, _⟩ => ⟨S16x2048x2x4x128, .f32⟩
  | .hbm, ⟨5, _⟩ => ⟨S16x256x256, .f32⟩
  | .hbm, ⟨6, _⟩ => ⟨S16x2048x256, .f32⟩
  | .hbm, ⟨7, _⟩ => ⟨S16x2304x256, .f32⟩
  | .hbm, ⟨8, _⟩ => ⟨S16x2304x2x128, .f32⟩
  | .hbm, ⟨9, _⟩ => ⟨S16x256x256, .f32⟩
  | .hbm, ⟨10, _⟩ => ⟨S16x2048x256, .f32⟩
  | .hbm, ⟨11, _⟩ => ⟨S16x2304x256, .f32⟩
  | .hbm, ⟨12, _⟩ => ⟨S16x2304x2x128, .f32⟩
  | .hbm, ⟨13, _⟩ => ⟨S16x2x2304x2048x4, .f32⟩
  | .hbm, ⟨14, _⟩ => ⟨S16x2x4x2048x2304, .f32⟩
  | .hbm, ⟨15, _⟩ => ⟨S_, .f32⟩
  | .hbm, ⟨16, _⟩ => ⟨S16x2x4x2048x2304, .f32⟩
  | .hbm, ⟨17, _⟩ => ⟨S16x2x4x2048x2304, .f32⟩
  | .hbm, ⟨18, _⟩ => ⟨S_, .f32⟩
  | .hbm, ⟨19, _⟩ => ⟨S16x2x4x2048, .f32⟩
  | .hbm, ⟨20, _⟩ => ⟨S_, .f32⟩
  | .hbm, ⟨21, _⟩ => ⟨S16x2x4x2048, .f32⟩
  | .hbm, ⟨22, _⟩ => ⟨S16x2x4x2048, .f32⟩
  | .hbm, ⟨23, _⟩ => ⟨S16x2x4x2048x1, .f32⟩
  | .hbm, ⟨24, _⟩ => ⟨S16x2x4x2048x2304, .f32⟩
  | .hbm, ⟨25, _⟩ => ⟨S16x2x4x2048x2304, .f32⟩
  | .hbm, ⟨26, _⟩ => ⟨S16x2x4x2048x2304, .f32⟩
  | .hbm, ⟨27, _⟩ => ⟨S_, .f32⟩
  | .hbm, ⟨28, _⟩ => ⟨S16x2x4x2048, .f32⟩
  | .hbm, ⟨29, _⟩ => ⟨S16x2x4x2048x1, .f32⟩
  | .hbm, ⟨30, _⟩ => ⟨S16x2x4x2048x2304, .f32⟩
  | .hbm, ⟨31, _⟩ => ⟨S16x2x4x2048x2304, .f32⟩
  | .hbm, ⟨32, _⟩ => ⟨S16x2x128x4x2048, .f32⟩
  | .hbm, ⟨33, _⟩ => ⟨S16x2048x2x4x128, .f32⟩
  | .hbm, ⟨34, _⟩ => ⟨S32768x1024, .f32⟩
  | .hbm, ⟨35, _⟩ => ⟨S32768x1024, .bf16⟩
  | _, _ => ⟨S16x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel8.lean ====
abbrev S16x2048 : Shape := ⟨2, ![16, 2048]⟩
abbrev S2048 : Shape := ⟨1, ![2048]⟩
abbrev S4x2048x18432 : Shape := ⟨3, ![4, 2048, 18432]⟩
abbrev S4x18432 : Shape := ⟨2, ![4, 18432]⟩
abbrev S1x2048 : Shape := ⟨2, ![1, 2048]⟩
abbrev S17x2048 : Shape := ⟨2, ![17, 2048]⟩
abbrev S_ : Shape := ⟨0, ![]⟩
abbrev S24x2048 : Shape := ⟨2, ![24, 2048]⟩
abbrev S4x1x18432 : Shape := ⟨3, ![4, 1, 18432]⟩
abbrev S4x24x18432 : Shape := ⟨3, ![4, 24, 18432]⟩
abbrev S1x2048x2048 : Shape := ⟨3, ![1, 2048, 2048]⟩
abbrev S1x1x2048 : Shape := ⟨3, ![1, 1, 2048]⟩
abbrev S1x24x2048 : Shape := ⟨3, ![1, 24, 2048]⟩
abbrev S2048x2048 : Shape := ⟨2, ![2048, 2048]⟩

abbrev nBuf : Space → Nat
  | .hbm => 11
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S4x2048x18432, .f32⟩
  | .hbm, ⟨3, _⟩ => ⟨S4x18432, .f32⟩
  | .hbm, ⟨4, _⟩ => ⟨S1x2048, .f32⟩
  | .hbm, ⟨5, _⟩ => ⟨S17x2048, .f32⟩
  | .hbm, ⟨6, _⟩ => ⟨S_, .i32⟩
  | .hbm, ⟨7, _⟩ => ⟨S_, .f32⟩
  | .hbm, ⟨8, _⟩ => ⟨S24x2048, .f32⟩
  | .hbm, ⟨9, _⟩ => ⟨S4x1x18432, .f32⟩
  | .hbm, ⟨10, _⟩ => ⟨S4x24x18432, .f32⟩
  | .local _ .vmem, ⟨0, _⟩ => ⟨S24x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x24x2048, .f32⟩
  | .local _ .vmem, ⟨6, _⟩ => ⟨S1x24x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16x2048 : Shape := ⟨2, ![16, 2048]⟩
abbrev S2048 : Shape := ⟨1, ![2048]⟩
abbrev S4x2048x18432 : Shape := ⟨3, ![4, 2048, 18432]⟩
abbrev S4x18432 : Shape := ⟨2, ![4, 18432]⟩
abbrev S_ : Shape := ⟨0, ![]⟩
abbrev S1x2048 : Shape := ⟨2, ![1, 2048]⟩
abbrev S7x2048 : Shape := ⟨2, ![7, 2048]⟩
abbrev S24x2048 : Shape := ⟨2, ![24, 2048]⟩
abbrev S1x2048x18432 : Shape := ⟨3, ![1, 2048, 18432]⟩
abbrev S2048x18432 : Shape := ⟨2, ![2048, 18432]⟩
abbrev S24x18432 : Shape := ⟨2, ![24, 18432]⟩
abbrev S1x18432 : Shape := ⟨2, ![1, 18432]⟩
abbrev S18432 : Shape := ⟨1, ![18432]⟩
abbrev S1x24x18432 : Shape := ⟨3, ![1, 24, 18432]⟩
abbrev S4x24x18432 : Shape := ⟨3, ![4, 24, 18432]⟩

abbrev nBuf : Space → Nat
  | .hbm => 63
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048, .f32⟩
  | .hbm, ⟨2, _⟩ => ⟨S4x2048x18432, .f32⟩
  | .hbm, ⟨3, _⟩ => ⟨S4x18432, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S_, .f32⟩
  | .hbm, ⟨24, _⟩ => ⟨S7x2048, .f32⟩
  | .hbm, ⟨25, _⟩ => ⟨S24x2048, .f32⟩
  | .hbm, ⟨26, _⟩ => ⟨S1x2048x18432, .f32⟩
  | .hbm, ⟨27, _⟩ => ⟨S2048x18432, .f32⟩
  | .hbm, ⟨28, _⟩ => ⟨S24x18432, .f32⟩
  | .hbm, ⟨29, _⟩ => ⟨S1x18432, .f32⟩
  | .hbm, ⟨30, _⟩ => ⟨S18432, .f32⟩
  | .hbm, ⟨31, _⟩ => ⟨S1x18432, .f32⟩
  | .hbm, ⟨32, _⟩ => ⟨S24x18432, .f32⟩
  | .hbm, ⟨33, _⟩ => ⟨S24x18432, .f32⟩
  | .hbm, ⟨34, _⟩ => ⟨S1x2048x18432, .f32⟩
  | .hbm, ⟨35, _⟩ => ⟨S2048x18432, .f32⟩
  | .hbm, ⟨36, _⟩ => ⟨S24x18432, .f32⟩
  | .hbm, ⟨37, _⟩ => ⟨S1x18432, .f32⟩
  | .hbm, ⟨38, _⟩ => ⟨S18432, .f32⟩
  | .hbm, ⟨39, _⟩ => ⟨S1x18432, .f32⟩
  | .hbm, ⟨40, _⟩ => ⟨S24x18432, .f32⟩
  | .hbm, ⟨41, _⟩ => ⟨S24x18432, .f32⟩
  | .hbm, ⟨42, _⟩ => ⟨S1x2048x18432, .f32⟩
  | .hbm, ⟨43, _⟩ => ⟨S2048x18432, .f32⟩
  | .hbm, ⟨44, _⟩ => ⟨S24x18432, .f32⟩
  | .hbm, ⟨45, _⟩ => ⟨S1x18432, .f32⟩
  | .hbm, ⟨46, _⟩ => ⟨S18432, .f32⟩
  | .hbm, ⟨47, _⟩ => ⟨S1x18432, .f32⟩
  | .hbm, ⟨48, _⟩ => ⟨S24x18432, .f32⟩
  | .hbm, ⟨49, _⟩ => ⟨S24x18432, .f32⟩
  | .hbm, ⟨50, _⟩ => ⟨S1x2048x18432, .f32⟩
  | .hbm, ⟨51, _⟩ => ⟨S2048x18432, .f32⟩
  | .hbm, ⟨52, _⟩ => ⟨S24x18432, .f32⟩
  | .hbm, ⟨53, _⟩ => ⟨S1x18432, .f32⟩
  | .hbm, ⟨54, _⟩ => ⟨S18432, .f32⟩
  | .hbm, ⟨55, _⟩ => ⟨S1x18432, .f32⟩
  | .hbm, ⟨56, _⟩ => ⟨S24x18432, .f32⟩
  | .hbm, ⟨57, _⟩ => ⟨S24x18432, .f32⟩
  | .hbm, ⟨58, _⟩ => ⟨S1x24x18432, .f32⟩
  | .hbm, ⟨59, _⟩ => ⟨S1x24x18432, .f32⟩
  | .hbm, ⟨60, _⟩ => ⟨S1x24x18432, .f32⟩
  | .hbm, ⟨61, _⟩ => ⟨S1x24x18432, .f32⟩
  | .hbm, ⟨62, _⟩ => ⟨S4x24x18432, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Proof.AttnSpec.lean ====
module

public import Idealize.ShloMosaic.Lib.Pipeline.ValueKit

@[expose] public section

noncomputable section

namespace Cert.AttnSpec

open Idealize.ShloMosaic

/-- The largest of a query's scores: those of the context, those of the latent rows, and the sink. -/
def top {n k : ℕ} (sc : Fin n → EReal) (t : Fin k → EReal) (z : EReal) : EReal :=
  max (max (Finset.univ.sup sc) (Finset.univ.sup t)) z

/-- One query's attention at one feature: the values `vc` of the context and `vl` of the latent rows, weighted by the
    exponentials of their scores `sc` and `t` (`⊥` where a row is not seen), over the sum of all exponentials, the
    sink `z`'s among them. -/
def out {n k : ℕ} (sc : Fin n → EReal) (t : Fin k → EReal) (z : EReal) (vc : Fin n → EReal) (vl : Fin k → EReal) : EReal :=
  Ideal.div ((∑ i, Ideal.exp (sc i - top sc t z) * vc i) + ∑ l, Ideal.exp (t l - top sc t z) * vl l)
    ((∑ i, Ideal.exp (sc i - top sc t z)) + (∑ l, Ideal.exp (t l - top sc t z)) + Ideal.exp (z - top sc t z))

/-- Equal scores, sinks and values give equal results. -/
theorem out_congr {n k : ℕ} {sc sc' : Fin n → EReal} {t t' : Fin k → EReal} {z z' : EReal} {vc vc' : Fin n → EReal} {vl vl' : Fin k → EReal}
    (h1 : sc = sc') (h2 : t = t') (h3 : z = z') (h4 : vc = vc') (h5 : vl = vl') : out sc t z vc vl = out sc' t' z' vc' vl' := by
  subst h1 h2 h3 h4 h5; rfl

/-- A row that is not seen has weight zero. -/
theorem exp_bot_sub (x : EReal) : Ideal.exp (⊥ - x) = 0 := by
  rw [sub_eq_add_neg, EReal.bot_add, Ideal.exp_bot]

/-- A sum over all rows is the sum over a window of them, where the terms outside are zero. -/
theorem sum_window {w k : ℕ} (e : Fin w → Fin k) (he : Function.Injective e) (f : Fin k → EReal)
    (hf : ∀ l, (∀ i, e i ≠ l) → f l = 0) : ∑ l, f l = ∑ i, f (e i) := by
  refine (Finset.sum_of_injOn e he.injOn (fun _ _ => Finset.mem_univ _) (fun l _ hl => hf l fun i hi => hl ?_) fun _ _ => rfl).symm
  exact ⟨i, Finset.mem_coe.mpr (Finset.mem_univ i), hi⟩

/-- Only the rows of a window that holds every row seen need be looked at. -/
theorem out_window {n w k : ℕ} (e : Fin w → Fin k) (he : Function.Injective e) (sc : Fin n → EReal) (t : Fin k → EReal) (z : EReal)
    (vc : Fin n → EReal) (vl : Fin k → EReal) (ht : ∀ l, (∀ i, e i ≠ l) → t l = ⊥) :
    out sc t z vc vl = out sc (fun i => t (e i)) z vc (fun i => vl (e i)) := by
  have hs : Finset.univ.sup t = Finset.univ.sup fun i => t (e i) := by
    refine le_antisymm (Finset.sup_le fun l _ => ?_) (Finset.sup_le fun i _ => Finset.le_sup (f := t) (Finset.mem_univ (e i)))
    by_cases h : ∃ i, e i = l
    · obtain ⟨i, rfl⟩ := h
      exact Finset.le_sup (f := fun i => t (e i)) (Finset.mem_univ i)
    · rw [ht l fun i hi => h ⟨i, hi⟩]
      exact bot_le
  have hm : top sc t z = top sc (fun i => t (e i)) z := by unfold top; rw [hs]
  unfold out
  rw [hm, sum_window e he (fun l => Ideal.exp (t l - _) * vl l) fun l hl => by rw [ht l hl, exp_bot_sub, zero_mul],
    sum_window e he (fun l => Ideal.exp (t l - _)) fun l hl => by rw [ht l hl, exp_bot_sub]]

/-- A nonnegative real factor goes into a sum of extended reals. -/
theorem sum_mul_coe {ι : Type*} [Fintype ι] (f : ι → EReal) (c : ℝ) (hc : 0 ≤ c) : (∑ i, f i) * (c : EReal) = ∑ i, f i * (c : EReal) := by
  classical
  induction (Finset.univ : Finset ι) using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The exponential of a score below `⊤`, less a real, is a nonnegative real. -/
theorem exp_sub_real (x : EReal) (hx : x ≠ ⊤) (r : ℝ) : ∃ p : ℝ, 0 ≤ p ∧ Ideal.exp (x - (r : EReal)) = (p : EReal) := by
  induction x with
  | bot => exact ⟨0, le_rfl, exp_bot_sub _⟩
  | coe a => exact ⟨Real.exp (a - r), (Real.exp_pos _).le, by rw [← EReal.coe_sub, Ideal.exp_coe]⟩
  | top => exact absurd rfl hx

/-- A sum of nonnegative reals is a nonnegative real. -/
theorem sum_real {ι : Type*} [Fintype ι] (f : ι → EReal) (hf : ∀ i, ∃ p : ℝ, 0 ≤ p ∧ f i = (p : EReal)) :
    ∃ p : ℝ, 0 ≤ p ∧ ∑ i, f i = (p : EReal) := by
  classical
  induction (Finset.univ : Finset ι) using Finset.induction_on with
  | empty => exact ⟨0, le_rfl, by simp⟩
  | insert a s ha ih =>
    obtain ⟨p, hp, ep⟩ := ih
    obtain ⟨q, hq, eq⟩ := hf a
    exact ⟨q + p, add_nonneg hq hp, by rw [Finset.sum_insert ha, ep, eq, EReal.coe_add]⟩

/-- The largest score is a real, where no score is `⊤` and the sink is not `⊥`. -/
theorem top_real {n k : ℕ} (sc : Fin n → EReal) (t : Fin k → EReal) (z : EReal) (h1 : ∀ i, sc i ≠ ⊤) (h2 : ∀ l, t l ≠ ⊤)
    (h3 : z ≠ ⊤) (h4 : z ≠ ⊥) : ∃ r : ℝ, top sc t z = (r : EReal) := by
  have a : top sc t z ≠ ⊤ := by
    refine ne_of_lt (max_lt (max_lt ?_ ?_) (Ne.lt_top h3))
    · exact (Finset.sup_lt_iff (by exact bot_lt_top)).mpr fun i _ => Ne.lt_top (h1 i)
    · exact (Finset.sup_lt_iff (by exact bot_lt_top)).mpr fun l _ => Ne.lt_top (h2 l)
  have b : top sc t z ≠ ⊥ := fun h => h4 (le_bot_iff.mp (h ▸ le_max_right _ z))
  exact ⟨(top sc t z).toReal, (EReal.coe_toReal a b).symm⟩

/-- The softmax over all of a query's scores in one row, the context's first, then the latent rows', the sink last, applied
    to the values after it is divided: the same attention, where no score is `⊤` and the sink is real. -/
theorem softmax_eq_out {n k N : ℕ} (hN : N = n + k) (S : Fin (N + 1) → EReal) (V : Fin N → EReal) (sc : Fin n → EReal) (t : Fin k → EReal) (z : EReal)
    (vc : Fin n → EReal) (vl : Fin k → EReal)
    (s1 : ∀ i : Fin n, S ⟨i.val, by omega⟩ = sc i) (s2 : ∀ l : Fin k, S ⟨n + l.val, by omega⟩ = t l) (s3 : S (Fin.last N) = z)
    (v1 : ∀ i : Fin n, V ⟨i.val, by omega⟩ = vc i) (v2 : ∀ l : Fin k, V ⟨n + l.val, by omega⟩ = vl l)
    (h1 : ∀ i, sc i ≠ ⊤) (h2 : ∀ l, t l ≠ ⊤) (h3 : z ≠ ⊤) (h4 : z ≠ ⊥) :
    (∑ x : Fin N, V x * Ideal.div (Ideal.exp (S x.castSucc - Finset.univ.sup S)) (∑ y, Ideal.exp (S y - Finset.univ.sup S)))
      = out sc t z vc vl := by
  subst hN
  have split : ∀ f : Fin (n + k) → EReal, ∑ x, f x = (∑ i : Fin n, f ⟨i.val, by omega⟩) + ∑ l : Fin k, f ⟨n + l.val, by omega⟩ :=
    fun f => Fin.sum_univ_add f
  have hm : Finset.univ.sup S = top sc t z := by
    refine le_antisymm (Finset.sup_le fun y _ => ?_) (max_le (max_le (Finset.sup_le fun i _ => ?_) (Finset.sup_le fun l _ => ?_)) ?_)
    · rcases lt_trichotomy y.val (n + k) with h | h | h
      · by_cases hy : y.val < n
        · exact (le_of_eq (s1 ⟨y.val, hy⟩)).trans ((Finset.le_sup (f := sc) (Finset.mem_univ _)).trans ((le_max_left _ _).trans (le_max_left _ _)))
        · have e : y = ⟨n + (⟨y.val - n, by omega⟩ : Fin k).val, by omega⟩ := Fin.ext (by dsimp only; omega)
          rw [e, s2]
          exact (Finset.le_sup (f := t) (Finset.mem_univ _)).trans ((le_max_right _ _).trans (le_max_left _ _))
      · have e : y = Fin.last (n + k) := Fin.ext h
        rw [e, s3]
        exact le_max_right _ _
      · omega
    · rw [← s1]; exact Finset.le_sup (f := S) (Finset.mem_univ _)
    · rw [← s2]; exact Finset.le_sup (f := S) (Finset.mem_univ _)
    · rw [← s3]; exact Finset.le_sup (f := S) (Finset.mem_univ _)
  obtain ⟨r, hr⟩ := top_real sc t z h1 h2 h3 h4
  have hL : (∑ y, Ideal.exp (S y - Finset.univ.sup S))
      = (∑ i, Ideal.exp (sc i - top sc t z)) + (∑ l, Ideal.exp (t l - top sc t z)) + Ideal.exp (z - top sc t z) := by
    rw [hm, Fin.sum_univ_castSucc, s3, split]
    refine congrArg₂ (· + ·) (congrArg₂ (· + ·) (Finset.sum_congr rfl fun i _ => ?_) (Finset.sum_congr rfl fun l _ => ?_)) rfl
    · rw [← s1]; rfl
    · rw [← s2]; rfl
  obtain ⟨p, hp, ep⟩ := sum_real (fun i => Ideal.exp (sc i - top sc t z)) fun i => hr ▸ exp_sub_real (sc i) (h1 i) r
  obtain ⟨q, hq, eq⟩ := sum_real (fun l => Ideal.exp (t l - top sc t z)) fun l => hr ▸ exp_sub_real (t l) (h2 l) r
  have hz : ∃ a : ℝ, 0 < a ∧ Ideal.exp (z - top sc t z) = (a : EReal) := by
    rw [hr, ← EReal.coe_toReal h3 h4, ← EReal.coe_sub, Ideal.exp_coe]
    exact ⟨_, Real.exp_pos _, rfl⟩
  obtain ⟨a, ha, ea⟩ := hz
  have hL' : (∑ i, Ideal.exp (sc i - top sc t z)) + (∑ l, Ideal.exp (t l - top sc t z)) + Ideal.exp (z - top sc t z)
      = ((p + q + a : ℝ) : EReal) := by rw [ep, eq, ea, EReal.coe_add, EReal.coe_add]
  have h0 : p + q + a ≠ 0 := by positivity
  have hd : 0 ≤ 1 / (p + q + a) := by positivity
  unfold out
  rw [hL, hL', hm]
  simp only [Ideal.div_coe h0]
  rw [EReal.right_distrib_of_nonneg_of_ne_top (EReal.coe_nonneg.mpr hd) (EReal.coe_ne_top _), sum_mul_coe _ _ hd, sum_mul_coe _ _ hd, split]
  refine congrArg₂ (· + ·) (Finset.sum_congr rfl fun i _ => ?_) (Finset.sum_congr rfl fun l _ => ?_)
  · rw [v1, ← s1, ← mul_assoc]
    exact congrArg (· * _) (mul_comm _ _)
  · rw [v2, ← s2, ← mul_assoc]
    exact congrArg (· * _) (mul_comm _ _)

/-- Whether latent row `l` is within 128 of latent row `i`, as the comparison's bit. -/
def near (l i : ℕ) : BitVec 1 :=
  IntOp.cmpi .sle (IntOp.absi (IntOp.subi (BitVec.ofNat 32 l) (BitVec.ofNat 32 i))) 128#32

/-- Rows that are near each other are at most 128 apart. -/
theorem near_of (l i : ℕ) (hl : l < 2048) (hi : i < 2048) (h : near l i = 1#1) : l ≤ i + 128 ∧ i ≤ l + 128 := by
  have e : (BitVec.ofNat 32 l - BitVec.ofNat 32 i).toInt = (l : ℤ) - i := by
    have w : ∀ a : ℕ, a < 2048 → (BitVec.ofNat 32 a).toInt = a := fun a ha => by
      rw [BitVec.toInt_eq_toNat_of_lt (by rw [BitVec.toNat_ofNat]; omega), BitVec.toNat_ofNat]
      omega
    rw [BitVec.toInt_sub, w l hl, w i hi]
    simp only [Int.bmod]
    omega
  have n : (-(BitVec.ofNat 32 l - BitVec.ofNat 32 i)).toInt = (i : ℤ) - l := by
    rw [BitVec.toInt_neg, e]
    simp only [Int.bmod]
    omega
  unfold near IntOp.cmpi IntOp.absi IntOp.subi at h
  dsimp only at h
  rw [BitVec.msb_eq_toInt, e] at h
  have c : (128#32).toInt = 128 := by decide
  by_cases hs : (l : ℤ) - i < 0
  · rw [decide_eq_true hs, if_pos rfl, BitVec.sle, n, c] at h
    by_cases hb : (i : ℤ) - l ≤ 128
    · omega
    · rw [decide_eq_false hb] at h; exact absurd h (by decide)
  · rw [decide_eq_false hs, if_neg (by decide), BitVec.sle, e, c] at h
    by_cases hb : (l : ℤ) - i ≤ 128
    · omega
    · rw [decide_eq_false hb] at h; exact absurd h (by decide)

/-- The scores' scale is a nonnegative real. -/
theorem scale_real : ∃ r : ℝ, 0 ≤ r ∧ Ideal.ofBits .f32 0x3DB504F3#32 = (r : EReal) := by
  refine ⟨11863283 * (2 ^ 27)⁻¹, by positivity, ?_⟩
  simp [Ideal.ofBits, Ideal.ieee]

/-- The word of minus infinity. -/
theorem neg_inf : Ideal.ofBits .f32 0xFF800000#32 = (⊥ : EReal) := by
  simp [Ideal.ofBits, Ideal.ieee]

/-- The scaled score of a query and a key. -/
def score (q k : Fin 128 → EReal) : EReal := (∑ x, k x * q x) * Ideal.ofBits .f32 0x3DB504F3#32

/-- One entry of the windowed attention: the query `q` at latent row `i`, over all keys `kc` of the context and the keys
    `kl` of the latent rows near it, with the sink `z`, applied to the values. -/
def attend (q : Fin 128 → EReal) (kc : Fin 256 → Fin 128 → EReal) (kl : Fin 2048 → Fin 128 → EReal) (i : ℕ) (z : EReal)
    (vc : Fin 256 → EReal) (vl : Fin 2048 → EReal) : EReal :=
  out (fun n => score q (kc n)) (fun l => Scalar.select (near l.val i) (score q (kl l)) ⊥) z vc vl

/-- The product of two reals is a real. -/
theorem sum_mul_real {n : ℕ} (a b : Fin n → EReal) (ha : ∀ x, a x ≠ ⊤ ∧ a x ≠ ⊥) (hb : ∀ x, b x ≠ ⊤ ∧ b x ≠ ⊥) :
    ∑ x, a x * b x = ((∑ x, (a x).toReal * (b x).toReal : ℝ) : EReal) := by
  have e : ∀ x, a x * b x = (((a x).toReal * (b x).toReal : ℝ) : EReal) := fun x => by
    rw [EReal.coe_mul, EReal.coe_toReal (ha x).1 (ha x).2, EReal.coe_toReal (hb x).1 (hb x).2]
  simp only [e]
  exact (map_sum (⟨⟨Real.toEReal, EReal.coe_zero⟩, EReal.coe_add⟩ : ℝ →+ EReal) _ _).symm

/-- The score of a finite query and a finite key is not `⊤`. -/
theorem score_ne_top (q k : Fin 128 → EReal) (hq : ∀ x, q x ≠ ⊤ ∧ q x ≠ ⊥) (hk : ∀ x, k x ≠ ⊤ ∧ k x ≠ ⊥) : score q k ≠ ⊤ := by
  obtain ⟨r, _, e⟩ := scale_real
  unfold score
  rw [sum_mul_real k q hk hq, e, ← EReal.coe_mul]
  exact EReal.coe_ne_top _

/-- A masked score is not `⊤` where the score is not. -/
theorem select_ne_top (b : BitVec 1) (s : EReal) (h : s ≠ ⊤) : Scalar.select b s ⊥ ≠ ⊤ := by
  unfold Scalar.select
  split
  · exact h
  · exact bot_ne_top

/-- A factor that scales every entry of the query scales the score. -/
theorem scaled_query (q k : Fin 128 → EReal) : ∑ x, q x * Ideal.ofBits .f32 0x3DB504F3#32 * k x = score q k := by
  obtain ⟨r, hr, e⟩ := scale_real
  unfold score
  rw [e, sum_mul_coe _ r hr]
  exact Finset.sum_congr rfl fun x _ => by rw [mul_comm, mul_assoc]

end Cert.AttnSpec
-- ==== Proof.AttnHead.lean ====
module

public import proofs.«01_k».proof.Proof.Gen.KernelIdeal.Value
public import proofs.«01_k».proof.Proof.AttnSpec
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Attn

open Idealize.ShloMosaic Idealize.ShloMosaic.TcCoe Idealize.SL.Sem
open Cert.KernelIdeal Cert.KernelIdeal.Gen

/-- The number the kernel puts where a row is not seen. -/
abbrev mask : EReal := Named.named (F := Ideal) (φ := .f32) κ "mask" 0xF149F2CA#32

/-- It stands for minus infinity. -/
theorem mask_eq : mask = ⊥ := rfl

/-- The largest score of each query, the sink among them. -/
def most (p : IVec S256x512 1) (s : FVec Ideal S256x256 .f32) (l : FVec Ideal S256x512 .f32) (z : EReal) : FVec Ideal S256x1 .f32 :=
  k0_pay19 p (k0_pay7 s) l mask z

/-- One head's block of results, from the mask's bits, the queries, the context's keys and values, the window's keys
    and values and the sink. -/
def head (p : IVec S256x512 1) (q kc vc : Vec Ideal S256x128 .bf16) (kw vw : Vec Ideal S512x128 .bf16) (z : EReal) : FVec Ideal S256x128 .bf16 :=
  k0_pay24 (k0_pay3 q kc) (k0_pay15 p (k0_pay11 q kw) mask) z (most p (k0_pay3 q kc) (k0_pay11 q kw) z)
    (broadcastTo S256x256 (most p (k0_pay3 q kc) (k0_pay11 q kw) z) broadcasts_S256x1_S256x256) vc vw

/-- The largest entry of a row of the context's scores. -/
theorem max_ctx (s : FVec Ideal S256x256 .f32) (r : Fin 256) :
    multiReduction .maximumf [1] S256 s 0xFF800000#32 reduces_S256x256_S256 (.inl rfl) rfl (ix1 r) = Finset.univ.sup fun x : Fin 256 => s (ix2 r x) := by
  refine (Ideal.multiReduction_maximumf_single s _ _ _ _ (ix1 r)).trans ?_
  refine (congrArg (fun b => (Finset.univ : Finset (Fin 256)).fold max b _) AttnSpec.neg_inf).trans ?_
  refine congrArg (fun f => (Finset.univ : Finset (Fin 256)).sup f) ?_
  funext x
  refine congrArg s ?_
  funext a
  fin_cases a <;> rfl

/-- The largest entry of a row of the window's scores. -/
theorem max_win (s : FVec Ideal S256x512 .f32) (r : Fin 256) :
    multiReduction .maximumf [1] S256 s 0xFF800000#32 reduces_S256x512_S256 (.inl rfl) rfl (ix1 r) = Finset.univ.sup fun x : Fin 512 => s (ix2 r x) := by
  refine (Ideal.multiReduction_maximumf_single s _ _ _ _ (ix1 r)).trans ?_
  refine (congrArg (fun b => (Finset.univ : Finset (Fin 512)).fold max b _) AttnSpec.neg_inf).trans ?_
  refine congrArg (fun f => (Finset.univ : Finset (Fin 512)).sup f) ?_
  funext x
  refine congrArg s ?_
  funext a
  fin_cases a <;> rfl

/-- The larger of two columns and a number, read at a row. -/
theorem most_step (u w : FVec Ideal S256 .f32) (z : EReal) (r : Fin 256) :
    maximumf (maximumf (shapeCast S256x1 u shapeCasts_S256_S256x1) (shapeCast S256x1 w shapeCasts_S256_S256x1)) (broadcast (α := Ideal .f32) S256x1 z) (ix2 r 0)
      = max (max (u (ix1 r)) (w (ix1 r))) z := by
  pointwise []

/-- The largest score of a query is the specification's. -/
theorem most_at (p : IVec S256x512 1) (s : FVec Ideal S256x256 .f32) (l : FVec Ideal S256x512 .f32) (z : EReal) (r : Fin 256) :
    most p s l z (ix2 r 0) = AttnSpec.top (fun n => s (ix2 r n)) (fun w => k0_pay15 p l mask (ix2 r w)) z := by
  refine (most_step (multiReduction .maximumf [1] S256 s 0xFF800000#32 reduces_S256x256_S256 (.inl rfl) rfl)
    (multiReduction .maximumf [1] S256 (k0_pay15 p l mask) 0xFF800000#32 reduces_S256x512_S256 (.inl rfl) rfl) z r).trans ?_
  rw [max_ctx, max_win, AttnSpec.top]

/-- The weighted values over the sum of the exponentials, whatever number each row is taken less. -/
theorem pay24_at (s : FVec Ideal S256x256 .f32) (t : FVec Ideal S256x512 .f32) (z : EReal) (mx : FVec Ideal S256x1 .f32)
    (vc : Vec Ideal S256x128 .bf16) (vw : Vec Ideal S512x128 .bf16) (r : Fin 256) (d : Fin 128) :
    k0_pay24 s t z mx (broadcastTo S256x256 mx broadcasts_S256x1_S256x256) vc vw (ix2 r d)
      = Ideal.div ((∑ n : Fin 256, Ideal.exp (s (ix2 r n) - mx (ix2 r 0)) * vc (ix2 n d))
          + ∑ w : Fin 512, Ideal.exp (t (ix2 r w) - mx (ix2 r 0)) * vw (ix2 w d))
        ((∑ n : Fin 256, Ideal.exp (s (ix2 r n) - mx (ix2 r 0))) + (∑ w : Fin 512, Ideal.exp (t (ix2 r w) - mx (ix2 r 0)))
          + Ideal.exp (z - mx (ix2 r 0))) := by
  pointwise [k0_pay24]

/-- A score of the context. -/
theorem pay3_at (q kc : Vec Ideal S256x128 .bf16) (j : S256x256.Idx) :
    k0_pay3 q kc j = ∑ x : Fin 128, q (ix2 (j 0) x) * kc (ix2 (j 1) x) := by
  pointwise [k0_pay3]

/-- A score of the window, or minus infinity where the mask's bit is not set. -/
theorem pay15_at (p : IVec S256x512 1) (q : Vec Ideal S256x128 .bf16) (kw : Vec Ideal S512x128 .bf16) (j : S256x512.Idx) :
    k0_pay15 p (k0_pay11 q kw) mask j = Scalar.select (p j) (∑ x : Fin 128, q (ix2 (j 0) x) * kw (ix2 (j 1) x)) mask := by
  pointwise [k0_pay15, k0_pay11]

/-- One head's result at a row and a feature is the specification's over the context and the window. -/
theorem head_at (p : IVec S256x512 1) (q kc vc : Vec Ideal S256x128 .bf16) (kw vw : Vec Ideal S512x128 .bf16) (z : EReal) (r : Fin 256) (d : Fin 128) :
    head p q kc vc kw vw z (ix2 r d) = AttnSpec.out (fun n : Fin 256 => ∑ x : Fin 128, q (ix2 r x) * kc (ix2 n x))
      (fun w : Fin 512 => Scalar.select (p (ix2 r w)) (∑ x : Fin 128, q (ix2 r x) * kw (ix2 w x)) ⊥) z
      (fun n => vc (ix2 n d)) (fun w => vw (ix2 w d)) := by
  have e1 : ∀ n : Fin 256, k0_pay3 q kc (ix2 r n) = ∑ x : Fin 128, q (ix2 r x) * kc (ix2 n x) := fun n => pay3_at q kc _
  have e2 : ∀ w : Fin 512, k0_pay15 p (k0_pay11 q kw) mask (ix2 r w) = Scalar.select (p (ix2 r w)) (∑ x : Fin 128, q (ix2 r x) * kw (ix2 w x)) ⊥ :=
    fun w => pay15_at p q kw _
  unfold head AttnSpec.out
  rw [pay24_at, most_at]
  simp only [e1, e2]

/-- The second head's payloads are the first's. -/
theorem head1_eq (p : IVec S256x512 1) (q kc vc : Vec Ideal S256x128 .bf16) (kw vw : Vec Ideal S512x128 .bf16) (z : EReal) :
    k0_pay30 z (k0_pay20 p (k0_pay8 (k0_pay4 q kc)) (k0_pay12 q kw) z)
      (k0_pay26 (k0_pay4 q kc) (k0_pay20 p (k0_pay8 (k0_pay4 q kc)) (k0_pay12 q kw) z) vc)
      (k0_pay28 (k0_pay4 q kc) (k0_pay16 p (k0_pay12 q kw)) (k0_pay20 p (k0_pay8 (k0_pay4 q kc)) (k0_pay12 q kw) z))
      (k0_pay29 (k0_pay16 p (k0_pay12 q kw)) (k0_pay20 p (k0_pay8 (k0_pay4 q kc)) (k0_pay12 q kw) z)) vw = head p q kc vc kw vw z := rfl

/-- The third head's payloads are the first's. -/
theorem head2_eq (p : IVec S256x512 1) (q kc vc : Vec Ideal S256x128 .bf16) (kw vw : Vec Ideal S512x128 .bf16) (z : EReal) :
    k0_pay31 (k0_pay5 q kc) (k0_pay17 p (k0_pay13 q kw)) z (k0_pay21 p (k0_pay9 (k0_pay5 q kc)) (k0_pay13 q kw) z) vc vw = head p q kc vc kw vw z := rfl

/-- The fourth head's payloads are the first's. -/
theorem head3_eq (p : IVec S256x512 1) (q kc vc : Vec Ideal S256x128 .bf16) (kw vw : Vec Ideal S512x128 .bf16) (z : EReal) :
    k0_pay1 (k0_pay18 p (k0_pay14 q kw)) z (k0_pay22 p (k0_pay10 q kc) (k0_pay14 q kw) z)
      (k0_pay32 (k0_pay6 q kc) (k0_pay22 p (k0_pay10 q kc) (k0_pay14 q kw) z)) vc vw = head p q kc vc kw vw z := rfl

end Cert.KernelIdeal.Attn
-- ==== Proof.AttnRd.lean ====
module

public import proofs.«01_k».proof.Proof.AttnHead

@[expose] public section

set_option maxRecDepth 16384

noncomputable section

namespace Cert.KernelIdeal.Attn

open Idealize.ShloMosaic Idealize.ShloMosaic.TcCoe Idealize.SL.Sem
open Cert.KernelIdeal Cert.KernelIdeal.Gen
variable (m : (ℓ : Loc nD τ sig) → Buf (Elt Ideal) ℓ)

/-- The first latent row of the window that point `t` reads. -/
def start (t : ℕ) : ℕ := min 1536 (t % 8 * 256 - 128)

/-- Which block each window is on at a grid point. -/
theorem idx : ∀ t : Fin cfg0.N, win0_0.index t = ![0] ∧ win0_1.index t = ![t.val / 16 * 8 + t.val % 8, 2 + t.val / 8 % 2] ∧
    win0_2.index t = ![t.val / 16, 20 + t.val / 8 % 2] ∧ win0_3.index t = ![t.val / 16, 22 + t.val / 8 % 2] ∧
    win0_4.index t = ![t.val / 16, 20 + t.val / 8 % 2] ∧ win0_5.index t = ![t.val / 16, 22 + t.val / 8 % 2] ∧
    win0_6.index t = ![t.val / 16 * 8 + t.val % 8, t.val / 8 % 2] :=
  (by decide +kernel : ∀ t : Fin grid0.N, _)

/-- Where the body's loads start at a grid point: the window's first row, and the group's first sink. -/
theorem offs : ∀ t : Fin cfg0.N, k0_off1 (grid0.coords t) = ![start t.val, 0] ∧ ∀ n : Fin 4, k0_off2 (grid0.coords t) (BitVec.ofNat 32 n.val) = ![t.val / 8 % 2 * 4 + n.val] :=
  (by decide +kernel : ∀ t : Fin grid0.N, _)

/-- The window's first row and the block's first query, as the words the mask is computed from. -/
theorem words : ∀ t : Fin cfg0.N, Scalar.minsi 1536#32 (Scalar.maxsi 0#32 (Scalar.subi (Scalar.muli (BitVec.ofNat 32 ((grid0.coords t) 2).val) 256#32) 128#32)) = BitVec.ofNat 32 (start t.val) ∧
    Scalar.muli (BitVec.ofNat 32 ((grid0.coords t) 2).val) 256#32 = BitVec.ofNat 32 (t.val % 8 * 256) :=
  (by decide +kernel : ∀ t : Fin grid0.N, _)

/-- The mask's bit: whether the window's row is near the query. -/
theorem mask_at (t : Fin cfg0.N) (r : Fin 256) (w : Fin 512) :
    k0_pay2 (grid0.coords t) (ix2 r w) = AttnSpec.near (start t.val + w.val) (t.val % 8 * 256 + r.val) := by
  have e : k0_pay2 (grid0.coords t) (ix2 r w) = IntOp.cmpi .sle (IntOp.absi (IntOp.subi
      (IntOp.addi (Scalar.minsi 1536#32 (Scalar.maxsi 0#32 (Scalar.subi (Scalar.muli (BitVec.ofNat 32 ((grid0.coords t) 2).val) 256#32) 128#32))) (BitVec.ofNat 32 w.val))
      (IntOp.addi (Scalar.muli (BitVec.ofNat 32 ((grid0.coords t) 2).val) 256#32) (BitVec.ofNat 32 r.val)))) 128#32 := by
    pointwise [k0_pay2]
  rw [e, (words t).1, (words t).2, AttnSpec.near, BitVec.ofNat_add, BitVec.ofNat_add]
  rfl

/-- An entry of the latent rows' projections. -/
def lat (c : Dev nD) (b : Fin 16) (i : Fin 2048) (k : Fin 3072) : EReal := m ((c : Thread nD τ).loc main_arg0) (ix3 b i k)

/-- An entry of the context's projections. -/
def ctx (c : Dev nD) (b : Fin 16) (i : Fin 256) (k : Fin 3072) : EReal := m ((c : Thread nD τ).loc main_arg1) (ix3 b i k)

/-- The kernel's latent array: the latent rows' projections one below the other, the queries' columns times the scores' scale. -/
theorem lat_arr (c : Dev nD) : V m c main_v7 = fun j : S32768x3072.Idx =>
    lat m c ⟨(j 0).val / 2048, by have : (j 0).val < 32768 := (j 0).isLt; omega⟩ ⟨(j 0).val % 2048, by omega⟩ (j 1)
      * if (j 1).val < 2048 then Ideal.ofBits .f32 0x3DB504F3#32 else 1 := by
  unfold_abbrev_sides
  after_results
  funext j
  unfold lat
  pointwise []
  rfl

/-- The kernel's context array: likewise of the context's projections. -/
theorem ctx_arr (c : Dev nD) : V m c main_v15 = fun j : S4096x3072.Idx =>
    ctx m c ⟨(j 0).val / 256, by have : (j 0).val < 4096 := (j 0).isLt; omega⟩ ⟨(j 0).val % 256, by omega⟩ (j 1)
      * if (j 1).val < 2048 then Ideal.ofBits .f32 0x3DB504F3#32 else 1 := by
  unfold_abbrev_sides
  after_results
  funext j
  unfold ctx
  pointwise []
  rfl

/-- The queries' block: the query's entry times the scores' scale. -/
theorem rd_q (c : Dev nD) (t : Fin cfg0.N) (r : Fin 256) (x : Fin 512) (b : Fin 16) (i : Fin 2048) (k : Fin 3072)
    (hb : b.val = t.val / 16) (hi : i.val = t.val % 8 * 256 + r.val) (hk : k.val = 1024 + (t.val / 8 % 2 * 512 + x.val)) :
    iblk m c 1 t (ix2 r x) = lat m c b i k * Ideal.ofBits .f32 0x3DB504F3#32 := by
  have e : ∀ j : S32768x3072.Idx, (j 0).val = b.val * 2048 + i.val → (j 1).val = k.val → V m c main_v7 j = lat m c b i k * Ideal.ofBits .f32 0x3DB504F3#32 := fun j h0 h1 => by
    rw [lat_arr]
    dsimp only
    rw [if_pos (by omega)]
    congr 2 <;> exact Fin.ext (by dsimp only; omega)
  unfold iblk
  refine e _ ?_ ?_
  all_goals blk_simp [idx t]
  all_goals omega

/-- From column 2048 on the array is the projections themselves. -/
theorem lat_plain (c : Dev nD) (j : S32768x3072.Idx) (b : Fin 16) (i : Fin 2048) (k : Fin 3072) (hk : 2048 ≤ k.val)
    (h0 : (j 0).val = b.val * 2048 + i.val) (h1 : (j 1).val = k.val) : V m c main_v7 j = lat m c b i k := by
  rw [lat_arr]
  dsimp only
  rw [if_neg (by omega), mul_one]
  congr 1 <;> exact Fin.ext (by dsimp only; omega)

/-- From column 2048 on the array is the projections themselves. -/
theorem ctx_plain (c : Dev nD) (j : S4096x3072.Idx) (b : Fin 16) (i : Fin 256) (k : Fin 3072) (hk : 2048 ≤ k.val)
    (h0 : (j 0).val = b.val * 256 + i.val) (h1 : (j 1).val = k.val) : V m c main_v15 j = ctx m c b i k := by
  rw [ctx_arr]
  dsimp only
  rw [if_neg (by omega), mul_one]
  congr 1 <;> exact Fin.ext (by dsimp only; omega)

/-- The context's keys. -/
theorem rd_kc (c : Dev nD) (t : Fin cfg0.N) (r : Fin 256) (x : Fin 128) (b : Fin 16) (k : Fin 3072)
    (hb : b.val = t.val / 16) (hk : k.val = 2560 + (t.val / 8 % 2 * 128 + x.val)) :
    iblk m c 2 t (ix2 r x) = ctx m c b r k := by
  unfold iblk
  refine ctx_plain m c _ b r k (by omega) ?_ ?_
  all_goals blk_simp [idx t]
  all_goals omega

/-- The context's values. -/
theorem rd_vc (c : Dev nD) (t : Fin cfg0.N) (r : Fin 256) (x : Fin 128) (b : Fin 16) (k : Fin 3072)
    (hb : b.val = t.val / 16) (hk : k.val = 2816 + (t.val / 8 % 2 * 128 + x.val)) :
    iblk m c 3 t (ix2 r x) = ctx m c b r k := by
  unfold iblk
  refine ctx_plain m c _ b r k (by omega) ?_ ?_
  all_goals blk_simp [idx t]
  all_goals omega

/-- The latent rows' keys. -/
theorem rd_kl (c : Dev nD) (t : Fin cfg0.N) (r : Fin 2048) (x : Fin 128) (b : Fin 16) (k : Fin 3072)
    (hb : b.val = t.val / 16) (hk : k.val = 2560 + (t.val / 8 % 2 * 128 + x.val)) :
    iblk m c 4 t (ix2 r x) = lat m c b r k := by
  unfold iblk
  refine lat_plain m c _ b r k (by omega) ?_ ?_
  all_goals blk_simp [idx t]
  all_goals omega

/-- The latent rows' values. -/
theorem rd_vl (c : Dev nD) (t : Fin cfg0.N) (r : Fin 2048) (x : Fin 128) (b : Fin 16) (k : Fin 3072)
    (hb : b.val = t.val / 16) (hk : k.val = 2816 + (t.val / 8 % 2 * 128 + x.val)) :
    iblk m c 5 t (ix2 r x) = lat m c b r k := by
  unfold iblk
  refine lat_plain m c _ b r k (by omega) ?_ ?_
  all_goals blk_simp [idx t]
  all_goals omega

/-- The sinks. -/
def sink (c : Dev nD) (x : Fin 8) : EReal := m ((c : Thread nD τ).loc main_arg2) (ix1 x)

/-- The sinks' block is all of them. -/
theorem rd_z (c : Dev nD) (t : Fin cfg0.N) (x : Fin 8) : iblk m c 0 t (ix1 x) = sink m c x := by
  unfold sink
  blk_ext! [iblk, V, idx t]

end Cert.KernelIdeal.Attn
-- ==== Proof.AttnKernel.lean ====
module

public import proofs.«01_k».proof.Proof.AttnRd

@[expose] public section

set_option maxRecDepth 16384

noncomputable section

namespace Cert.KernelIdeal.Attn

open Idealize.ShloMosaic Idealize.ShloMosaic.TcCoe Idealize.SL.Sem
open Cert.KernelIdeal Cert.KernelIdeal.Gen
variable (m : (ℓ : Loc nD τ sig) → Buf (Elt Ideal) ℓ)

/-- The windowed attention over the kernel's arguments: image `b`, latent row `i`, group `g`, head `h` of the group, feature `d`. -/
def res (c : Dev nD) (b : Fin 16) (i : Fin 2048) (g : Fin 2) (h : Fin 4) (d : Fin 128) : EReal :=
  AttnSpec.attend (fun x => lat m c b i ⟨1024 + (g.val * 512 + h.val * 128 + x.val), by omega⟩)
    (fun n x => ctx m c b n ⟨2560 + (g.val * 128 + x.val), by omega⟩) (fun l x => lat m c b l ⟨2560 + (g.val * 128 + x.val), by omega⟩) i.val
    (sink m c ⟨g.val * 4 + h.val, by omega⟩) (fun n => ctx m c b n ⟨2816 + (g.val * 128 + d.val), by omega⟩)
    (fun l => lat m c b l ⟨2816 + (g.val * 128 + d.val), by omega⟩)

/-- The latent row that row `w` of point `t`'s window is. -/
def seen (t : ℕ) (w : Fin 512) : Fin 2048 := ⟨start t + w.val, by unfold start; omega⟩

/-- A latent row outside the window is not near any of the block's queries. -/
theorem far (t : ℕ) (r : Fin 256) (s : EReal) (l : Fin 2048) (hl : ∀ w, seen t w ≠ l) :
    Scalar.select (AttnSpec.near l.val (t % 8 * 256 + r.val)) s ⊥ = ⊥ := by
  unfold Scalar.select
  refine if_neg fun h => ?_
  have e := AttnSpec.near_of l.val (t % 8 * 256 + r.val) l.isLt (by omega) h
  have h1 : start t ≤ l.val ∧ l.val < start t + 512 := by unfold start; omega
  exact hl ⟨l.val - start t, by omega⟩ (Fin.ext (by simp only [seen]; omega))

/-- One head's block at a grid point: the windowed attention of the block's queries. -/
theorem head_out (c : Dev nD) (t : Fin cfg0.N) (q : Vec Ideal S256x128 .bf16) (kw vw : Vec Ideal S512x128 .bf16) (z : EReal)
    (b : Fin 16) (i : Fin 2048) (g : Fin 2) (h : Fin 4) (r : Fin 256) (d : Fin 128)
    (hb : b.val = t.val / 16) (hi : i.val = t.val % 8 * 256 + r.val) (hg : g.val = t.val / 8 % 2)
    (hq : ∀ x : Fin 128, q (ix2 r x) = iblk m c 1 t (ix2 r (⟨h.val * 128 + x.val, by omega⟩ : Fin 512)))
    (hz : z = iblk m c 0 t (ix1 (⟨t.val / 8 % 2 * 4 + h.val, by omega⟩ : Fin 8)))
    (hk : ∀ w x, kw (ix2 w x) = iblk m c 4 t (ix2 (seen t.val w) x))
    (hv : ∀ w x, vw (ix2 w x) = iblk m c 5 t (ix2 (seen t.val w) x)) :
    head (k0_pay2 (grid0.coords t)) q (iblk m c 2 t) (iblk m c 3 t) kw vw z (ix2 r d) = res m c b i g h d := by
  have eq : ∀ x : Fin 128, q (ix2 r x) = lat m c b i ⟨1024 + (g.val * 512 + h.val * 128 + x.val), by omega⟩ * Ideal.ofBits .f32 0x3DB504F3#32 :=
    fun x => (hq x).trans (rd_q m c t r _ b i _ hb hi (by dsimp only; omega))
  have ez : z = sink m c ⟨g.val * 4 + h.val, by omega⟩ := hz.trans ((rd_z m c t _).trans (congrArg (sink m c) (Fin.ext (by dsimp only; omega))))
  have ekc : ∀ (n : Fin 256) (x : Fin 128), iblk m c 2 t (ix2 n x) = ctx m c b n ⟨2560 + (g.val * 128 + x.val), by omega⟩ :=
    fun n x => rd_kc m c t n x b _ hb (by dsimp only; omega)
  have evc : ∀ n : Fin 256, iblk m c 3 t (ix2 n d) = ctx m c b n ⟨2816 + (g.val * 128 + d.val), by omega⟩ :=
    fun n => rd_vc m c t n d b _ hb (by dsimp only; omega)
  have ekl : ∀ (w : Fin 512) (x : Fin 128), kw (ix2 w x) = lat m c b (seen t.val w) ⟨2560 + (g.val * 128 + x.val), by omega⟩ :=
    fun w x => (hk w x).trans (rd_kl m c t _ x b _ hb (by dsimp only; omega))
  have evl : ∀ w : Fin 512, vw (ix2 w d) = lat m c b (seen t.val w) ⟨2816 + (g.val * 128 + d.val), by omega⟩ :=
    fun w => (hv w d).trans (rd_vl m c t _ d b _ hb (by dsimp only; omega))
  refine (head_at _ _ _ _ _ _ _ r d).trans (Eq.trans ?_ (AttnSpec.out_window (seen t.val)
    (fun a a' e => Fin.ext (by have := congrArg Fin.val e; simp only [seen] at this; omega)) _ _ _ _ _ fun l hl => by rw [hi]; exact far t.val r _ l hl).symm)
  refine AttnSpec.out_congr (funext fun n => ?_) (funext fun w => ?_) ez (funext evc) (funext evl)
  · exact (Finset.sum_congr rfl fun x _ => congrArg₂ (· * ·) (eq x) (ekc n x)).trans (AttnSpec.scaled_query _ _)
  · exact congrArg₂ (fun p s => Scalar.select p s ⊥) ((mask_at t r w).trans (congrArg (AttnSpec.near _) hi.symm))
      ((Finset.sum_congr rfl fun x _ => congrArg₂ (· * ·) (eq x) (ekl w x)).trans (AttnSpec.scaled_query _ _))

/-- A load of the queries' block from column `o` on. -/
theorem ld_q (X : Vec Ideal S256x512 .bf16) (o : ℕ) (inb : ∀ a, (![0, o] : Fin 2 → ℕ) a + S256x128.size a ≤ S256x512.size a) (r : Fin 256) (x : Fin 128) (h : Fin 4)
    (ho : o = h.val * 128) : View.ld (Val := Elt Ideal) X (Rect.unit (s := S256x512) ![0, o] S256x128.size inb) (ix2 r x) = X (ix2 r (⟨h.val * 128 + x.val, by omega⟩ : Fin 512)) := by
  refine View.ld_unit_apply_of X _ _ inb _ _ fun a => ?_
  fin_cases a
  · exact (Nat.zero_add _).symm
  · subst ho; rfl

/-- A load of the window's rows. -/
theorem ld_w (X : Vec Ideal S2048x128 .bf16) (t : Fin cfg0.N) (w : Fin 512) (x : Fin 128) :
    View.ld (Val := Elt Ideal) X (Rect.unit (s := S2048x128) (k0_off1 (grid0.coords t)) S512x128.size (k0_off1_inb (grid0.coords t))) (ix2 w x) = X (ix2 (seen t.val w) x) := by
  refine View.ld_unit_apply_of X _ _ _ _ _ fun a => ?_
  refine Eq.trans ?_ (congrArg (· + _) (congrFun (offs t).1 a).symm)
  fin_cases a
  · rfl
  · exact (Nat.zero_add _).symm

/-- A load of one sink. -/
theorem ld_z (X : Vec Ideal S8 .f32) (t : Fin cfg0.N) (h : Fin 4) (inb) (p) :
    View.ld (Val := Elt Ideal) X (Rect.unit (s := S8) (k0_off2 (grid0.coords t) (BitVec.ofNat 32 h.val)) S1.size inb) (Shape.Idx.first p)
      = X (ix1 (⟨t.val / 8 % 2 * 4 + h.val, by omega⟩ : Fin 8)) := by
  refine View.ld_unit_apply_of X _ _ inb _ _ fun a => ?_
  refine Eq.trans ?_ (congrArg (· + _) (congrFun ((offs t).2 h) a).symm)
  fin_cases a
  rfl

/-- What a grid point leaves in the output block. -/
theorem out_at (c : Dev nD) (t : Fin cfg0.N) (y : S256x512.Idx) (b : Fin 16) (i : Fin 2048) (g : Fin 2) (h : Fin 4) (d : Fin 128)
    (hb : b.val = t.val / 16) (hi : i.val = t.val % 8 * 256 + (y 0).val) (hg : g.val = t.val / 8 % 2)
    (hh : h.val = (y 1).val / 128) (hd : d.val = (y 1).val % 128) : outsAt0 m c t y = res m c b i g h d := by
  unfold outsAt0
  frame_out
  canon_tiles x k
  case piece0 =>
    obtain rfl : h = 3 := Fin.ext (by rw [hh]; show _ = 3; omega)
    have e : x = ix2 (x 0) d := by rw [show d = x 1 from Fin.ext (by rw [hd]; omega)]; exact (ix2_eta x).symm
    rw [e]
    exact head_out m c t _ _ _ _ b i g 3 (x 0) d hb (by omega) hg (fun _ => ld_q _ 384 _ _ _ 3 rfl) (ld_z _ t 3 _ _) (fun _ _ => ld_w _ t _ _) fun _ _ => ld_w _ t _ _
  case piece1 =>
    obtain rfl : h = 2 := Fin.ext (by rw [hh]; show _ = 2; omega)
    have e : x = ix2 (x 0) d := by rw [show d = x 1 from Fin.ext (by rw [hd]; omega)]; exact (ix2_eta x).symm
    rw [e]
    exact head_out m c t _ _ _ _ b i g 2 (x 0) d hb (by omega) hg (fun _ => ld_q _ 256 _ _ _ 2 rfl) (ld_z _ t 2 _ _) (fun _ _ => ld_w _ t _ _) fun _ _ => ld_w _ t _ _
  case piece2 =>
    obtain rfl : h = 1 := Fin.ext (by rw [hh]; show _ = 1; omega)
    have e : x = ix2 (x 0) d := by rw [show d = x 1 from Fin.ext (by rw [hd]; omega)]; exact (ix2_eta x).symm
    rw [e]
    exact head_out m c t _ _ _ _ b i g 1 (x 0) d hb (by omega) hg (fun _ => ld_q _ 128 _ _ _ 1 rfl) (ld_z _ t 1 _ _) (fun _ _ => ld_w _ t _ _) fun _ _ => ld_w _ t _ _
  case piece3 =>
    obtain rfl : h = 0 := Fin.ext (by rw [hh]; show _ = 0; omega)
    have e : x = ix2 (x 0) d := by rw [show d = x 1 from Fin.ext (by rw [hd]; omega)]; exact (ix2_eta x).symm
    rw [e]
    exact head_out m c t _ _ _ _ b i g 0 (x 0) d hb (by omega) hg (fun _ => ld_q _ 0 _ _ _ 0 rfl) (ld_z _ t 0 _ _) (fun _ _ => ld_w _ t _ _) fun _ _ => ld_w _ t _ _

/-- The kernel's result array: entry `(2048 b + i, 512 g + 128 h + d)` is the windowed attention of image `b` at latent row `i`
    in head `h` of group `g` and feature `d`. -/
theorem final_at (c : Dev nD) : (dats m 0 c).arrAt 6 (cfgs 0).N = fun j : S32768x1024.Idx =>
    res m c ⟨(j 0).val / 2048, by have : (j 0).val < 32768 := (j 0).isLt; omega⟩ ⟨(j 0).val % 2048, by omega⟩
      ⟨(j 1).val / 512, by have : (j 1).val < 1024 := (j 1).isLt; omega⟩ ⟨(j 1).val / 128 % 4, by omega⟩ ⟨(j 1).val % 128, by omega⟩ := by
  refine (dats m 0 c).arrAt_eq_of_covers 6 _ (by decide +kernel) fun t hf y => ?_
  blk_simp
  rw [after0_6]
  have hN : t.val < 256 := lt_of_lt_of_eq t.isLt N_0
  have hy : (y 0).val < 256 := (y 0).isLt
  have hz : (y 1).val < 512 := (y 1).isLt
  have e6 : win0_6.index t 0 = t.val / 16 * 8 + t.val % 8 := by rw [(idx t).2.2.2.2.2.2]; rfl
  have e7 : win0_6.index t 1 = t.val / 8 % 2 := by rw [(idx t).2.2.2.2.2.2]; rfl
  refine out_at m c t y _ _ _ _ _ ?_ ?_ ?_ ?_ ?_ <;> dsimp only <;> simp only [e6, e7] <;> omega

end Cert.KernelIdeal.Attn
-- ==== Proof.AttnRef.lean ====
module

public import proofs.«01_k».proof.Proof.Gen.ReferenceIdeal.Run
public import proofs.«01_k».proof.Proof.AttnSpec
public import Idealize.ShloMosaic.Lib.Tactic.CleanTypes

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen
variable (m : (ℓ : Loc nD τ sig) → Buf (Elt Ideal) ℓ)

/-- Columns `o … o + 255` of the context's rows and then of the latent rows, as two heads of 128 columns. -/
def joined (x : FVec Ideal S16x256x256 .f32) (y : FVec Ideal S16x2048x256 .f32) : FVec Ideal S16x2304x2x128 .f32 :=
  shapeCast _ (concatenate S16x2304x256 1 [⟨S16x256x256, x⟩, ⟨S16x2048x256, y⟩]
    concatenates_S16x256x256_S16x2048x256_S16x2304x256_d1) shapeCasts_S16x2304x256_S16x2304x2x128

/-- Which keys a query sees: every context row, and the latent rows within 128 of it. -/
def band : IVec S2048x2304 1 :=
  concatenate S2048x2304 1 [⟨S2048x256, broadcastInDim S2048x256 ![] bcast_S_S2048x256 (constantI S_ 1 1#1)⟩,
    ⟨S2048x2048, cmpi .sle (absi (subi (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0)))))
      (broadcastInDim S2048x2048 ![] bcast_S_S2048x2048 (constantI S_ 32 128#32))⟩] concatenates_S2048x256_S2048x2048_S2048x2304_d1

/-- The scaled and masked scores. -/
def scores (k : FVec Ideal S16x2304x2x128 .f32) (q : FVec Ideal S16x2048x1024 .f32) : FVec Ideal S16x2x4x2048x2304 .f32 :=
  select (broadcastInDim S16x2x4x2048x2304 ![3, 4] bcast_S2048x2304_S16x2x4x2048x2304_3_4 band)
    (mulf (transpose S16x2x4x2048x2304 [0, 1, 4, 3, 2] (Host.dotGeneral dot_S16x2304x2x128_S16x2048x2x4x128_S16x2x2304x2048x4_3_4_1_13_02_02 none k
        (shapeCast _ q shapeCasts_S16x2048x1024_S16x2048x2x4x128)) transposes_S16x2x2304x2048x4_S16x2x4x2048x2304_0_1_4_3_2)
      (broadcastInDim S16x2x4x2048x2304 ![] bcast_S_S16x2x4x2048x2304 (constant S_ .f32 0x3DB504F3#32)))
    (broadcastInDim S16x2x4x2048x2304 ![] bcast_S_S16x2x4x2048x2304 (id (constant S_ .f32 0xFF800000#32)))

/-- The scores with the head's sink as one more column. -/
def withSink (s : FVec Ideal S16x2x4x2048x2304 .f32) (z : FVec Ideal S8 .f32) : FVec Ideal S16x2x4x2048x2305 .f32 :=
  concatenate S16x2x4x2048x2305 4 [⟨S16x2x4x2048x2304, s⟩, ⟨S16x2x4x2048x1, broadcastInDim S16x2x4x2048x1 ![0, 1, 2, 3, 4] bcast_S1x2x4x1x1_S16x2x4x2048x1_0_1_2_3_4
    (broadcastInDim S1x2x4x1x1 ![1, 2] bcast_S2x4_S1x2x4x1x1_1_2 (shapeCast _ z shapeCasts_S8_S2x4))⟩] concatenates_S16x2x4x2048x2304_S16x2x4x2048x1_S16x2x4x2048x2305_d4

/-- The exponentials of the scores less a number given for each row. -/
def shifted (s : FVec Ideal S16x2x4x2048x2305 .f32) (r : FVec Ideal S16x2x4x2048 .f32) : FVec Ideal S16x2x4x2048x2305 .f32 :=
  Host.exp (subf s (broadcastInDim S16x2x4x2048x2305 ![0, 1, 2, 3, 4] bcast_S16x2x4x2048x1_S16x2x4x2048x2305_0_1_2_3_4 (broadcastInDim S16x2x4x2048x1 ![0, 1, 2, 3] bcast_S16x2x4x2048_S16x2x4x2048x1_0_1_2_3
    (maximumf (broadcastInDim S16x2x4x2048 ![] bcast_S_S16x2x4x2048 (constant S_ .f32 0xFF800000#32)) r))))

/-- The exponentials of the scores less their row's largest. -/
def expo (s : FVec Ideal S16x2x4x2048x2305 .f32) : FVec Ideal S16x2x4x2048x2305 .f32 :=
  shifted s (Host.reduce FloatOps.maximumf s (constant S_ .f32 0xFF800000#32) reducesTo_S16x2x4x2048x2305_S16x2x4x2048_d4 h_S_)

/-- The softmax of a row, without the sink's column, applied to the values. -/
def mix (e : FVec Ideal S16x2x4x2048x2305 .f32) (v : FVec Ideal S16x2304x2x128 .f32) : FVec Ideal S32768x1024 .bf16 :=
  truncf .bf16 (shapeCast _ (transpose S16x2048x2x4x128 [0, 4, 1, 3, 2] (Host.dotGeneral dot_S16x2304x2x128_S16x2x4x2048x2304_S16x2x128x4x2048_1_4_3_23_02_01 none v
    (extractStridedSlice S16x2x4x2048x2304 ![0, 0, 0, 0, 0] (Host.divf e (broadcastInDim S16x2x4x2048x2305 ![0, 1, 2, 3, 4] bcast_S16x2x4x2048x1_S16x2x4x2048x2305_0_1_2_3_4
      (broadcastInDim S16x2x4x2048x1 ![0, 1, 2, 3] bcast_S16x2x4x2048_S16x2x4x2048x1_0_1_2_3 (Host.reduceAdd e (constant S_ .f32 0x00000000#32) reducesTo_S16x2x4x2048x2305_S16x2x4x2048_d4 h_S_))))
      slices_S16x2x4x2048x2305_S16x2x4x2048x2304_0_0_0_0_0)) transposes_S16x2x128x4x2048_S16x2048x2x4x128_0_4_1_3_2) shapeCasts_S16x2048x2x4x128_S32768x1024) bitsLt_bf16_f32

/-- The reference's result is its steps in turn. -/
theorem res_eq (c : Dev nD) : Value.res_main_v46 m c =
    mix (expo (withSink (scores (joined (extractStridedSlice S16x256x256 ![0, 0, 2560] (m ((c.tc : Thread nD τ).loc main_arg1)) slices_S16x256x3072_S16x256x256_0_0_2560)
        (extractStridedSlice S16x2048x256 ![0, 0, 2560] (m ((c.tc : Thread nD τ).loc main_arg0)) slices_S16x2048x3072_S16x2048x256_0_0_2560))
        (extractStridedSlice S16x2048x1024 ![0, 0, 1024] (m ((c.tc : Thread nD τ).loc main_arg0)) slices_S16x2048x3072_S16x2048x1024_0_0_1024)) (m ((c.tc : Thread nD τ).loc main_arg2))))
      (joined (extractStridedSlice S16x256x256 ![0, 0, 2816] (m ((c.tc : Thread nD τ).loc main_arg1)) slices_S16x256x3072_S16x256x256_0_0_2816)
        (extractStridedSlice S16x2048x256 ![0, 0, 2816] (m ((c.tc : Thread nD τ).loc main_arg0)) slices_S16x2048x3072_S16x2048x256_0_0_2816)) := rfl

/-- The joined rows at an index: a row of the context below 256, a latent row from there on. -/
theorem joined_at (x : FVec Ideal S16x256x256 .f32) (y : FVec Ideal S16x2048x256 .f32) (j : S16x2304x2x128.Idx) :
    joined x y j = if h : (j 1).val < 256 then x (ix3 (j 0) ⟨(j 1).val, h⟩ ⟨(j 2).val * 128 + (j 3).val, by have := (j 2).isLt; have := (j 3).isLt; dsimp at *; omega⟩)
      else y (ix3 (j 0) ⟨(j 1).val - 256, by have := (j 1).isLt; dsimp at *; omega⟩ ⟨(j 2).val * 128 + (j 3).val, by have := (j 2).isLt; have := (j 3).isLt; dsimp at *; omega⟩) := by
  pointwise [joined]

/-- The band's bit: set on the context's columns, the comparison of the two positions on the others. -/
theorem band_at (j : S2048x2304.Idx) :
    band j = if (j 1).val < 256 then 1#1 else AttnSpec.near ((j 1).val - 256) (j 0).val := by
  pointwise [band, AttnSpec.near]
  rfl

/-- A masked score. -/
theorem scores_at (k : FVec Ideal S16x2304x2x128 .f32) (q : FVec Ideal S16x2048x1024 .f32) (j : S16x2x4x2048x2304.Idx) :
    scores k q j = Scalar.select (band (ix2 (j 3) (j 4)))
      (AttnSpec.score (fun x => q (ix3 (j 0) (j 3) ⟨(j 1).val * 512 + (j 2).val * 128 + x.val, by have := (j 1).isLt; have := (j 2).isLt; dsimp at *; omega⟩))
        (fun x => k (ix4 (j 0) (j 4) (j 1) x))) ⊥ := by
  rw [← AttnSpec.neg_inf]
  pointwise [scores, AttnSpec.score]
  rfl

/-- The row with the sink: the scores, then the sink of the head. -/
theorem withSink_at (s : FVec Ideal S16x2x4x2048x2304 .f32) (z : FVec Ideal S8 .f32) (j : S16x2x4x2048x2305.Idx) :
    withSink s z j = if h : (j 4).val < 2304 then s (ix5 (j 0) (j 1) (j 2) (j 3) ⟨(j 4).val, h⟩)
      else z (ix1 ⟨(j 1).val * 4 + (j 2).val, by have := (j 1).isLt; have := (j 2).isLt; dsimp at *; omega⟩) := by
  pointwise [withSink]

/-- The row's largest entry. -/
theorem rowMax_at (s : FVec Ideal S16x2x4x2048x2305 .f32) (j : S16x2x4x2048.Idx) :
    Host.reduce FloatOps.maximumf s (constant (F := Ideal) S_ .f32 0xFF800000#32) reducesTo_S16x2x4x2048x2305_S16x2x4x2048_d4 h_S_ j
      = (Finset.univ : Finset (Fin 2305)).fold max (Ideal.ofBits .f32 0xFF800000#32) (fun x => s (ix5 (j 0) (j 1) (j 2) (j 3) x)) := by
  have h : S16x2x4x2048x2305.Reduces [4] S16x2x4x2048 := by decide
  refine (Host.reduce_eq_fold_single FloatOps.maximumf s _ _ h h_S_ j).trans ?_
  refine congrArg (fun f => (Finset.univ : Finset (Fin 2305)).fold max (Ideal.ofBits .f32 0xFF800000#32) f) ?_
  funext x
  refine congrArg s ?_
  funext a
  fin_cases a <;> rfl

/-- The exponential of an entry less its row's number. -/
theorem shifted_at (s : FVec Ideal S16x2x4x2048x2305 .f32) (r : FVec Ideal S16x2x4x2048 .f32) (j : S16x2x4x2048x2305.Idx) :
    shifted s r j = Ideal.exp (s j - max (Ideal.ofBits .f32 0xFF800000#32) (r (ix4 (j 0) (j 1) (j 2) (j 3)))) := by
  pointwise [shifted]

/-- The exponential of an entry less its row's largest. -/
theorem expo_at (s : FVec Ideal S16x2x4x2048x2305 .f32) (j : S16x2x4x2048x2305.Idx) :
    expo s j = Ideal.exp (s j - Finset.univ.sup fun x : Fin 2305 => s (ix5 (j 0) (j 1) (j 2) (j 3) x)) := by
  unfold expo
  rw [shifted_at, rowMax_at, AttnSpec.neg_inf, max_eq_right bot_le]
  rfl

/-- The weighted values at an entry of the result. -/
theorem mix_at (e : FVec Ideal S16x2x4x2048x2305 .f32) (v : FVec Ideal S16x2304x2x128 .f32) (j : S32768x1024.Idx)
    (b : Fin 16) (i : Fin 2048) (g : Fin 2) (h : Fin 4) (d : Fin 128) (hb : b.val = (j 0).val / 2048) (hi : i.val = (j 0).val % 2048)
    (hg : g.val = (j 1).val / 512) (hh : h.val = (j 1).val / 128 % 4) (hd : d.val = (j 1).val % 128) :
    mix e v j = ∑ x : Fin 2304, v (ix4 b x g d) * Ideal.div (e (ix5 b g h i ⟨x.val, by omega⟩)) (∑ y : Fin 2305, e (ix5 b g h i y)) := by
  pointwise [mix]
  blk_point

end Cert.ReferenceIdeal.Attn
-- ==== Proof.AttnRefOut.lean ====
module

public import proofs.«01_k».proof.Proof.AttnRef

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen
variable (m : (ℓ : Loc nD τ sig) → Buf (Elt Ideal) ℓ)

/-- The softmax of a row of scores, applied to the values, at an entry of the result. -/
theorem soft_at (s : FVec Ideal S16x2x4x2048x2305 .f32) (v : FVec Ideal S16x2304x2x128 .f32) (j : S32768x1024.Idx)
    (b : Fin 16) (i : Fin 2048) (g : Fin 2) (h : Fin 4) (d : Fin 128) (hb : b.val = (j 0).val / 2048) (hi : i.val = (j 0).val % 2048)
    (hg : g.val = (j 1).val / 512) (hh : h.val = (j 1).val / 128 % 4) (hd : d.val = (j 1).val % 128) :
    mix (expo s) v j = ∑ x : Fin 2304, v (ix4 b x g d) * Ideal.div (Ideal.exp (s (ix5 b g h i x.castSucc) - Finset.univ.sup fun y : Fin 2305 => s (ix5 b g h i y)))
      (∑ y : Fin 2305, Ideal.exp (s (ix5 b g h i y) - Finset.univ.sup fun y : Fin 2305 => s (ix5 b g h i y))) := by
  have e : ∀ y, expo s (ix5 b g h i y) = Ideal.exp (s (ix5 b g h i y) - Finset.univ.sup fun y : Fin 2305 => s (ix5 b g h i y)) :=
    fun y => expo_at s (ix5 b g h i y)
  rw [mix_at (expo s) v j b i g h d hb hi hg hh hd]
  simp only [e]
  rfl

/-- A row of scores at a column of the context: the scaled score, no mask. -/
theorem row_ctx (k : FVec Ideal S16x2304x2x128 .f32) (q : FVec Ideal S16x2048x1024 .f32) (z : FVec Ideal S8 .f32)
    (b : Fin 16) (i : Fin 2048) (g : Fin 2) (h : Fin 4) (n : Fin 256) :
    withSink (scores k q) z (ix5 b g h i ⟨n.val, by omega⟩)
      = AttnSpec.score (fun x => q (ix3 b i ⟨g.val * 512 + h.val * 128 + x.val, by omega⟩)) (fun x => k (ix4 b ⟨n.val, by omega⟩ g x)) := by
  refine (withSink_at _ z _).trans ((dif_pos (show n.val < 2304 by omega)).trans ((scores_at k q _).trans ?_))
  refine (congrArg (fun w => Scalar.select w _ _) ((band_at _).trans (if_pos (show n.val < 256 from n.isLt)))).trans ?_
  rfl

/-- A row of scores at a column of the latent rows: the scaled score where the row is near, minus infinity elsewhere. -/
theorem row_lat (k : FVec Ideal S16x2304x2x128 .f32) (q : FVec Ideal S16x2048x1024 .f32) (z : FVec Ideal S8 .f32)
    (b : Fin 16) (i : Fin 2048) (g : Fin 2) (h : Fin 4) (l : Fin 2048) :
    withSink (scores k q) z (ix5 b g h i ⟨256 + l.val, by omega⟩)
      = Scalar.select (AttnSpec.near l.val i.val) (AttnSpec.score (fun x => q (ix3 b i ⟨g.val * 512 + h.val * 128 + x.val, by omega⟩))
          (fun x => k (ix4 b ⟨256 + l.val, by omega⟩ g x))) ⊥ := by
  refine (withSink_at _ z _).trans ((dif_pos (show 256 + l.val < 2304 by omega)).trans ((scores_at k q _).trans ?_))
  refine congrArg (fun w => Scalar.select w _ _) ((band_at _).trans ((if_neg (show ¬ 256 + l.val < 256 by omega)).trans ?_))
  exact congrArg (fun w => AttnSpec.near w i.val) (show 256 + l.val - 256 = l.val by omega)

/-- A row of scores at its last column: the head's sink. -/
theorem row_sink (s : FVec Ideal S16x2x4x2048x2304 .f32) (z : FVec Ideal S8 .f32)
    (b : Fin 16) (i : Fin 2048) (g : Fin 2) (h : Fin 4) :
    withSink s z (ix5 b g h i (Fin.last 2304)) = z (ix1 ⟨g.val * 4 + h.val, by omega⟩) :=
  (withSink_at s z _).trans (dif_neg (show ¬ 2304 < 2304 by omega))

/-- The joined rows at a row of the context. -/
theorem joined_ctx (x : FVec Ideal S16x256x256 .f32) (y : FVec Ideal S16x2048x256 .f32) (b : Fin 16) (n : Fin 256) (g : Fin 2) (d : Fin 128) :
    joined x y (ix4 b ⟨n.val, by omega⟩ g d) = x (ix3 b n ⟨g.val * 128 + d.val, by omega⟩) :=
  (joined_at x y _).trans (dif_pos (show n.val < 256 from n.isLt))

/-- The joined rows at a latent row. -/
theorem joined_lat (x : FVec Ideal S16x256x256 .f32) (y : FVec Ideal S16x2048x256 .f32) (b : Fin 16) (l : Fin 2048) (g : Fin 2) (d : Fin 128) :
    joined x y (ix4 b ⟨256 + l.val, by omega⟩ g d) = y (ix3 b l ⟨g.val * 128 + d.val, by omega⟩) :=
  (joined_at x y _).trans ((dif_neg (show ¬ 256 + l.val < 256 by omega)).trans
    (congrArg (fun w => y (ix3 b w _)) (Fin.ext (show 256 + l.val - 256 = l.val by omega))))

/-- An entry of the reference's result is the windowed attention of its query, where the scores and the sink are finite. -/
theorem ref_at (c : Dev nD) (j : S32768x1024.Idx)
    (b : Fin 16) (i : Fin 2048) (g : Fin 2) (h : Fin 4) (d : Fin 128) (hb : b.val = (j 0).val / 2048) (hi : i.val = (j 0).val % 2048)
    (hg : g.val = (j 1).val / 512) (hh : h.val = (j 1).val / 128 % 4) (hd : d.val = (j 1).val % 128)
    (X : FVec Ideal S16x2048x3072 .f32) (Y : FVec Ideal S16x256x3072 .f32) (Z : FVec Ideal S8 .f32)
    (hX : m ((c.tc : Thread nD τ).loc main_arg0) = X) (hY : m ((c.tc : Thread nD τ).loc main_arg1) = Y) (hZ : m ((c.tc : Thread nD τ).loc main_arg2) = Z)
    (fq : ∀ x : Fin 1024, X (ix3 b i ⟨1024 + x.val, by omega⟩) ≠ ⊤ ∧ X (ix3 b i ⟨1024 + x.val, by omega⟩) ≠ ⊥)
    (fk : ∀ (l : Fin 2048) (x : Fin 256), X (ix3 b l ⟨2560 + x.val, by omega⟩) ≠ ⊤ ∧ X (ix3 b l ⟨2560 + x.val, by omega⟩) ≠ ⊥)
    (fc : ∀ (n : Fin 256) (x : Fin 256), Y (ix3 b n ⟨2560 + x.val, by omega⟩) ≠ ⊤ ∧ Y (ix3 b n ⟨2560 + x.val, by omega⟩) ≠ ⊥)
    (fz : ∀ x : Fin 8, Z (ix1 x) ≠ ⊤ ∧ Z (ix1 x) ≠ ⊥) :
    Value.res_main_v46 m c j = AttnSpec.attend (fun x => X (ix3 b i ⟨1024 + (g.val * 512 + h.val * 128 + x.val), by omega⟩))
      (fun n x => Y (ix3 b n ⟨2560 + (g.val * 128 + x.val), by omega⟩)) (fun l x => X (ix3 b l ⟨2560 + (g.val * 128 + x.val), by omega⟩)) i.val
      (Z (ix1 ⟨g.val * 4 + h.val, by omega⟩)) (fun n => Y (ix3 b n ⟨2816 + (g.val * 128 + d.val), by omega⟩))
      (fun l => X (ix3 b l ⟨2816 + (g.val * 128 + d.val), by omega⟩)) := by
  subst hX hY hZ
  refine (congrFun (res_eq m c) j).trans ((soft_at _ _ j b i g h d hb hi hg hh hd).trans ?_)
  have q1 : ∀ (x : Fin 1024), extractStridedSlice S16x2048x1024 ![0, 0, 1024] (m ((c.tc : Thread nD τ).loc main_arg0)) slices_S16x2048x3072_S16x2048x1024_0_0_1024 (ix3 b i x)
      = (m ((c.tc : Thread nD τ).loc main_arg0) : FVec Ideal S16x2048x3072 .f32) (ix3 b i ⟨1024 + x.val, by omega⟩) := fun x => by pointwise []
  have k1 : ∀ (l : Fin 2048) (x : Fin 256), extractStridedSlice S16x2048x256 ![0, 0, 2560] (m ((c.tc : Thread nD τ).loc main_arg0)) slices_S16x2048x3072_S16x2048x256_0_0_2560 (ix3 b l x)
      = (m ((c.tc : Thread nD τ).loc main_arg0) : FVec Ideal S16x2048x3072 .f32) (ix3 b l ⟨2560 + x.val, by omega⟩) := fun l x => by pointwise []
  have c1 : ∀ (l : Fin 256) (x : Fin 256), extractStridedSlice S16x256x256 ![0, 0, 2560] (m ((c.tc : Thread nD τ).loc main_arg1)) slices_S16x256x3072_S16x256x256_0_0_2560 (ix3 b l x)
      = (m ((c.tc : Thread nD τ).loc main_arg1) : FVec Ideal S16x256x3072 .f32) (ix3 b l ⟨2560 + x.val, by omega⟩) := fun l x => by pointwise []
  have v1 : ∀ (l : Fin 2048) (x : Fin 256), extractStridedSlice S16x2048x256 ![0, 0, 2816] (m ((c.tc : Thread nD τ).loc main_arg0)) slices_S16x2048x3072_S16x2048x256_0_0_2816 (ix3 b l x)
      = (m ((c.tc : Thread nD τ).loc main_arg0) : FVec Ideal S16x2048x3072 .f32) (ix3 b l ⟨2816 + x.val, by omega⟩) := fun l x => by pointwise []
  have w1 : ∀ (l : Fin 256) (x : Fin 256), extractStridedSlice S16x256x256 ![0, 0, 2816] (m ((c.tc : Thread nD τ).loc main_arg1)) slices_S16x256x3072_S16x256x256_0_0_2816 (ix3 b l x)
      = (m ((c.tc : Thread nD τ).loc main_arg1) : FVec Ideal S16x256x3072 .f32) (ix3 b l ⟨2816 + x.val, by omega⟩) := fun l x => by pointwise []
  refine AttnSpec.softmax_eq_out (n := 256) (k := 2048) (N := 2304) rfl (fun y => withSink _ _ (ix5 b g h i y)) (fun x => joined _ _ (ix4 b x g d)) _ _ _ _ _
    (fun n => (row_ctx _ _ _ b i g h n).trans ?_) (fun l => (row_lat _ _ _ b i g h l).trans ?_) (row_sink _ _ b i g h)
    (fun n => (joined_ctx _ _ b n g d).trans (w1 _ _)) (fun l => (joined_lat _ _ b l g d).trans (v1 _ _)) (fun n => ?_) (fun l => ?_) (fz _).1 (fz _).2
  · exact congrArg₂ AttnSpec.score (funext fun x => q1 _) (funext fun x => (joined_ctx _ _ b n g x).trans (c1 _ _))
  · exact congrArg (fun w => Scalar.select (AttnSpec.near l.val i.val) w ⊥) (congrArg₂ AttnSpec.score (funext fun x => q1 _) (funext fun x => (joined_lat _ _ b l g x).trans (k1 _ _)))
  · exact AttnSpec.score_ne_top _ _ (fun x => fq ⟨g.val * 512 + h.val * 128 + x.val, by omega⟩) fun x => fc n ⟨g.val * 128 + x.val, by omega⟩
  · exact AttnSpec.select_ne_top _ _ (AttnSpec.score_ne_top _ _ (fun x => fq ⟨g.val * 512 + h.val * 128 + x.val, by omega⟩) fun x => fk l ⟨g.val * 128 + x.val, by omega⟩)

end Cert.ReferenceIdeal.Attn
-- ==== Proof.AttnPre.lean ====
module

public import proofs.«01_k».proof.Defs
public import Idealize.ShloMosaic.Lib.Pipeline.ValueKit

@[expose] public section

set_option maxRecDepth 16384

noncomputable section

namespace Cert.AttnPre

open Idealize.ShloMosaic Cert.Pre_finite_scores

/-- The shapes' side conditions of the precondition's operations. -/
theorem facts : Cert.Pre_finite_scores.Facts :=
  ⟨by decide, by decide, by decide, by decide, by decide, by decide, by decide⟩

/-- A number whose absolute value compares less than infinity is neither infinity. -/
theorem finite_of (x : EReal) (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  have h' : Ideal.cmp .olt (max x (-x)) ⊤ = 1 := htop ▸ h
  rw [Ideal.cmp_olt_eq_one] at h'
  exact ⟨fun e => absurd h' (by rw [e]; simp), fun e => absurd h' (by rw [e]; simp)⟩

variable [Cert.Pre_finite_scores.Facts] (X : FVec Ideal S16x2048x3072 .f32) (Y : FVec Ideal S16x256x3072 .f32) (Z : FVec Ideal S8 .f32)

/-- The queries are finite. -/
theorem q_fin (h : (fn X Y Z).1 = fun _ => 1#1) (b : Fin 16) (i : Fin 2048) (x : Fin 1024) :
    X (ix3 b i ⟨1024 + x.val, by omega⟩) ≠ ⊤ ∧ X (ix3 b i ⟨1024 + x.val, by omega⟩) ≠ ⊥ := by
  refine finite_of _ (Eq.trans ?_ (congrFun h (ix3 b i x)))
  pointwise [fn]

/-- The latent rows' keys are finite. -/
theorem k_fin (h : (fn X Y Z).2.1 = fun _ => 1#1) (b : Fin 16) (i : Fin 2048) (x : Fin 256) :
    X (ix3 b i ⟨2560 + x.val, by omega⟩) ≠ ⊤ ∧ X (ix3 b i ⟨2560 + x.val, by omega⟩) ≠ ⊥ := by
  refine finite_of _ (Eq.trans ?_ (congrFun h (ix3 b i x)))
  pointwise [fn]

/-- The context's keys are finite. -/
theorem c_fin (h : (fn X Y Z).2.2.1 = fun _ => 1#1) (b : Fin 16) (i : Fin 256) (x : Fin 256) :
    Y (ix3 b i ⟨2560 + x.val, by omega⟩) ≠ ⊤ ∧ Y (ix3 b i ⟨2560 + x.val, by omega⟩) ≠ ⊥ := by
  refine finite_of _ (Eq.trans ?_ (congrFun h (ix3 b i x)))
  pointwise [fn]

/-- The sinks are finite. -/
theorem z_fin (h : (fn X Y Z).2.2.2 = fun _ => 1#1) (x : Fin 8) : Z (ix1 x) ≠ ⊤ ∧ Z (ix1 x) ≠ ⊥ := by
  refine finite_of _ (Eq.trans ?_ (congrFun h (ix1 x)))
  pointwise [fn]

end Cert.AttnPre
-- ==== Proof.AttnClaim.lean ====
module

public import proofs.«01_k».proof.Defs
public import proofs.«01_k».proof.Proof.AttnKernel
public import proofs.«01_k».proof.Proof.AttnRefOut
public import proofs.«01_k».proof.Proof.AttnPre

@[expose] public section

set_option maxRecDepth 16384

noncomputable section

namespace Cert.AttnClaim

open Idealize.ShloMosaic Idealize.ShloMosaic.TcCoe Idealize.SL.Sem

/-- The value claim of the attention: from matching arguments whose queries, keys and sinks are finite, the kernel's result
    array is the reference's. -/
theorem algebraic : letI := Cert.KernelIdeal.Gen.facts; letI := Cert.ReferenceIdeal.Gen.facts; letI := Cert.AttnPre.facts
    Cert.algebraic_KernelIdeal_ReferenceIdeal_pre_finite_scores := by
  letI := Cert.AttnPre.facts
  intro m g m' g' hpre hagree
  refine ⟨fun c => (Cert.KernelIdeal.Gen.dats m 0 c).arrAt 6 Cert.KernelIdeal.cfg0.N,
    Cert.KernelIdeal.Value.run_blocks m g, ?_⟩
  refine (θ_run _ _ _).mono (fun r h c => ⟨(h c).1.trans ?_, (h c).2⟩) (Cert.ReferenceIdeal.Value.run m' g')
  refine Eq.trans ?_ (Cert.KernelIdeal.Attn.final_at m c).symm
  funext j
  obtain ⟨h0, h1, h2⟩ := hagree c
  obtain ⟨p0, p1, p2, p3⟩ := hpre c
  exact Cert.ReferenceIdeal.Attn.ref_at m' c j ⟨(j 0).val / 2048, by have : (j 0).val < 32768 := (j 0).isLt; omega⟩
    ⟨(j 0).val % 2048, by omega⟩ ⟨(j 1).val / 512, by have : (j 1).val < 1024 := (j 1).isLt; omega⟩ ⟨(j 1).val / 128 % 4, by omega⟩
    ⟨(j 1).val % 128, by omega⟩ rfl rfl rfl rfl rfl _ _ _ h0 h1 h2
    (Cert.AttnPre.q_fin _ _ _ p0 _ _) (Cert.AttnPre.k_fin _ _ _ p1 _) (Cert.AttnPre.c_fin _ _ _ p2 _) (Cert.AttnPre.z_fin _ _ _ p3)

end Cert.AttnClaim
-- ==== Proof.FfnRd.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen
variable (m : (ℓ : Loc nD τ sig) → Buf (Elt Ideal) ℓ)

/-- The positions of the windows at a point: the row block is the point over 11, the sample the point over 22, the chunk of
    the hidden width the point modulo 11; the weights stay at layer 3, half 1. -/
theorem idx : ∀ t : Fin cfg0.N, win0_0.index t = ![t.val / 11, 0] ∧ win0_1.index t = ![t.val / 22, 0, 0] ∧
    win0_2.index t = ![0, 0] ∧ win0_3.index t = ![3, 1, 0, t.val % 11] ∧ win0_4.index t = ![3, 1, 0, 11 + t.val % 11] ∧
    win0_5.index t = ![3, 1, t.val % 11, 0] ∧ win0_6.index t = ![t.val / 11, 0] ∧ t.val / 22 < 16 :=
  (by decide +kernel : ∀ t : Fin grid0.N, _)

/-- An entry of the activations' block, as an entry of the activations. -/
theorem rd0 (c : Dev nD) (t : Fin cfg0.N) (r : Fin 1024) (d : Fin 2048) (b : Fin 16) (i : Fin 2048)
    (hb : b.val = t.val / 22) (hi : i.val = t.val / 11 % 2 * 1024 + r.val) :
    iblk m c 0 t (ix2 r d) = m ((c : Thread nD τ).loc main_arg0) (ix3 b i d) := by
  blk_ext! [iblk, V, idx t]
/-- An entry of the modulation's block, as one of the rows 6, 7 and 8 of the sample's modulation. -/
theorem rd1 (c : Dev nD) (t : Fin cfg0.N) (a : Fin 3) (d : Fin 2048) (b : Fin 16) (i : Fin 9)
    (hb : b.val = t.val / 22) (hi : i.val = a.val + 6) :
    iblk m c 1 t (ix3 0 a d) = m ((c : Thread nD τ).loc main_arg1) (ix3 b i d) := by
  blk_ext! [iblk, V, idx t]
/-- An entry of the norm's weights' block, as an entry of row 2 of layer 3. -/
theorem rd2 (c : Dev nD) (t : Fin cfg0.N) (d : Fin 2048) :
    iblk m c 2 t (ix2 0 d) = m ((c : Thread nD τ).loc main_arg2) (ix3 3 2 d) := by
  blk_ext! [iblk, V, idx t]
/-- An entry of the gate weights' block, as an entry of the first half of the input weights. -/
theorem rd3 (c : Dev nD) (t : Fin cfg0.N) (d : Fin 2048) (f : Fin 512) (i : Fin 11264)
    (hi : i.val = t.val % 11 * 512 + f.val) :
    iblk m c 3 t (ix4 0 0 d f) = m ((c : Thread nD τ).loc main_arg3) (ix4 3 1 d i) := by
  blk_ext! [iblk, V, idx t]
/-- An entry of the value weights' block, as an entry of the second half of the input weights. -/
theorem rd4 (c : Dev nD) (t : Fin cfg0.N) (d : Fin 2048) (f : Fin 512) (i : Fin 11264)
    (hi : i.val = 5632 + t.val % 11 * 512 + f.val) :
    iblk m c 4 t (ix4 0 0 d f) = m ((c : Thread nD τ).loc main_arg3) (ix4 3 1 d i) := by
  blk_ext! [iblk, V, idx t]
/-- An entry of the output weights' block, as an entry of the output weights. -/
theorem rd5 (c : Dev nD) (t : Fin cfg0.N) (d : Fin 2048) (f : Fin 512) (i : Fin 5632)
    (hi : i.val = t.val % 11 * 512 + f.val) :
    iblk m c 5 t (ix4 0 0 f d) = m ((c : Thread nD τ).loc main_arg4) (ix4 3 1 i d) := by
  blk_ext! [iblk, V, idx t]
end Cert.Kernel2Ideal.Ffn
-- ==== Proof.FfnSpec.lean ====
module

public import Idealize.ShloMosaic.Lib.Pipeline.ValueKit

@[expose] public section

noncomputable section

/-! The feed-forward half-step on one token's row, over the extended reals. -/

namespace Cert.FfnSpec

open Idealize.ShloMosaic

/-- The normalised and modulated row: `x / rms(x) * g * (1 + scale) + shift`. -/
def normed (x g shift scale : Fin 2048 → EReal) (d : Fin 2048) : EReal :=
  x d * Ideal.rsqrt (Ideal.div (∑ k, x k * x k) (Ideal.ofBits FTy.f32 1157627904#32) + Ideal.ofBits FTy.f32 897988541#32)
    * g d * (1 + scale d) + shift d

/-- One hidden unit of the SwiGLU: `silu (h · a) * (h · u)`. -/
def unit (h a u : Fin 2048 → EReal) : EReal :=
  (∑ d, h d * a d) * Ideal.div 1 (1 + Ideal.exp (-∑ d, h d * a d)) * ∑ d, h d * u d

/-- One entry of the half-step's result: `x + 1/2 * gate * (swiglu(h) · w)`. -/
def out (x g shift scale gate : Fin 2048 → EReal) (a u : Fin 5632 → Fin 2048 → EReal) (w : Fin 5632 → EReal) (d : Fin 2048) : EReal :=
  x d + Ideal.ofBits FTy.f32 1056964608#32 * gate d * ∑ f, unit (normed x g shift scale) (a f) (u f) * w f

end Cert.FfnSpec
-- ==== Proof.FfnKernel.lean ====
module

public import proofs.«01_k».proof.Proof.FfnRd
public import proofs.«01_k».proof.Proof.FfnSpec

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen
open Cert.FfnSpec
variable (m : (ℓ : Loc nD τ sig) → Buf (Elt Ideal) ℓ)

/-- The token row (image and position) that row `r` of row block `q` stands for. -/
def img (q : Fin 32) : Fin 16 := ⟨q.val / 2, by omega⟩
/-- See `img`. -/
def pos (q : Fin 32) (r : Fin 1024) : Fin 2048 := ⟨q.val % 2 * 1024 + r.val, by omega⟩

/-- The normalised row of the kernel's arguments at row `r` of row block `q`. -/
def row (c : Dev nD) (q : Fin 32) (r : Fin 1024) : Fin 2048 → EReal :=
  normed (fun d => m ((c : Thread nD τ).loc main_arg0) (ix3 (img q) (pos q r) d))
    (fun d => m ((c : Thread nD τ).loc main_arg2) (ix3 3 2 d))
    (fun d => m ((c : Thread nD τ).loc main_arg1) (ix3 (img q) 6 d))
    (fun d => m ((c : Thread nD τ).loc main_arg1) (ix3 (img q) 7 d))

/-- The part of the second product that hidden units `512 s … 512 s + 511` give. -/
def part (c : Dev nD) (q : Fin 32) (s : Fin 11) (r : Fin 1024) (d : Fin 2048) : EReal :=
  ∑ f : Fin 512, unit (row m c q r)
      (fun k => m ((c : Thread nD τ).loc main_arg3) (ix4 3 1 k ⟨s.val * 512 + f.val, by omega⟩))
      (fun k => m ((c : Thread nD τ).loc main_arg3) (ix4 3 1 k ⟨s.val * 512 + f.val + 5632, by omega⟩))
    * m ((c : Thread nD τ).loc main_arg4) (ix4 3 1 ⟨s.val * 512 + f.val, by omega⟩ d)

/-- At a row block's first point the staged row is normalised and modulated. -/
theorem pay3_at (c : Dev nD) (q : Fin 32) (t : Fin cfg0.N) (ht : t.val = 11 * q.val) (j : S1024x2048.Idx) :
    k0_pay3 (F := Ideal) (iblk m c 0 t) (iblk m c 2 t)
      (View.ld (iblk m c 1 t) (Rect.unit ![0, 0, 0] ![1, 1, 2048] inb_S1x3x2048_S1x1x2048_0_0_0))
      (View.ld (iblk m c 1 t) (Rect.unit ![0, 1, 0] ![1, 1, 2048] inb_S1x3x2048_S1x1x2048_0_1_0)) j
      = row m c q (j 0) (j 1) := by
  have hi : (img q).val = q.val / 2 := rfl
  have hp : (pos q (j 0)).val = q.val % 2 * 1024 + (j 0).val := rfl
  pointwise [k0_pay3, row, normed]
  blk_point [iblk, V, idx t]

/-- One chunk's share of the second product, over a first operand that holds the normalised rows. -/
theorem chunk_at (c : Dev nD) (q : Fin 32) (s : Fin 11) (t : Fin cfg0.N) (ht : t.val = 11 * q.val + s.val)
    (h : FVec Ideal S1024x2048 .bf16) (hh : ∀ j : S1024x2048.Idx, h j = row m c q (j 0) (j 1)) (j : S1024x2048.Idx) :
    (∑ x : Fin 512, (∑ k : Fin 2048, h (ix2 (j 0) k) * iblk m c 3 t (ix4 0 0 k x)) *
        Ideal.div 1 (1 + Ideal.exp (0 - ∑ k : Fin 2048, h (ix2 (j 0) k) * iblk m c 3 t (ix4 0 0 k x))) *
        (∑ k : Fin 2048, h (ix2 (j 0) k) * iblk m c 4 t (ix4 0 0 k x)) * iblk m c 5 t (ix4 0 0 x (j 1)))
      = part m c q s (j 0) (j 1) := by
  refine Fin.sum_fin_congr fun x => ?_
  have e3 : ∀ k : Fin 2048, iblk m c 3 t (ix4 0 0 k x) = m ((c : Thread nD τ).loc main_arg3) (ix4 3 1 k ⟨s.val * 512 + x.val, by omega⟩) :=
    fun k => rd3 m c t k x _ (by dsimp only; omega)
  have e4 : ∀ k : Fin 2048, iblk m c 4 t (ix4 0 0 k x) = m ((c : Thread nD τ).loc main_arg3) (ix4 3 1 k ⟨s.val * 512 + x.val + 5632, by omega⟩) :=
    fun k => rd4 m c t k x _ (by dsimp only; omega)
  have e5 : iblk m c 5 t (ix4 0 0 x (j 1)) = m ((c : Thread nD τ).loc main_arg4) (ix4 3 1 ⟨s.val * 512 + x.val, by omega⟩ (j 1)) :=
    rd5 m c t (j 1) x _ (by dsimp only; omega)
  have e6 : ∀ k : Fin 2048, h (ix2 (j 0) k) = row m c q (j 0) k := fun k => hh (ix2 (j 0) k)
  have z : ∀ a : EReal, 0 - a = -a := fun a => by rw [sub_eq_add_neg, zero_add]
  unfold unit
  simp only [e3, e4, e5, e6, z]

/-- What the two scratch buffers hold after a row block's chunks `0 … s`. -/
theorem scratch_at (c : Dev nD) (q : Fin 32) (s : ℕ) (hs : s ≤ 9) : ∀ (n : ℕ) (hn : n < cfg0.N), n = 11 * q.val + s → ∀ j : S1024x2048.Idx,
    (outsAt0 m c n hn).2.1 j = row m c q (j 0) (j 1)
    ∧ (outsAt0 m c n hn).2.2 j = ∑ k : Fin (s + 1), part m c q ⟨k.val, by omega⟩ (j 0) (j 1) := by
  induction s with
  | zero =>
    intro n hn e j
    have h0 : (⟨n, hn⟩ : Fin cfg0.N).val % 11 = 0 := by dsimp only; omega
    have hw := pay3_at m c q ⟨n, hn⟩ e
    constructor
    · show (outsAt0 m c (⟨n, hn⟩ : Fin cfg0.N).val (⟨n, hn⟩ : Fin cfg0.N).isLt).2.1 j = _
      rw [outsAt0_A m c ⟨n, hn⟩ h0 (by omega) (by omega)]; frame_out
      rw [← hw j]
      pointwise [k0_pay4]
      rfl
    · show (outsAt0 m c (⟨n, hn⟩ : Fin cfg0.N).val (⟨n, hn⟩ : Fin cfg0.N).isLt).2.2 j = _
      rw [outsAt0_A m c ⟨n, hn⟩ h0 (by omega) (by omega)]; frame_out
      rw [Fin.sum_univ_one]
      refine Eq.trans ?_ (chunk_at m c q 0 ⟨n, hn⟩ e _ hw j)
      pointwise [k0_pay1, k0_pay5]
      rfl
  | succ s ih =>
    intro n hn e j
    have h0 : ¬ (⟨n, hn⟩ : Fin cfg0.N).val % 11 = 0 := by dsimp only; omega
    have h1 : 1 ≤ (⟨n, hn⟩ : Fin cfg0.N).val % 11 ∧ (⟨n, hn⟩ : Fin cfg0.N).val % 11 ≤ 9 := by dsimp only; omega
    have ih' := ih (by omega) (n - 1) (by omega) (by omega)
    constructor
    · show (outsAt0 m c (⟨n, hn⟩ : Fin cfg0.N).val (⟨n, hn⟩ : Fin cfg0.N).isLt).2.1 j = _
      rw [outsAt0_B m c ⟨n, hn⟩ h0 h1 (by omega)]
      exact (ih' j).1
    · show (outsAt0 m c (⟨n, hn⟩ : Fin cfg0.N).val (⟨n, hn⟩ : Fin cfg0.N).isLt).2.2 j = _
      rw [outsAt0_B m c ⟨n, hn⟩ h0 h1 (by omega)]; frame_out
      simp only [read_unread_whole]
      rw [Fin.sum_univ_castSucc]
      refine Eq.trans (b := (outsAt0 m c (n - 1) (by omega)).2.2 j + _) ?_
        (congrArg₂ (· + ·) (ih' j).2 (chunk_at m c q ⟨s + 1, by omega⟩ ⟨n, hn⟩ e _ (fun j => (ih' j).1) j))
      pointwise [k0_pay2]

/-- The half-step's result of image `b` at position `i` and feature `d`, over the kernel's arguments. -/
def res (c : Dev nD) (b : Fin 16) (i : Fin 2048) (d : Fin 2048) : EReal :=
  FfnSpec.out (fun d => m ((c : Thread nD τ).loc main_arg0) (ix3 b i d))
    (fun d => m ((c : Thread nD τ).loc main_arg2) (ix3 3 2 d))
    (fun d => m ((c : Thread nD τ).loc main_arg1) (ix3 b 6 d))
    (fun d => m ((c : Thread nD τ).loc main_arg1) (ix3 b 7 d))
    (fun d => m ((c : Thread nD τ).loc main_arg1) (ix3 b 8 d))
    (fun f d => m ((c : Thread nD τ).loc main_arg3) (ix4 3 1 d ⟨f.val, by omega⟩))
    (fun f d => m ((c : Thread nD τ).loc main_arg3) (ix4 3 1 d ⟨f.val + 5632, by omega⟩))
    (fun f => m ((c : Thread nD τ).loc main_arg4) (ix4 3 1 f d)) d

/-- The eleven chunks' shares add up to the whole second product. -/
theorem res_eq (c : Dev nD) (q : Fin 32) (r : Fin 1024) (d : Fin 2048) :
    res m c (img q) (pos q r) d = (show EReal from m ((c : Thread nD τ).loc main_arg0) (ix3 (img q) (pos q r) d))
      + Ideal.ofBits FTy.f32 1056964608#32 * (show EReal from m ((c : Thread nD τ).loc main_arg1) (ix3 (img q) 8 d))
        * ∑ s : Fin 11, part m c q s r d := by
  unfold res FfnSpec.out
  refine congrArg₂ (· + ·) rfl (congrArg₂ (· * ·) rfl ?_)
  exact (Fin.sum_mul_add_congr (S := 11) (n := 512) fun s k hl => rfl).symm

/-- What the last chunk's point leaves in the output block. -/
theorem out_at (c : Dev nD) (q : Fin 32) (t : Fin cfg0.N) (ht : t.val = 11 * q.val + 10) (j : S1024x2048.Idx) :
    (outsAt0 m c t.val t.isLt).1 j = res m c (img q) (pos q (j 0)) (j 1) := by
  have ih := scratch_at m c q 9 le_rfl (t.val - 1) (by have := t.isLt; omega) (by omega)
  rw [outsAt0_C m c t (by omega) (by omega) (by omega)]; frame_out
  simp only [read_unread_whole]
  have e := res_eq m c q (j 0) (j 1)
  rw [Fin.sum_univ_castSucc] at e
  refine Eq.trans ?_ e.symm
  have e0 : iblk m c 0 t (ix2 (j 0) (j 1)) = m ((c : Thread nD τ).loc main_arg0) (ix3 (img q) (pos q (j 0)) (j 1)) :=
    rd0 m c t (j 0) (j 1) _ _ (by simp only [img]; omega) (by simp only [pos]; omega)
  have e1 : iblk m c 1 t (ix3 0 2 (j 1)) = m ((c : Thread nD τ).loc main_arg1) (ix3 (img q) 8 (j 1)) :=
    rd1 m c t 2 (j 1) _ _ (by simp only [img]; omega) rfl
  refine Eq.trans ?_ (congrArg₂ (· + ·) e0 (congrArg₂ (· * ·) (congrArg (Ideal.ofBits FTy.f32 1056964608#32 * ·) e1)
    (congrArg₂ (· + ·) (ih j).2 (chunk_at m c q 10 t ht _ (fun j => (ih j).1) j))))
  pointwise [k0_pay6]

/-- The kernel's result array: entry `(2048 b + i, d)` is the half-step's result of image `b` at position `i` and feature `d`. -/
theorem final_at (c : Dev nD) : (dats m 0 c).arrAt 6 (cfgs 0).N = fun i : S32768x2048.Idx =>
    res m c ⟨(i 0).val / 2048, by have : (i 0).val < 32768 := (i 0).isLt; omega⟩ ⟨(i 0).val % 2048, by omega⟩ (i 1) := by
  refine (dats m 0 c).arrAt_eq_of_covers 6 _ (by decide +kernel) fun t hf y => ?_
  blk_simp
  rw [after0_6]
  have hm := (flush0_6 t).mp hf
  have hN : t.val < 352 := lt_of_lt_of_eq t.isLt N_0
  have hy : (y 0).val < 1024 := (y 0).isLt
  refine (out_at m c ⟨t.val / 11, by omega⟩ t (by dsimp only; omega) y).trans ?_
  have e6 : win0_6.index t 0 = t.val / 11 := by rw [(idx t).2.2.2.2.2.2.1]; rfl
  have e7 : win0_6.index t 1 = 0 := by rw [(idx t).2.2.2.2.2.2.1]; rfl
  have a0 : img ⟨t.val / 11, by omega⟩ = ⟨(win0_6.index t 0 * 1024 + (y 0).val) / 2048, by rw [e6]; omega⟩ :=
    Fin.ext (by simp only [img, e6]; omega)
  have a1 : pos ⟨t.val / 11, by omega⟩ (y 0) = ⟨(win0_6.index t 0 * 1024 + (y 0).val) % 2048, by omega⟩ :=
    Fin.ext (by simp only [pos, e6]; omega)
  have a2 : (win0_6.blk t).view.emb y 1 = y 1 := Fin.ext (by blk_simp [e7])
  rw [a0, a1, a2]

end Cert.Kernel2Ideal.Ffn
-- ==== Proof.FfnRef.lean ====
module

public import proofs.«01_k».proof.Proof.Gen.Reference2Ideal.Run
public import proofs.«01_k».proof.Proof.FfnSpec
public import Idealize.ShloMosaic.Lib.Tactic.CleanTypes

@[expose] public section

set_option maxRecDepth 16384

noncomputable section

namespace Cert.Reference2Ideal.Ffn

open Idealize.ShloMosaic Idealize.ShloMosaic.TcCoe Idealize.SL.Sem
open Cert.Reference2Ideal Cert.Reference2Ideal.Gen
variable (m : (ℓ : Loc nD τ sig) → Buf (Elt Ideal) ℓ)

/-- An entry of the reference's result is the half-step's value at its sample, row and column. -/
theorem ref_at (c : Dev nD) (j : S32768x2048.Idx) (b : Fin 16) (i : Fin 2048)
    (hb : b.val = (j 0).val / 2048) (hi : i.val = (j 0).val % 2048) :
    Value.res_main_v45 m c j = FfnSpec.out (fun d => m ((c.tc : Thread nD τ).loc main_arg0) (ix3 b i d))
      (fun d => m ((c.tc : Thread nD τ).loc main_arg2) (ix3 3 2 d))
      (fun d => m ((c.tc : Thread nD τ).loc main_arg1) (ix3 b 6 d))
      (fun d => m ((c.tc : Thread nD τ).loc main_arg1) (ix3 b 7 d))
      (fun d => m ((c.tc : Thread nD τ).loc main_arg1) (ix3 b 8 d))
      (fun f d => m ((c.tc : Thread nD τ).loc main_arg3) (ix4 3 1 d ⟨f.val, by omega⟩))
      (fun f d => m ((c.tc : Thread nD τ).loc main_arg3) (ix4 3 1 d ⟨f.val + 5632, by omega⟩))
      (fun f => m ((c.tc : Thread nD τ).loc main_arg4) (ix4 3 1 f (j 1))) (j 1) := by
  unfold Value.res_main_v45
  clean_types
  pointwise [FfnSpec.out, FfnSpec.unit, FfnSpec.normed]
  blk_point
end Cert.Reference2Ideal.Ffn
-- ==== Proof.FfnClaim.lean ====
module

public import proofs.«01_k».proof.Defs
public import proofs.«01_k».proof.Proof.FfnKernel
public import proofs.«01_k».proof.Proof.FfnRef

@[expose] public section

set_option maxRecDepth 16384

noncomputable section

namespace Cert.FfnClaim

open Idealize.ShloMosaic Idealize.ShloMosaic.TcCoe Idealize.SL.Sem

/-- The value claim: from matching arguments the kernel's result array is the reference's. -/
theorem algebraic : letI := Cert.Kernel2Ideal.Gen.facts; letI := Cert.Reference2Ideal.Gen.facts
    Cert.algebraic_Kernel2Ideal_Reference2Ideal := by
  intro m g m' g' _ hagree
  refine ⟨fun c => (Cert.Kernel2Ideal.Gen.dats m 0 c).arrAt 6 Cert.Kernel2Ideal.cfg0.N,
    Cert.Kernel2Ideal.Value.run_blocks m g, ?_⟩
  refine (θ_run _ _ _).mono (fun r h c => ⟨(h c).1.trans ?_, (h c).2⟩) (Cert.Reference2Ideal.Value.run m' g')
  refine Eq.trans ?_ (Cert.Kernel2Ideal.Ffn.final_at m c).symm
  funext j
  refine (Cert.Reference2Ideal.Ffn.ref_at m' c j ⟨(j 0).val / 2048, by have : (j 0).val < 32768 := (j 0).isLt; omega⟩
    ⟨(j 0).val % 2048, by omega⟩ rfl rfl).trans ?_
  obtain ⟨h0, h1, h2, h3, h4⟩ := hagree c
  rw [h0, h1, h2, h3, h4]
  rfl

end Cert.FfnClaim
-- ==== Proof.Perm.lean ====
module

public import Idealize.ShloMosaic.Lib.Pipeline.ValueKit
public import Idealize.ShloMosaic.Lib.WordCmp

@[expose] public section

noncomputable section

/-! The 0/1 matrix that sorts a group of 256 rows by the parity of their position. -/

namespace Cert.Perm

open Idealize.ShloMosaic

/-- The row that a row of the 0/1 matrix takes. -/
def src (k : ℕ) : ℕ := if k < 128 then 2 * k else 2 * (k - 128) + 1
/-- `src` as the program computes it, on words. -/
theorem src_word : ∀ k : Fin 256, Scalar.select (IntOp.cmpi CmpIPredicate.slt (BitVec.ofNat 32 k.val) 128#32) (IntOp.muli 2#32 (BitVec.ofNat 32 k.val))
    (IntOp.addi (IntOp.muli 2#32 (IntOp.subi (BitVec.ofNat 32 k.val) 128#32)) 1#32) = BitVec.ofNat 32 (src k.val) := by
  decide +kernel
/-- An entry of the matrix, as the program computes it. -/
theorem perm_word (a k : Fin 256) : (FloatOps.uitofp FTy.bf16 (IntOp.cmpi CmpIPredicate.eq (BitVec.ofNat 32 a.val)
      (Scalar.select (IntOp.cmpi CmpIPredicate.slt (BitVec.ofNat 32 k.val) 128#32) (IntOp.muli 2#32 (BitVec.ofNat 32 k.val))
        (IntOp.addi (IntOp.muli 2#32 (IntOp.subi (BitVec.ofNat 32 k.val) 128#32)) 1#32))) : Ideal .bf16)
      = (if a.val = src k.val then (1 : EReal) else 0) := by
  have hs : src k.val < 256 := by unfold src; split <;> omega
  rw [src_word, show IntOp.cmpi CmpIPredicate.eq (BitVec.ofNat 32 a.val) (BitVec.ofNat 32 (src k.val))
    = BitVec.ofBool (decide (a.val = src k.val)) from WordCmp.cmpi_eq_ofNat (by omega) (by omega)]
  show (((BitVec.ofBool (decide (a.val = src k.val))).toNat : ℝ) : EReal) = _
  by_cases h : a.val = src k.val
  · simp [h]
  · simp [h]

/-- The matrix's row `2 q + p` picks the row `q` of the half `p`. -/
theorem unperm (u : Fin 256 → EReal) (q : Fin 128) (p : Fin 2) (hu : ∀ k, u k = if 2 * q.val + p.val = src k.val then 1 else 0)
    (f : Fin 2 → Fin 128 → EReal) :
    ∑ x : Fin 128, u ⟨x.val, by omega⟩ * f 0 x + ∑ x : Fin 128, u ⟨128 + x.val, by omega⟩ * f 1 x = f p q := by
  have h0 : ∀ x : Fin 128, u ⟨x.val, by omega⟩ = if x = q ∧ p = 0 then 1 else 0 := fun x => by
    rw [hu]; refine if_congr ?_ rfl rfl
    simp only [src, if_pos x.isLt, Fin.ext_iff]; show _ ↔ _ ∧ p.val = 0; omega
  have h1 : ∀ x : Fin 128, u ⟨128 + x.val, by omega⟩ = if x = q ∧ p = 1 then 1 else 0 := fun x => by
    rw [hu]; refine if_congr ?_ rfl rfl
    simp only [src, if_neg (show ¬ 128 + x.val < 128 by omega), Fin.ext_iff]; show _ ↔ _ ∧ p.val = 1; omega
  simp only [h0, h1]
  obtain rfl | rfl : p = 0 ∨ p = 1 := by omega
  · simp
  · simp

/-- A row of the matrix picks the row `src k`. -/
theorem pick (u : Fin 256 → EReal) (q : Fin 256) (hu : ∀ k, u k = if k = q then 1 else 0) (f : Fin 256 → EReal) :
    ∑ k, u k * f k = f q := by
  simp [hu]

end Cert.Perm
-- ==== Proof.HyInRd.lean ====
module

public import proofs.«01_k».proof.Defs
public import proofs.«01_k».proof.Proof.Gen.Kernel3Ideal.Frame
public import Idealize.ShloMosaic.Lib.Pipeline.ValueKit
public import Idealize.ShloMosaic.Lib.Pipeline.ReadBack
public import proofs.«01_k».proof.Proof.Perm
public import proofs.«01_k».proof.Proof.FfnSpec

@[expose] public section

set_option maxRecDepth 16384

noncomputable section

/-! Hyena's input projection with its short convolution: what the kernel's blocks hold. -/

namespace Cert.Kernel3Ideal.HyIn

open Idealize.ShloMosaic Idealize.ShloMosaic.TcCoe Idealize.SL.Sem
open Cert.Kernel3Ideal Cert.Kernel3Ideal.Gen Cert.Perm
variable (m : (ℓ : Loc nD τ sig) → Buf (Elt Ideal) ℓ)

/-- An entry of the tokens, of the modulation, of the norm's gain, of the projection's weights and bias, of the convolution's taps and bias. -/
def xs (c : Dev nD) (b : Fin 16) (i d : Fin 2048) : EReal := m ((c : Thread nD τ).loc main_arg0) (ix3 b i d)
/-- See `xs`. -/
def md (c : Dev nD) (b : Fin 16) (k : Fin 9) (d : Fin 2048) : EReal := m ((c : Thread nD τ).loc main_arg1) (ix3 b k d)
/-- See `xs`. -/
def gn (c : Dev nD) (d : Fin 2048) : EReal := m ((c : Thread nD τ).loc main_arg2) (ix3 3 1 d)
/-- See `xs`. -/
def wt (c : Dev nD) (k : Fin 2048) (n : Fin 6144) : EReal := m ((c : Thread nD τ).loc main_arg3) (ix3 1 k n)
/-- See `xs`. -/
def bias (c : Dev nD) (n : Fin 6144) : EReal := m ((c : Thread nD τ).loc main_arg4) (ix2 1 n)
/-- See `xs`. -/
def tap (c : Dev nD) (k : Fin 3) (n : Fin 6144) : EReal := m ((c : Thread nD τ).loc main_arg5) (ix3 1 k n)
/-- See `xs`. -/
def cbias (c : Dev nD) (n : Fin 6144) : EReal := m ((c : Thread nD τ).loc main_arg6) (ix2 1 n)

/-- Which block each window is on at a grid point. -/
theorem idx : ∀ t : Fin cfg0.N, (t.val % 12 = 0 → win0_0.index t = ![t.val / 12, 0]) ∧ win0_1.index t = ![t.val / 12, 0, 0] ∧ win0_2.index t = ![0, 0] ∧
    win0_3.index t = ![0, 0] ∧ win0_4.index t = ![t.val % 12, 0, 0] ∧ win0_5.index t = ![0, t.val % 12] ∧
    win0_6.index t = ![0, t.val % 12] ∧ win0_7.index t = ![0, t.val % 12] ∧ win0_8.index t = ![0, t.val / 12, t.val % 12] ∧ t.val / 12 < 16 :=
  (by decide +kernel : ∀ t : Fin grid0.N, _)

/-- The tokens' array. -/
theorem arr0 (c : Dev nD) : V m c main_v5 = fun j : S32768x2048.Idx =>
    xs m c ⟨(j 0).val / 2048, by have : (j 0).val < 32768 := (j 0).isLt; omega⟩ ⟨(j 0).val % 2048, by omega⟩ (j 1) := by
  unfold_abbrev_sides
  simp only [hostOps0, hostOps0_1, hostOps0_2, List.flatten_cons, List.flatten_nil, List.cons_append, List.nil_append, List.append_nil]
  after_results
  funext j; unfold xs; pointwise []
/-- The modulation's array. -/
theorem arr1 (c : Dev nD) : V m c main_v6 = fun j : S16x3x2048.Idx =>
    md m c (j 0) ⟨3 + (j 1).val, by have : (j 1).val < 3 := (j 1).isLt; omega⟩ (j 2) := by
  unfold_abbrev_sides
  simp only [hostOps0, hostOps0_1, hostOps0_2, List.flatten_cons, List.flatten_nil, List.cons_append, List.nil_append, List.append_nil]
  after_results
  funext j; unfold md; pointwise []
/-- The gain's array. -/
theorem arr2 (c : Dev nD) : V m c main_v15 = fun j : S1x2048.Idx => gn m c (j 1) := by
  unfold_abbrev_sides
  simp only [hostOps0, hostOps0_1, hostOps0_2, List.flatten_cons, List.flatten_nil, List.cons_append, List.nil_append, List.append_nil]
  after_results
  funext j; unfold gn; pointwise []
/-- The array of the 0/1 matrix. -/
theorem arr3 (c : Dev nD) : V m c main_v34 = fun j : S256x256.Idx => if (j 1).val = src (j 0).val then (1 : EReal) else 0 := by
  unfold_abbrev_sides
  simp only [hostOps0, hostOps0_1, hostOps0_2, List.flatten_cons, List.flatten_nil, List.cons_append, List.nil_append, List.append_nil]
  after_results
  simp only [StableHlo.TRef.toBuf, StableHlo.TRef.ofBuf, cast_eq]
  funext j; pointwise []
  exact perm_word (j 1) (j 0)
/-- The weights' array: the columns in twelve blocks of 512. -/
theorem arr4 (c : Dev nD) : V m c main_v4 = fun j : S12x2048x512.Idx =>
    wt m c (j 1) ⟨(j 0).val * 512 + (j 2).val, by have h0 : (j 0).val < 12 := (j 0).isLt; have h2 : (j 2).val < 512 := (j 2).isLt; omega⟩ := by
  unfold_abbrev_sides
  simp only [hostOps0, hostOps0_1, hostOps0_2, List.flatten_cons, List.flatten_nil, List.cons_append, List.nil_append, List.append_nil]
  after_results
  funext j; unfold wt; pointwise []
/-- The bias's array. -/
theorem arr5 (c : Dev nD) : V m c main_v35 = fun j : S1x6144.Idx => bias m c (j 1) := by
  unfold_abbrev_sides
  simp only [hostOps0, hostOps0_1, hostOps0_2, List.flatten_cons, List.flatten_nil, List.cons_append, List.nil_append, List.append_nil]
  after_results
  funext j; unfold bias; pointwise []
/-- The taps' array. -/
theorem arr6 (c : Dev nD) : V m c main_v12 = fun j : S3x6144.Idx => tap m c (j 0) (j 1) := by
  unfold_abbrev_sides
  simp only [hostOps0, hostOps0_1, hostOps0_2, List.flatten_cons, List.flatten_nil, List.cons_append, List.nil_append, List.append_nil]
  after_results
  funext j; unfold tap; pointwise []
/-- The convolution's bias's array. -/
theorem arr7 (c : Dev nD) : V m c main_v36 = fun j : S1x6144.Idx => cbias m c (j 1) := by
  unfold_abbrev_sides
  simp only [hostOps0, hostOps0_1, hostOps0_2, List.flatten_cons, List.flatten_nil, List.cons_append, List.nil_append, List.append_nil]
  after_results
  funext j; unfold cbias; pointwise []

/-- The tokens' block, where it is used. -/
theorem rd0 (c : Dev nD) (t : Fin cfg0.N) (ht : t.val % 12 = 0) (i : Fin 2048) (d : Fin 2048) (b : Fin 16) (hb : b.val = t.val / 12) :
    iblk m c 0 t (ix2 i d) = xs m c b i d := by
  have e0 : win0_0.index t 0 = t.val / 12 := by rw [(idx t).1 ht]; rfl
  have e1 : win0_0.index t 1 = 0 := by rw [(idx t).1 ht]; rfl
  unfold iblk
  exact (congrFun (arr0 m c) _).trans (by congr 1 <;> exact Fin.ext (by dsimp only; blk_simp [e0, e1] <;> omega))
/-- The modulation's block. -/
theorem rd1 (c : Dev nD) (t : Fin cfg0.N) (k : Fin 3) (d : Fin 2048) (b : Fin 16) (hb : b.val = t.val / 12) :
    iblk m c 1 t (ix3 0 k d) = md m c b ⟨3 + k.val, by omega⟩ d := by
  unfold iblk
  exact (congrFun (arr1 m c) _).trans (by congr 1 <;> exact Fin.ext (by dsimp only; blk_simp [idx t] <;> omega))
/-- The gain's block. -/
theorem rd2 (c : Dev nD) (t : Fin cfg0.N) (d : Fin 2048) : iblk m c 2 t (ix2 0 d) = gn m c d := by
  unfold iblk
  exact (congrFun (arr2 m c) _).trans (by congr 1 <;> exact Fin.ext (by dsimp only; blk_simp [idx t] <;> omega))
/-- The 0/1 matrix's block. -/
theorem rd3 (c : Dev nD) (t : Fin cfg0.N) (r k : Fin 256) : iblk m c 3 t (ix2 r k) = if k.val = src r.val then (1 : EReal) else 0 := by
  unfold iblk
  refine (congrFun (arr3 m c) _).trans ?_
  dsimp only
  blk_simp [idx t]
/-- The weights' block. -/
theorem rd4 (c : Dev nD) (t : Fin cfg0.N) (k : Fin 2048) (x : Fin 512) (n : Fin 6144) (hn : n.val = t.val % 12 * 512 + x.val) :
    iblk m c 4 t (ix3 0 k x) = wt m c k n := by
  unfold iblk
  exact (congrFun (arr4 m c) _).trans (by congr 1 <;> exact Fin.ext (by dsimp only; blk_simp [idx t] <;> omega))
/-- The bias's block. -/
theorem rd5 (c : Dev nD) (t : Fin cfg0.N) (x : Fin 512) (n : Fin 6144) (hn : n.val = t.val % 12 * 512 + x.val) :
    iblk m c 5 t (ix2 0 x) = bias m c n := by
  unfold iblk
  exact (congrFun (arr5 m c) _).trans (by congr 1 <;> exact Fin.ext (by dsimp only; blk_simp [idx t] <;> omega))
/-- The taps' block. -/
theorem rd6 (c : Dev nD) (t : Fin cfg0.N) (k : Fin 3) (x : Fin 512) (n : Fin 6144) (hn : n.val = t.val % 12 * 512 + x.val) :
    iblk m c 6 t (ix2 k x) = tap m c k n := by
  unfold iblk
  exact (congrFun (arr6 m c) _).trans (by congr 1 <;> exact Fin.ext (by dsimp only; blk_simp [idx t] <;> omega))
/-- The convolution's bias's block. -/
theorem rd7 (c : Dev nD) (t : Fin cfg0.N) (x : Fin 512) (n : Fin 6144) (hn : n.val = t.val % 12 * 512 + x.val) :
    iblk m c 7 t (ix2 0 x) = cbias m c n := by
  unfold iblk
  exact (congrFun (arr7 m c) _).trans (by congr 1 <;> exact Fin.ext (by dsimp only; blk_simp [idx t] <;> omega))

end Cert.Kernel3Ideal.HyIn
-- ==== Proof.HyInConv.lean ====
module

public import proofs.«01_k».proof.Proof.HyInRd
public import Idealize.ShloMosaic.Lib.WordCmp
public import Idealize.ShloMosaic.Lib.KernelVsHost

@[expose] public section

set_option maxRecDepth 16384

noncomputable section

/-! Hyena's input projection with its short convolution: what one grid point computes from the rows it keeps. -/

namespace Cert.Kernel3Ideal.HyIn

open Idealize.ShloMosaic Idealize.ShloMosaic.TcCoe Idealize.SL.Sem
open Cert.Kernel3Ideal Cert.Kernel3Ideal.Gen Cert.Perm

/-- Reducing a row's number modulo 1024, as the program does it on words, leaves it. -/
theorem mod_word : ∀ q : Fin 1024, Scalar.select
      (IntOp.andi (IntOp.xori (IntOp.cmpi CmpIPredicate.slt (IntOp.remsi ArithUnit.vector (BitVec.ofNat 32 q.val)
          (Scalar.select (Scalar.cmpi CmpIPredicate.eq 1024#32 0#32) 1#32 1024#32)) 0#32)
          (Scalar.cmpi CmpIPredicate.slt (Scalar.select (Scalar.cmpi CmpIPredicate.eq 1024#32 0#32) 1#32 1024#32) 0#32))
        (IntOp.cmpi CmpIPredicate.ne (IntOp.remsi ArithUnit.vector (BitVec.ofNat 32 q.val)
            (Scalar.select (Scalar.cmpi CmpIPredicate.eq 1024#32 0#32) 1#32 1024#32)) 0#32))
      (IntOp.addi (IntOp.remsi ArithUnit.vector (BitVec.ofNat 32 q.val)
          (Scalar.select (Scalar.cmpi CmpIPredicate.eq 1024#32 0#32) 1#32 1024#32))
        (Scalar.select (Scalar.cmpi CmpIPredicate.eq 1024#32 0#32) 1#32 1024#32))
      (IntOp.remsi ArithUnit.vector (BitVec.ofNat 32 q.val)
        (Scalar.select (Scalar.cmpi CmpIPredicate.eq 1024#32 0#32) 1#32 1024#32))
    = BitVec.ofNat 32 q.val := by
  decide +kernel
/-- The words that number the rows. -/
theorem row_word (y : S1024x1.Idx) : k0_pay53 y = BitVec.ofNat 32 (y 0).val := by
  unfold k0_pay53
  pointwise []
  exact mod_word (y 0)
/-- A row's number compared with a literal, on words. -/
theorem eq_word (q : Fin 1024) (n : ℕ) (hn : n < 4294967296) :
    IntOp.cmpi CmpIPredicate.eq (BitVec.ofNat 32 q.val) (BitVec.ofNat 32 n) = BitVec.ofBool (decide (q.val = n)) :=
  WordCmp.cmpi_eq_ofNat (by omega) hn

/-- An entry of the projection. -/
def pr (H : Vec Ideal S2048x2048 .bf16) (W : Vec Ideal S1x2048x512 .bf16) (B : Vec Ideal S1x512 .f32) (r : Fin 2048) (x : Fin 512) : EReal :=
  (∑ k : Fin 2048, H (ix2 r k) * W (ix3 0 k x)) + B (ix2 0 x)
/-- The projection as the program computes it. -/
theorem pay50_at (H : Vec Ideal S2048x2048 .bf16) (W : Vec Ideal S1x2048x512 .bf16) (B : Vec Ideal S1x512 .f32) (j : S2048x512.Idx) :
    k0_pay50 H W B j = pr H W B (j 0) (j 1) := by
  unfold k0_pay50 pr
  pointwise []
/-- The projection one position back, zero before the first. -/
def prev (H : Vec Ideal S2048x2048 .bf16) (W : Vec Ideal S1x2048x512 .bf16) (B : Vec Ideal S1x512 .f32) (q : Fin 1024) (x : Fin 512) : EReal :=
  if q.val = 0 then 0 else pr H W B ⟨q.val + 1023, by omega⟩ x
/-- The projection one position on, zero after the last. -/
def next (H : Vec Ideal S2048x2048 .bf16) (W : Vec Ideal S1x2048x512 .bf16) (B : Vec Ideal S1x512 .f32) (q : Fin 1024) (x : Fin 512) : EReal :=
  if q.val = 1023 then 0 else pr H W B ⟨q.val + 1, by omega⟩ x
/-- `prev` as the program computes it. -/
theorem pay54_at (H : Vec Ideal S2048x2048 .bf16) (W : Vec Ideal S1x2048x512 .bf16) (B : Vec Ideal S1x512 .f32) (j : S1024x512.Idx) :
    k0_pay54 H W B j = prev H W B (j 0) (j 1) := by
  unfold k0_pay54 k0_pay52 prev
  pointwise [row_word, pay50_at]
  have hw := eq_word (j 0) 0 (by decide)
  have h1 : (j 0).val < 1024 := (j 0).isLt
  by_cases h : (j 0).val = 0
  · rw [hw, if_pos h]; simp only [h, decide_true]; rfl
  · rw [hw, if_neg h]; simp only [h, decide_false]
    refine Eq.trans (b := pr H W B ⟨1024 + ((j 0).val + 1024 - 1) % 1024, by omega⟩ (j 1)) rfl ?_
    congr 1; exact Fin.ext (by dsimp only; omega)
/-- `next` as the program computes it. -/
theorem pay55_at (H : Vec Ideal S2048x2048 .bf16) (W : Vec Ideal S1x2048x512 .bf16) (B : Vec Ideal S1x512 .f32) (j : S1024x512.Idx) :
    Scalar.select (k0_pay56 j) (k0_pay57 j) (k0_pay55 H W B j) = next H W B (j 0) (j 1) := by
  unfold k0_pay55 k0_pay51 k0_pay56 k0_pay57 next
  pointwise [row_word, pay50_at]
  have hw := eq_word (j 0) 1023 (by decide)
  have h1 : (j 0).val < 1024 := (j 0).isLt
  by_cases h : (j 0).val = 1023
  · rw [hw, if_pos h]; simp only [h, decide_true]; rfl
  · rw [hw, if_neg h]; simp only [h, decide_false]
    refine Eq.trans (b := pr H W B ⟨((j 0).val + 1024 - 1023) % 1024, by omega⟩ (j 1)) rfl ?_
    congr 1; exact Fin.ext (by dsimp only; omega)

/-- Three taps around a position and the convolution's bias. -/
def taps (p q r : EReal) (w0 w1 w2 cb : Vec Ideal S1x512 .f32) (x : Fin 512) : EReal :=
  ((cb (ix2 0 x) + p * w0 (ix2 0 x)) + q * w1 (ix2 0 x)) + r * w2 (ix2 0 x)

/-- What a grid point writes for the even positions. -/
theorem even_at (H : Vec Ideal S2048x2048 .bf16) (W : Vec Ideal S1x2048x512 .bf16) (B w0 w1 w2 cb : Vec Ideal S1x512 .f32) (j : S1x1024x512.Idx) :
    k0_pay5 (k0_pay51 H W B) (k0_pay52 H W B) (k0_pay54 H W B) w0 w1 w2 cb j
      = taps (prev H W B (j 1) (j 2)) (pr H W B ⟨(j 1).val, lt_trans (j 1).isLt (by decide)⟩ (j 2))
          (pr H W B ⟨1024 + (j 1).val, Nat.add_lt_add_left (j 1).isLt 1024⟩ (j 2)) w0 w1 w2 cb (j 2) := by
  unfold k0_pay5 k0_pay2 k0_pay3 k0_pay4 k0_pay51 k0_pay52 taps
  pointwise [pay54_at, pay50_at]
/-- What a grid point writes for the odd positions. -/
theorem odd_at (H : Vec Ideal S2048x2048 .bf16) (W : Vec Ideal S1x2048x512 .bf16) (B w0 w1 w2 cb : Vec Ideal S1x512 .f32) (j : S1x1024x512.Idx) :
    k0_pay6 (k0_pay51 H W B) (k0_pay52 H W B) (k0_pay55 H W B) k0_pay56 k0_pay57 w0 w1 w2 cb j
      = taps (pr H W B ⟨(j 1).val, lt_trans (j 1).isLt (by decide)⟩ (j 2)) (pr H W B ⟨1024 + (j 1).val, Nat.add_lt_add_left (j 1).isLt 1024⟩ (j 2))
          (next H W B (j 1) (j 2)) w0 w1 w2 cb (j 2) := by
  unfold k0_pay6 k0_pay2 k0_pay3 k0_pay4 k0_pay51 k0_pay52 taps
  pointwise [pay55_at, pay50_at]

/-- The same computation, as the first column block's grid points spell it. -/
theorem even_first (H : Vec Ideal S2048x2048 .bf16) (W : Vec Ideal S1x2048x512 .bf16) (B w0 w1 w2 cb : Vec Ideal S1x512 .f32) :
    k0_pay47 (k0_pay39 H W B) (k0_pay40 H W B) k0_pay42 w0 w1 w2 cb
      = k0_pay5 (k0_pay51 H W B) (k0_pay52 H W B) (k0_pay54 H W B) w0 w1 w2 cb := rfl
/-- The same computation, as the first column block's grid points spell it. -/
theorem odd_first (H : Vec Ideal S2048x2048 .bf16) (W : Vec Ideal S1x2048x512 .bf16) (B w0 w1 w2 cb : Vec Ideal S1x512 .f32) :
    k0_pay1 (k0_pay40 H W B) (k0_pay43 (k0_pay39 H W B) k0_pay41) (k0_pay46 w2) (k0_pay48 (k0_pay39 H W B) w0 cb) (k0_pay49 w1)
      = k0_pay6 (k0_pay51 H W B) (k0_pay52 H W B) (k0_pay55 H W B) k0_pay56 k0_pay57 w0 w1 w2 cb := rfl

/-- The rows a group writes: normalised, modulated, and put even positions first. -/
theorem group_at (X : Vec Ideal S256x2048 .f32) (G : Vec Ideal S1x2048 .f32) (A S : Vec Ideal S1x1x2048 .f32) (P : Vec Ideal S256x256 .bf16)
    (hP : ∀ r k : Fin 256, P (ix2 r k) = if k.val = src r.val then (1 : EReal) else 0) (j : S256x2048.Idx) (s : Fin 256) (hs : s.val = src (j 0).val) :
    k0_pay7 X G A S P j = FfnSpec.normed (fun d => X (ix2 s d)) (fun d => G (ix2 0 d)) (fun d => A (ix3 0 0 d)) (fun d => S (ix3 0 0 d)) (j 1) := by
  unfold k0_pay7
  pointwise []
  refine (pick _ s (fun k => (hP (j 0) k).trans (if_congr (by rw [← hs, Fin.ext_iff]) rfl rfl)) _).trans ?_
  unfold FfnSpec.normed
  pointwise []

end Cert.Kernel3Ideal.HyIn
-- ==== Proof.HyInRef.lean ====
module

public import proofs.«01_k».proof.Defs
public import proofs.«01_k».proof.Proof.Gen.Reference3Ideal.Run
public import Idealize.ShloMosaic.Lib.Pipeline.ValueKit
public import Idealize.ShloMosaic.Lib.KernelVsHost
public import proofs.«01_k».proof.Proof.FfnSpec

@[expose] public section

set_option maxRecDepth 16384

noncomputable section

/-! Hyena's input projection with its short convolution: the value of an entry, and that the reference has it. -/

namespace Cert.HyInSpec

open Idealize.ShloMosaic

/-- The projection of position `i`: `h · w + bias` of its normalised row `h`. -/
def proj (h : Fin 2048 → Fin 2048 → EReal) (w : Fin 2048 → EReal) (bias : EReal) (i : Fin 2048) : EReal :=
  (∑ k, h i k * w k) + bias
/-- A channel's short convolution at position `i`: three taps on a sequence that is zero outside `0 … 2047`, and a bias. -/
def conv (y : Fin 2048 → EReal) (w0 w1 w2 cb : EReal) (i : Fin 2048) : EReal :=
  ((cb + (if h : i.val = 0 then 0 else y ⟨i.val - 1, by omega⟩) * w0) + y i * w1)
    + (if h : i.val = 2047 then 0 else y ⟨i.val + 1, by omega⟩) * w2

end Cert.HyInSpec

namespace Cert.Reference3Ideal.HyIn

open Idealize.ShloMosaic Idealize.ShloMosaic.TcCoe Idealize.SL.Sem
open Cert.Reference3Ideal Cert.Reference3Ideal.Gen

/-- The reference's projection, over named arguments. -/
theorem proj_at (X : FVec Ideal S16x2048x2048 .f32) (M : FVec Ideal S16x9x2048 .f32) (G : FVec Ideal S4x3x2048 .f32)
    (W : FVec Ideal S2x2048x6144 .f32) (B : FVec Ideal S2x6144 .f32) (j : S16x2048x6144.Idx) :
    (addf (Host.dotGeneral dot_S16x2048x2048_S2048x6144_S16x2048x6144_2_0_01_1_n_n none (addf (mulf (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ (extractStridedSlice S1x1x2048 ![3, 1, 0] G slices_S4x3x2048_S1x1x2048_3_1_0) shapeCasts_S1x1x2048_S2048)))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (shapeCast _ (extractStridedSlice S16x1x2048 ![0, 4, 0] M slices_S16x9x2048_S16x1x2048_0_4_0) shapeCasts_S16x1x2048_S16x2048))))) (broadcastInDim S16x2048x2048 ![0, 1, 2] bcast_S16x1x2048_S16x2048x2048_0_1_2 (broadcastInDim S16x1x2048 ![0, 2] bcast_S16x2048_S16x1x2048_0_2 (shapeCast _ (extractStridedSlice S16x1x2048 ![0, 3, 0] M slices_S16x9x2048_S16x1x2048_0_3_0) shapeCasts_S16x1x2048_S16x2048)))) (shapeCast _ (extractStridedSlice S1x2048x6144 ![1, 0, 0] W slices_S2x2048x6144_S1x2048x6144_1_0_0) shapeCasts_S1x2048x6144_S2048x6144)) (broadcastInDim S16x2048x6144 ![0, 1, 2] bcast_S1x1x6144_S16x2048x6144_0_1_2 (broadcastInDim S1x1x6144 ![2] bcast_S6144_S1x1x6144_2 (shapeCast _ (extractStridedSlice S1x6144 ![1, 0] B slices_S2x6144_S1x6144_1_0) shapeCasts_S1x6144_S6144))) : FVec Ideal S16x2048x6144 .f32) j
      = HyInSpec.proj (fun i => FfnSpec.normed (fun d => X (ix3 (j 0) i d)) (fun d => G (ix3 3 1 d)) (fun d => M (ix3 (j 0) 3 d))
          (fun d => M (ix3 (j 0) 4 d))) (fun k => W (ix3 1 k (j 2))) (B (ix2 1 (j 2))) (j 1) := by
  pointwise [HyInSpec.proj, FfnSpec.normed]

/-- Three products and a summand, factor by factor. -/
theorem taps_congr {a a' b b' c c' : EReal} (k u v w : EReal) (ha : a = a') (hb : b = b') (hc : c = c') :
    k + a * u + b * v + c * w = k + a' * u + b' * v + c' * w := by
  rw [ha, hb, hc]
/-- The padding's value. -/
theorem zero_word : @Eq EReal (FloatOps.sitofp (F := Ideal) FTy.f32 (0#32)) 0 := by
  show (((0#32 : BitVec 32).toInt : ℝ) : EReal) = 0
  simp

/-- The reference's convolution, over a named projection. -/
theorem conv_at (Y : FVec Ideal S16x2048x6144 .f32) (T : FVec Ideal S2x3x6144 .f32) (C : FVec Ideal S2x6144 .f32) (j : S2x16384x6144.Idx)
    (hb : (j 1).val / 1024 < 16) (hi : 2 * ((j 1).val % 1024) + (j 0).val < 2048) :
    (truncf .bf16 (transpose S2x16384x6144 [1, 0, 2] (shapeCast _ (addf (addf (addf (broadcastInDim S16x2048x6144 ![0, 1, 2] bcast_S1x1x6144_S16x2048x6144_0_1_2 (broadcastInDim S1x1x6144 ![2] bcast_S6144_S1x1x6144_2 (shapeCast _ (extractStridedSlice S1x6144 ![1, 0] C slices_S2x6144_S1x6144_1_0) shapeCasts_S1x6144_S6144))) (mulf (extractStridedSlice S16x2048x6144 ![0, 0, 0] (pad S16x2050x6144 ![0, 1, 0] ![0, 1, 0] ![0, 0, 0] Y (sitofp .f32 (constantI S_ 32 0#32)) pads_S16x2048x6144_S16x2050x6144_000_110_000 h_S_) slices_S16x2050x6144_S16x2048x6144_0_0_0) (broadcastInDim S16x2048x6144 ![0, 1, 2] bcast_S1x1x6144_S16x2048x6144_0_1_2 (broadcastInDim S1x1x6144 ![2] bcast_S6144_S1x1x6144_2 (shapeCast _ (extractStridedSlice S1x1x6144 ![1, 0, 0] T slices_S2x3x6144_S1x1x6144_1_0_0) shapeCasts_S1x1x6144_S6144))))) (mulf (extractStridedSlice S16x2048x6144 ![0, 1, 0] (pad S16x2050x6144 ![0, 1, 0] ![0, 1, 0] ![0, 0, 0] Y (sitofp .f32 (constantI S_ 32 0#32)) pads_S16x2048x6144_S16x2050x6144_000_110_000 h_S_) slices_S16x2050x6144_S16x2048x6144_0_1_0) (broadcastInDim S16x2048x6144 ![0, 1, 2] bcast_S1x1x6144_S16x2048x6144_0_1_2 (broadcastInDim S1x1x6144 ![2] bcast_S6144_S1x1x6144_2 (shapeCast _ (extractStridedSlice S1x1x6144 ![1, 1, 0] T slices_S2x3x6144_S1x1x6144_1_1_0) shapeCasts_S1x1x6144_S6144))))) (mulf (extractStridedSlice S16x2048x6144 ![0, 2, 0] (pad S16x2050x6144 ![0, 1, 0] ![0, 1, 0] ![0, 0, 0] Y (sitofp .f32 (constantI S_ 32 0#32)) pads_S16x2048x6144_S16x2050x6144_000_110_000 h_S_) slices_S16x2050x6144_S16x2048x6144_0_2_0) (broadcastInDim S16x2048x6144 ![0, 1, 2] bcast_S1x1x6144_S16x2048x6144_0_1_2 (broadcastInDim S1x1x6144 ![2] bcast_S6144_S1x1x6144_2 (shapeCast _ (extractStridedSlice S1x1x6144 ![1, 2, 0] T slices_S2x3x6144_S1x1x6144_1_2_0) shapeCasts_S1x1x6144_S6144))))) shapeCasts_S16x2048x6144_S16384x2x6144) transposes_S16384x2x6144_S2x16384x6144_1_0_2) bitsLt_bf16_f32 : FVec Ideal S2x16384x6144 .bf16) j
      = HyInSpec.conv (fun i => Y (ix3 ⟨_, hb⟩ i (j 2))) (T (ix3 1 0 (j 2))) (T (ix3 1 1 (j 2))) (T (ix3 1 2 (j 2))) (C (ix2 1 (j 2))) ⟨_, hi⟩ := by
  pointwise [HyInSpec.conv]
  refine taps_congr _ _ _ _ ?_ ?_ ?_
  · by_cases h : 2 * ((j 1).val % 1024) + (j 0).val = 0
    · refine (dif_neg (by omega)).trans (zero_word.trans (Eq.symm ?_)); exact dif_pos h
    · refine (dif_pos ⟨hb, by omega, by omega⟩).trans (Eq.trans ?_ (dif_neg h).symm)
      exact congrArg (fun i => Y (ix3 ⟨_, hb⟩ i (j 2))) (Fin.ext (by dsimp only; omega))
  · refine (dif_pos ⟨hb, by omega⟩).trans ?_
    exact congrArg (fun i => Y (ix3 ⟨_, hb⟩ i (j 2))) (Fin.ext (by dsimp only; omega))
  · by_cases h : 2 * ((j 1).val % 1024) + (j 0).val = 2047
    · refine (dif_neg (by omega)).trans (zero_word.trans (Eq.symm ?_)); exact dif_pos h
    · refine (dif_pos ⟨hb, by omega, by omega⟩).trans (Eq.trans ?_ (dif_neg h).symm)
      exact congrArg (fun i => Y (ix3 ⟨_, hb⟩ i (j 2))) (Fin.ext (by dsimp only; omega))

/-- An entry of the reference's result. -/
theorem ref_at (X : FVec Ideal S16x2048x2048 .f32) (M : FVec Ideal S16x9x2048 .f32) (G : FVec Ideal S4x3x2048 .f32)
    (W : FVec Ideal S2x2048x6144 .f32) (B : FVec Ideal S2x6144 .f32) (T : FVec Ideal S2x3x6144 .f32) (C : FVec Ideal S2x6144 .f32) (j : S2x16384x6144.Idx)
    (hb : (j 1).val / 1024 < 16) (hi : 2 * ((j 1).val % 1024) + (j 0).val < 2048) :
    (truncf .bf16 (transpose S2x16384x6144 [1, 0, 2] (shapeCast _ (addf (addf (addf (broadcastInDim S16x2048x6144 ![0, 1, 2] bcast_S1x1x6144_S16x2048x6144_0_1_2 (broadcastInDim S1x1x6144 ![2] bcast_S6144_S1x1x6144_2 (shapeCast _ (extractStridedSlice S1x6144 ![1, 0] C slices_S2x6144_S1x6144_1_0) shapeCasts_S1x6144_S6144))) (mulf (extractStridedSlice S16x2048x6144 ![0, 0, 0] (pad S16x2050x6144 ![0, 1, 0] ![0, 1, 0] ![0, 0, 0] (addf (Host.dotGeneral dot_S16x2048x2048_S2048x6144_S16x2048x6144_2_0_01_1_n_n none (addf (mulf (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ (extractStridedSlice S1x1x2048 ![3, 1, 0] G slices_S4x3x2048_S1x1x2048_3_1_0) shapeCasts_S1x1x2048_S2048)))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (shapeCast _ (extractStridedSlice S16x1x2048 ![0, 4, 0] M slices_S16x9x2048_S16x1x2048_0_4_0) shapeCasts_S16x1x2048_S16x2048))))) (broadcastInDim S16x2048x2048 ![0, 1, 2] bcast_S16x1x2048_S16x2048x2048_0_1_2 (broadcastInDim S16x1x2048 ![0, 2] bcast_S16x2048_S16x1x2048_0_2 (shapeCast _ (extractStridedSlice S16x1x2048 ![0, 3, 0] M slices_S16x9x2048_S16x1x2048_0_3_0) shapeCasts_S16x1x2048_S16x2048)))) (shapeCast _ (extractStridedSlice S1x2048x6144 ![1, 0, 0] W slices_S2x2048x6144_S1x2048x6144_1_0_0) shapeCasts_S1x2048x6144_S2048x6144)) (broadcastInDim S16x2048x6144 ![0, 1, 2] bcast_S1x1x6144_S16x2048x6144_0_1_2 (broadcastInDim S1x1x6144 ![2] bcast_S6144_S1x1x6144_2 (shapeCast _ (extractStridedSlice S1x6144 ![1, 0] B slices_S2x6144_S1x6144_1_0) shapeCasts_S1x6144_S6144)))) (sitofp .f32 (constantI S_ 32 0#32)) pads_S16x2048x6144_S16x2050x6144_000_110_000 h_S_) slices_S16x2050x6144_S16x2048x6144_0_0_0) (broadcastInDim S16x2048x6144 ![0, 1, 2] bcast_S1x1x6144_S16x2048x6144_0_1_2 (broadcastInDim S1x1x6144 ![2] bcast_S6144_S1x1x6144_2 (shapeCast _ (extractStridedSlice S1x1x6144 ![1, 0, 0] T slices_S2x3x6144_S1x1x6144_1_0_0) shapeCasts_S1x1x6144_S6144))))) (mulf (extractStridedSlice S16x2048x6144 ![0, 1, 0] (pad S16x2050x6144 ![0, 1, 0] ![0, 1, 0] ![0, 0, 0] (addf (Host.dotGeneral dot_S16x2048x2048_S2048x6144_S16x2048x6144_2_0_01_1_n_n none (addf (mulf (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ (extractStridedSlice S1x1x2048 ![3, 1, 0] G slices_S4x3x2048_S1x1x2048_3_1_0) shapeCasts_S1x1x2048_S2048)))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (shapeCast _ (extractStridedSlice S16x1x2048 ![0, 4, 0] M slices_S16x9x2048_S16x1x2048_0_4_0) shapeCasts_S16x1x2048_S16x2048))))) (broadcastInDim S16x2048x2048 ![0, 1, 2] bcast_S16x1x2048_S16x2048x2048_0_1_2 (broadcastInDim S16x1x2048 ![0, 2] bcast_S16x2048_S16x1x2048_0_2 (shapeCast _ (extractStridedSlice S16x1x2048 ![0, 3, 0] M slices_S16x9x2048_S16x1x2048_0_3_0) shapeCasts_S16x1x2048_S16x2048)))) (shapeCast _ (extractStridedSlice S1x2048x6144 ![1, 0, 0] W slices_S2x2048x6144_S1x2048x6144_1_0_0) shapeCasts_S1x2048x6144_S2048x6144)) (broadcastInDim S16x2048x6144 ![0, 1, 2] bcast_S1x1x6144_S16x2048x6144_0_1_2 (broadcastInDim S1x1x6144 ![2] bcast_S6144_S1x1x6144_2 (shapeCast _ (extractStridedSlice S1x6144 ![1, 0] B slices_S2x6144_S1x6144_1_0) shapeCasts_S1x6144_S6144)))) (sitofp .f32 (constantI S_ 32 0#32)) pads_S16x2048x6144_S16x2050x6144_000_110_000 h_S_) slices_S16x2050x6144_S16x2048x6144_0_1_0) (broadcastInDim S16x2048x6144 ![0, 1, 2] bcast_S1x1x6144_S16x2048x6144_0_1_2 (broadcastInDim S1x1x6144 ![2] bcast_S6144_S1x1x6144_2 (shapeCast _ (extractStridedSlice S1x1x6144 ![1, 1, 0] T slices_S2x3x6144_S1x1x6144_1_1_0) shapeCasts_S1x1x6144_S6144))))) (mulf (extractStridedSlice S16x2048x6144 ![0, 2, 0] (pad S16x2050x6144 ![0, 1, 0] ![0, 1, 0] ![0, 0, 0] (addf (Host.dotGeneral dot_S16x2048x2048_S2048x6144_S16x2048x6144_2_0_01_1_n_n none (addf (mulf (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ (extractStridedSlice S1x1x2048 ![3, 1, 0] G slices_S4x3x2048_S1x1x2048_3_1_0) shapeCasts_S1x1x2048_S2048)))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (shapeCast _ (extractStridedSlice S16x1x2048 ![0, 4, 0] M slices_S16x9x2048_S16x1x2048_0_4_0) shapeCasts_S16x1x2048_S16x2048))))) (broadcastInDim S16x2048x2048 ![0, 1, 2] bcast_S16x1x2048_S16x2048x2048_0_1_2 (broadcastInDim S16x1x2048 ![0, 2] bcast_S16x2048_S16x1x2048_0_2 (shapeCast _ (extractStridedSlice S16x1x2048 ![0, 3, 0] M slices_S16x9x2048_S16x1x2048_0_3_0) shapeCasts_S16x1x2048_S16x2048)))) (shapeCast _ (extractStridedSlice S1x2048x6144 ![1, 0, 0] W slices_S2x2048x6144_S1x2048x6144_1_0_0) shapeCasts_S1x2048x6144_S2048x6144)) (broadcastInDim S16x2048x6144 ![0, 1, 2] bcast_S1x1x6144_S16x2048x6144_0_1_2 (broadcastInDim S1x1x6144 ![2] bcast_S6144_S1x1x6144_2 (shapeCast _ (extractStridedSlice S1x6144 ![1, 0] B slices_S2x6144_S1x6144_1_0) shapeCasts_S1x6144_S6144)))) (sitofp .f32 (constantI S_ 32 0#32)) pads_S16x2048x6144_S16x2050x6144_000_110_000 h_S_) slices_S16x2050x6144_S16x2048x6144_0_2_0) (broadcastInDim S16x2048x6144 ![0, 1, 2] bcast_S1x1x6144_S16x2048x6144_0_1_2 (broadcastInDim S1x1x6144 ![2] bcast_S6144_S1x1x6144_2 (shapeCast _ (extractStridedSlice S1x1x6144 ![1, 2, 0] T slices_S2x3x6144_S1x1x6144_1_2_0) shapeCasts_S1x1x6144_S6144))))) shapeCasts_S16x2048x6144_S16384x2x6144) transposes_S16384x2x6144_S2x16384x6144_1_0_2) bitsLt_bf16_f32 : FVec Ideal S2x16384x6144 .bf16) j
      = HyInSpec.conv (HyInSpec.proj (fun i => FfnSpec.normed (fun d => X (ix3 ⟨_, hb⟩ i d)) (fun d => G (ix3 3 1 d)) (fun d => M (ix3 ⟨_, hb⟩ 3 d))
          (fun d => M (ix3 ⟨_, hb⟩ 4 d))) (fun k => W (ix3 1 k (j 2))) (B (ix2 1 (j 2))))
          (T (ix3 1 0 (j 2))) (T (ix3 1 1 (j 2))) (T (ix3 1 2 (j 2))) (C (ix2 1 (j 2))) ⟨_, hi⟩ :=
  (conv_at _ T C j hb hi).trans (congrArg (fun y => HyInSpec.conv y _ _ _ _ _) (funext fun i => proj_at X M G W B (ix3 ⟨_, hb⟩ i (j 2))))

end Cert.Reference3Ideal.HyIn
-- ==== Proof.HyInKernel.lean ====
module

public import proofs.«01_k».proof.Proof.HyInConv
public import proofs.«01_k».proof.Proof.HyInRef

@[expose] public section

set_option maxRecDepth 16384

noncomputable section

/-! Hyena's input projection with its short convolution: the kernel's result. -/

namespace Cert.Kernel3Ideal.HyIn

open Idealize.ShloMosaic Idealize.ShloMosaic.TcCoe Idealize.SL.Sem
open Cert.Kernel3Ideal Cert.Kernel3Ideal.Gen Cert.Perm
variable (m : (ℓ : Loc nD τ sig) → Buf (Elt Ideal) ℓ)

/-- The normalised row of a sample's position. -/
def hrow (c : Dev nD) (b : Fin 16) (i : Fin 2048) : Fin 2048 → EReal :=
  FfnSpec.normed (xs m c b i) (gn m c) (md m c b 3) (md m c b 4)
/-- The position that a kept row holds: the even positions first. -/
def posOf (r : Fin 2048) : Fin 2048 := ⟨if r.val < 1024 then 2 * r.val else 2 * (r.val - 1024) + 1, by split <;> omega⟩

/-- A group of 256 positions as it is read off the tokens' block. -/
theorem ld_rows (X : Vec Ideal S2048x2048 .f32) (o : ℕ) (inb : ∀ a : Fin 2, ![o, 0] a + S256x2048.size a ≤ S2048x2048.size a) (s : Fin 256)
    (d : Fin 2048) (ho : o + s.val < 2048) :
    View.ld X (Rect.unit ![o, 0] S256x2048.size inb) (ix2 s d) = X (ix2 ⟨o + s.val, ho⟩ d) := by
  refine View.ld_unit_apply_of X _ _ inb _ _ fun a => ?_
  match a with
  | ⟨0, _⟩ => rfl
  | ⟨1, _⟩ => show d.val = 0 + d.val; omega
/-- A row of the modulation as it is read off its block. -/
theorem ld_mod (X : Vec Ideal S1x3x2048 .f32) (k : Fin 3) (inb : ∀ a : Fin 3, ![0, k.val, 0] a + S1x1x2048.size a ≤ S1x3x2048.size a) (d : Fin 2048) :
    View.ld X (Rect.unit ![0, k.val, 0] S1x1x2048.size inb) (ix3 0 0 d) = X (ix3 0 k d) := by
  refine View.ld_unit_apply_of X _ _ inb _ _ fun a => ?_
  match a with
  | ⟨0, _⟩ => rfl
  | ⟨1, _⟩ => rfl
  | ⟨2, _⟩ => show d.val = 0 + d.val; omega

/-- A group's rows after the reordering. -/
theorem group_rows (c : Dev nD) (t : Fin cfg0.N) (ht : t.val % 12 = 0) (b : Fin 16) (hb : b.val = t.val / 12) (o : ℕ)
    (inb : ∀ a : Fin 2, ![o, 0] a + S256x2048.size a ≤ S2048x2048.size a)
    (inb0 : ∀ a : Fin 3, ![0, 0, 0] a + S1x1x2048.size a ≤ S1x3x2048.size a) (inb1 : ∀ a : Fin 3, ![0, 1, 0] a + S1x1x2048.size a ≤ S1x3x2048.size a)
    (r : Fin 256) (d i : Fin 2048) (hi : i.val = o + src r.val) :
    k0_pay7 (View.ld (iblk m c 0 t) (Rect.unit ![o, 0] S256x2048.size inb)) (iblk m c 2 t)
      (View.ld (iblk m c 1 t) (Rect.unit ![0, 0, 0] S1x1x2048.size inb0)) (View.ld (iblk m c 1 t) (Rect.unit ![0, 1, 0] S1x1x2048.size inb1))
      (iblk m c 3 t) (ix2 r d) = hrow m c b i d := by
  have hs : src r.val < 256 := by unfold src; split <;> omega
  refine (group_at _ _ _ _ _ (fun r k => rd3 m c t r k) (ix2 r d) ⟨src r.val, hs⟩ rfl).trans ?_
  unfold hrow
  congr 1
  · funext e
    refine (ld_rows _ o inb _ e (by dsimp only; omega)).trans ((rd0 m c t ht _ e b hb).trans ?_)
    congr 1; exact Fin.ext hi.symm
  · funext e; exact rd2 m c t e
  · funext e; exact (ld_mod _ 0 inb0 e).trans (rd1 m c t 0 e b hb)
  · funext e; exact (ld_mod _ 1 inb1 e).trans (rd1 m c t 1 e b hb)

/-- The first half of a group's rows: its even positions. -/
theorem even_rows (c : Dev nD) (t : Fin cfg0.N) (ht : t.val % 12 = 0) (b : Fin 16) (hb : b.val = t.val / 12) (o : ℕ)
    (inb : ∀ a : Fin 2, ![o, 0] a + S256x2048.size a ≤ S2048x2048.size a)
    (inb0 : ∀ a : Fin 3, ![0, 0, 0] a + S1x1x2048.size a ≤ S1x3x2048.size a) (inb1 : ∀ a : Fin 3, ![0, 1, 0] a + S1x1x2048.size a ≤ S1x3x2048.size a)
    (x : S128x2048.Idx) (i d : Fin 2048) (hi : i.val = o + 2 * (x 0).val) (hd : d.val = (x 1).val) :
    k0_pay8 (View.ld (iblk m c 0 t) (Rect.unit ![o, 0] S256x2048.size inb)) (iblk m c 2 t)
      (View.ld (iblk m c 1 t) (Rect.unit ![0, 0, 0] S1x1x2048.size inb0)) (View.ld (iblk m c 1 t) (Rect.unit ![0, 1, 0] S1x1x2048.size inb1))
      (iblk m c 3 t) x = hrow m c b i d := by
  obtain rfl : x 1 = d := Fin.ext hd.symm
  have h0 : (x 0).val < 128 := (x 0).isLt
  refine Eq.trans ?_ (group_rows m c t ht b hb o inb inb0 inb1 ⟨(x 0).val, by omega⟩ (x 1) i (by rw [hi]; simp only [src, if_pos h0]))
  unfold k0_pay8
  pointwise []
/-- The second half of a group's rows: its odd positions. -/
theorem odd_rows (c : Dev nD) (t : Fin cfg0.N) (ht : t.val % 12 = 0) (b : Fin 16) (hb : b.val = t.val / 12) (o : ℕ)
    (inb : ∀ a : Fin 2, ![o, 0] a + S256x2048.size a ≤ S2048x2048.size a)
    (inb0 : ∀ a : Fin 3, ![0, 0, 0] a + S1x1x2048.size a ≤ S1x3x2048.size a) (inb1 : ∀ a : Fin 3, ![0, 1, 0] a + S1x1x2048.size a ≤ S1x3x2048.size a)
    (x : S128x2048.Idx) (i d : Fin 2048) (hi : i.val = o + 2 * (x 0).val + 1) (hd : d.val = (x 1).val) :
    k0_pay10 (k0_pay9 (View.ld (iblk m c 0 t) (Rect.unit ![o, 0] S256x2048.size inb)) (iblk m c 2 t)
      (View.ld (iblk m c 1 t) (Rect.unit ![0, 0, 0] S1x1x2048.size inb0)) (View.ld (iblk m c 1 t) (Rect.unit ![0, 1, 0] S1x1x2048.size inb1))
      (iblk m c 3 t)) x = hrow m c b i d := by
  obtain rfl : x 1 = d := Fin.ext hd.symm
  have h0 : (x 0).val < 128 := (x 0).isLt
  refine Eq.trans ?_ (group_rows m c t ht b hb o inb inb0 inb1 ⟨128 + (x 0).val, by omega⟩ (x 1) i
    (by rw [hi]; simp only [src, if_neg (show ¬ 128 + (x 0).val < 128 by omega)]; omega))
  unfold k0_pay10 k0_pay9
  pointwise []

/-- Another group's half is the same computation. -/
theorem half13 (X : Vec Ideal S256x2048 .f32) (G : Vec Ideal S1x2048 .f32) (A S : Vec Ideal S1x1x2048 .f32) (P : Vec Ideal S256x256 .bf16) : k0_pay12 X G A S P = k0_pay8 X G A S P := rfl
/-- Another group's half is the same computation. -/
theorem half12 (X : Vec Ideal S256x2048 .f32) (G : Vec Ideal S1x2048 .f32) (A S : Vec Ideal S1x1x2048 .f32) (P : Vec Ideal S256x256 .bf16) : k0_pay14 (k0_pay13 X G A S P) = k0_pay10 (k0_pay9 X G A S P) := rfl
/-- Another group's half is the same computation. -/
theorem half11 (X : Vec Ideal S256x2048 .f32) (G : Vec Ideal S1x2048 .f32) (A S : Vec Ideal S1x1x2048 .f32) (P : Vec Ideal S256x256 .bf16) : k0_pay16 X G A S P = k0_pay8 X G A S P := rfl
/-- Another group's half is the same computation. -/
theorem half10 (X : Vec Ideal S256x2048 .f32) (G : Vec Ideal S1x2048 .f32) (A S : Vec Ideal S1x1x2048 .f32) (P : Vec Ideal S256x256 .bf16) : k0_pay18 (k0_pay17 X G A S P) = k0_pay10 (k0_pay9 X G A S P) := rfl
/-- Another group's half is the same computation. -/
theorem half9 (X : Vec Ideal S256x2048 .f32) (G : Vec Ideal S1x2048 .f32) (A S : Vec Ideal S1x1x2048 .f32) (P : Vec Ideal S256x256 .bf16) : k0_pay20 X G A S P = k0_pay8 X G A S P := rfl
/-- Another group's half is the same computation. -/
theorem half8 (X : Vec Ideal S256x2048 .f32) (G : Vec Ideal S1x2048 .f32) (A S : Vec Ideal S1x1x2048 .f32) (P : Vec Ideal S256x256 .bf16) : k0_pay21 (k0_pay19 X G A S P) = k0_pay10 (k0_pay9 X G A S P) := rfl
/-- Another group's half is the same computation. -/
theorem half7 (X : Vec Ideal S256x2048 .f32) (G : Vec Ideal S1x2048 .f32) (A S : Vec Ideal S1x1x2048 .f32) (P : Vec Ideal S256x256 .bf16) : k0_pay24 (k0_pay23 X G A S P) = k0_pay8 X G A S P := rfl
/-- Another group's half is the same computation. -/
theorem half6 (X : Vec Ideal S256x2048 .f32) (G : Vec Ideal S1x2048 .f32) (A S : Vec Ideal S1x1x2048 .f32) (P : Vec Ideal S256x256 .bf16) : k0_pay25 (k0_pay22 X G A S P) = k0_pay10 (k0_pay9 X G A S P) := rfl
/-- Another group's half is the same computation. -/
theorem half5 (X : Vec Ideal S256x2048 .f32) (G : Vec Ideal S1x2048 .f32) (A S : Vec Ideal S1x1x2048 .f32) (P : Vec Ideal S256x256 .bf16) : k0_pay28 (k0_pay27 X G A S P) = k0_pay8 X G A S P := rfl
/-- Another group's half is the same computation. -/
theorem half4 (X : Vec Ideal S256x2048 .f32) (G : Vec Ideal S1x2048 .f32) (A S : Vec Ideal S1x1x2048 .f32) (P : Vec Ideal S256x256 .bf16) : k0_pay29 (k0_pay26 X G A S P) = k0_pay10 (k0_pay9 X G A S P) := rfl
/-- Another group's half is the same computation. -/
theorem half3 (X : Vec Ideal S256x2048 .f32) (G : Vec Ideal S1x2048 .f32) (A S : Vec Ideal S1x1x2048 .f32) (P : Vec Ideal S256x256 .bf16) : k0_pay31 (k0_pay30 X G A S P) = k0_pay8 X G A S P := rfl
/-- Another group's half is the same computation. -/
theorem half2 (X : Vec Ideal S256x2048 .f32) (G : Vec Ideal S1x2048 .f32) (A S : Vec Ideal S1x1x2048 .f32) (P : Vec Ideal S256x256 .bf16) : k0_pay32 (k0_pay30 X G A S P) = k0_pay10 (k0_pay9 X G A S P) := rfl
/-- Another group's half is the same computation. -/
theorem half1 (X : Vec Ideal S256x2048 .f32) (G : Vec Ideal S1x2048 .f32) (A S : Vec Ideal S1x1x2048 .f32) (P : Vec Ideal S256x256 .bf16) :
    k0_pay36 (k0_pay33 P) (k0_pay34 X G A S) (constant S256x2048 FTy.f32 0#32) = k0_pay8 X G A S P := rfl
/-- Another group's half is the same computation. -/
theorem half0 (X : Vec Ideal S256x2048 .f32) (G : Vec Ideal S1x2048 .f32) (A S : Vec Ideal S1x1x2048 .f32) (P : Vec Ideal S256x256 .bf16) :
    k0_pay37 (k0_pay33 P) (k0_pay34 X G A S) (constant S256x2048 FTy.f32 0#32) = k0_pay10 (k0_pay9 X G A S P) := rfl

/-- The rows kept after a sample's first grid point. -/
theorem kept_first (c : Dev nD) (t : Fin cfg0.N) (ht : t.val % 12 = 0) (b : Fin 16) (hb : b.val = t.val / 12) (j : S2048x2048.Idx) :
    (outsAt0 m c t.val t.isLt).2 j = hrow m c b (posOf (j 0)) (j 1) := by
  rw [outsAt0_A m c t ht (by omega)]
  frame_out
  canon_tiles x k
  all_goals try simp only [half0, half1, half2, half3, half4, half5, half6, half7, half8, half9, half10, half11, half12, half13]
  case piece1 | piece3 | piece5 | piece7 | piece9 | piece11 | piece13 | piece15 =>
    exact even_rows m c t ht b hb _ _ _ _ x _ _ (by simp only [posOf]; split <;> omega) (by omega)
  all_goals exact odd_rows m c t ht b hb _ _ _ _ x _ _ (by simp only [posOf]; split <;> omega) (by omega)

/-- A later grid point of a sample leaves the kept rows as the point before it left them. -/
theorem kept_later (c : Dev nD) (t : Fin cfg0.N) (h : ¬ t.val % 12 = 0) (hp : t.val - 1 < cfg0.N) :
    (outsAt0 m c t.val t.isLt).2 = (outsAt0 m c (t.val - 1) hp).2 := by
  rw [outsAt0_B m c t h (by omega)]
  rfl
/-- The rows kept after any grid point of a sample. -/
theorem kept (c : Dev nD) (b : Fin 16) (k : ℕ) : ∀ (t : Fin cfg0.N) (_ : t.val % 12 = k) (_ : b.val = t.val / 12) (j : S2048x2048.Idx),
    (outsAt0 m c t.val t.isLt).2 j = hrow m c b (posOf (j 0)) (j 1) := by
  induction k with
  | zero => exact fun t ht hb j => kept_first m c t ht b hb j
  | succ k ih =>
    intro t ht hb j
    have hp : t.val - 1 < cfg0.N := lt_of_le_of_lt (Nat.sub_le _ _) t.isLt
    exact (congrFun (kept_later m c t (by omega) hp) j).trans (ih ⟨t.val - 1, hp⟩ (by dsimp only; omega) (by dsimp only; omega) j)

/-- A tap's row as it is read off its block. -/
theorem ld_tap (X : Vec Ideal S3x512 .f32) (k : Fin 3) (inb : ∀ a : Fin 2, ![k.val, 0] a + S1x512.size a ≤ S3x512.size a) (d : Fin 512) :
    View.ld X (Rect.unit ![k.val, 0] S1x512.size inb) (ix2 0 d) = X (ix2 k d) := by
  refine View.ld_unit_apply_of X _ _ inb _ _ fun a => ?_
  match a with
  | ⟨0, _⟩ => rfl
  | ⟨1, _⟩ => show d.val = 0 + d.val; omega

/-- A sample's projected column. -/
def col (c : Dev nD) (b : Fin 16) (n : Fin 6144) : Fin 2048 → EReal :=
  HyInSpec.proj (hrow m c b) (fun k => wt m c k n) (bias m c n)
/-- A sample's column after the convolution. -/
def res (c : Dev nD) (b : Fin 16) (n : Fin 6144) : Fin 2048 → EReal :=
  HyInSpec.conv (col m c b n) (tap m c 0 n) (tap m c 1 n) (tap m c 2 n) (cbias m c n)

/-- The projection of the kept rows is the sample's column, even positions first. -/
theorem pr_at (c : Dev nD) (t : Fin cfg0.N) (b : Fin 16) (H : Vec Ideal S2048x2048 .bf16)
    (hH : ∀ r d : Fin 2048, H (ix2 r d) = hrow m c b (posOf r) d) (r i : Fin 2048) (x : Fin 512) (n : Fin 6144)
    (hn : n.val = t.val % 12 * 512 + x.val) (hi : i = posOf r) :
    pr H (iblk m c 4 t) (iblk m c 5 t) r x = col m c b n i := by
  subst hi
  unfold pr col HyInSpec.proj
  exact congrArg₂ (fun u v : EReal => u + v) (Finset.sum_congr rfl fun k _ => congrArg₂ (fun u v : EReal => u * v) (hH r k) (rd4 m c t k x n hn)) (rd5 m c t x n hn)

/-- What a grid point writes for the even positions, from the kept rows. -/
theorem even_res (c : Dev nD) (t : Fin cfg0.N) (b : Fin 16) (H : Vec Ideal S2048x2048 .bf16)
    (hH : ∀ r d : Fin 2048, H (ix2 r d) = hrow m c b (posOf r) d) (j : S1x1024x512.Idx) (n : Fin 6144)
    (hn : n.val = t.val % 12 * 512 + (j 2).val) (i : Fin 2048) (hi : i.val = 2 * (j 1).val)
    (inb0 : ∀ a : Fin 2, ![0, 0] a + S1x512.size a ≤ S3x512.size a) (inb1 : ∀ a : Fin 2, ![1, 0] a + S1x512.size a ≤ S3x512.size a)
    (inb2 : ∀ a : Fin 2, ![2, 0] a + S1x512.size a ≤ S3x512.size a) :
    k0_pay5 (k0_pay51 H (iblk m c 4 t) (iblk m c 5 t)) (k0_pay52 H (iblk m c 4 t) (iblk m c 5 t)) (k0_pay54 H (iblk m c 4 t) (iblk m c 5 t))
      (View.ld (iblk m c 6 t) (Rect.unit ![0, 0] S1x512.size inb0)) (View.ld (iblk m c 6 t) (Rect.unit ![1, 0] S1x512.size inb1))
      (View.ld (iblk m c 6 t) (Rect.unit ![2, 0] S1x512.size inb2)) (iblk m c 7 t) j = res m c b n i := by
  have h1 : (j 1).val < 1024 := (j 1).isLt
  refine (even_at _ _ _ _ _ _ _ j).trans ?_
  unfold taps res HyInSpec.conv
  refine congrArg₂ (fun u v : EReal => u + v) (congrArg₂ (fun u v : EReal => u + v) (congrArg₂ (fun u v : EReal => u + v) (rd7 m c t _ n hn)
    (congrArg₂ (fun u v : EReal => u * v) ?_ ((ld_tap _ 0 inb0 _).trans (rd6 m c t 0 _ n hn))))
    (congrArg₂ (fun u v : EReal => u * v) ?_ ((ld_tap _ 1 inb1 _).trans (rd6 m c t 1 _ n hn))))
    (congrArg₂ (fun u v : EReal => u * v) ?_ ((ld_tap _ 2 inb2 _).trans (rd6 m c t 2 _ n hn)))
  · unfold prev
    by_cases h : (j 1).val = 0
    · rw [if_pos h, dif_pos (by omega)]
    · rw [if_neg h, dif_neg (by omega)]
      exact pr_at m c t b H hH _ _ _ n hn (Fin.ext (by simp only [posOf]; split <;> omega))
  · exact pr_at m c t b H hH _ _ _ n hn (Fin.ext (by simp only [posOf]; split <;> omega))
  · rw [dif_neg (by omega)]
    exact pr_at m c t b H hH _ _ _ n hn (Fin.ext (by simp only [posOf]; split <;> omega))
/-- What a grid point writes for the odd positions, from the kept rows. -/
theorem odd_res (c : Dev nD) (t : Fin cfg0.N) (b : Fin 16) (H : Vec Ideal S2048x2048 .bf16)
    (hH : ∀ r d : Fin 2048, H (ix2 r d) = hrow m c b (posOf r) d) (j : S1x1024x512.Idx) (n : Fin 6144)
    (hn : n.val = t.val % 12 * 512 + (j 2).val) (i : Fin 2048) (hi : i.val = 2 * (j 1).val + 1)
    (inb0 : ∀ a : Fin 2, ![0, 0] a + S1x512.size a ≤ S3x512.size a) (inb1 : ∀ a : Fin 2, ![1, 0] a + S1x512.size a ≤ S3x512.size a)
    (inb2 : ∀ a : Fin 2, ![2, 0] a + S1x512.size a ≤ S3x512.size a) :
    k0_pay6 (k0_pay51 H (iblk m c 4 t) (iblk m c 5 t)) (k0_pay52 H (iblk m c 4 t) (iblk m c 5 t)) (k0_pay55 H (iblk m c 4 t) (iblk m c 5 t))
      k0_pay56 k0_pay57
      (View.ld (iblk m c 6 t) (Rect.unit ![0, 0] S1x512.size inb0)) (View.ld (iblk m c 6 t) (Rect.unit ![1, 0] S1x512.size inb1))
      (View.ld (iblk m c 6 t) (Rect.unit ![2, 0] S1x512.size inb2)) (iblk m c 7 t) j = res m c b n i := by
  have h1 : (j 1).val < 1024 := (j 1).isLt
  refine (odd_at _ _ _ _ _ _ _ j).trans ?_
  unfold taps res HyInSpec.conv
  refine congrArg₂ (fun u v : EReal => u + v) (congrArg₂ (fun u v : EReal => u + v) (congrArg₂ (fun u v : EReal => u + v) (rd7 m c t _ n hn)
    (congrArg₂ (fun u v : EReal => u * v) ?_ ((ld_tap _ 0 inb0 _).trans (rd6 m c t 0 _ n hn))))
    (congrArg₂ (fun u v : EReal => u * v) ?_ ((ld_tap _ 1 inb1 _).trans (rd6 m c t 1 _ n hn))))
    (congrArg₂ (fun u v : EReal => u * v) ?_ ((ld_tap _ 2 inb2 _).trans (rd6 m c t 2 _ n hn)))
  · rw [dif_neg (by omega)]
    exact pr_at m c t b H hH _ _ _ n hn (Fin.ext (by simp only [posOf]; split <;> omega))
  · exact pr_at m c t b H hH _ _ _ n hn (Fin.ext (by simp only [posOf]; split <;> omega))
  · unfold next
    by_cases h : (j 1).val = 1023
    · rw [if_pos h, dif_pos (by omega)]
    · rw [if_neg h, dif_neg (by omega)]
      exact pr_at m c t b H hH _ _ _ n hn (Fin.ext (by simp only [posOf]; split <;> omega))

/-- A load of all kept rows, after the stores of a list, is what the list leaves. -/
theorem ld_all (L : List (View.Piece (Elt Ideal) S2048x2048 .bf16)) (inb : ∀ a : Fin 2, ![0, 0] a + S2048x2048.size a ≤ S2048x2048.size a) (r d : Fin 2048) :
    (View.whole cc0_scratch0).readCov L (Rect.unit ![0, 0] S2048x2048.size inb).toLoadRect (ix2 r d) = View.canon L (ix2 r d) := by
  rw [View.readCov_eq_canon']
  refine congrArg (View.canon L) (funext fun a => Fin.ext ?_)
  match a with
  | ⟨0, _⟩ => show 0 + 1 * r.val = r.val; omega
  | ⟨1, _⟩ => show 0 + 1 * d.val = d.val; omega

/-- What a grid point leaves in the output block, on a sample's first grid point. -/
theorem out_first (c : Dev nD) (t : Fin cfg0.N) (h : t.val % 12 = 0) (j : S2x1024x512.Idx) (b : Fin 16) (hb : b.val = t.val / 12) (n : Fin 6144)
    (hn : n.val = t.val % 12 * 512 + (j 2).val) (i : Fin 2048) (hi : i.val = 2 * (j 1).val + (j 0).val) :
    (outsAt0 m c t.val t.isLt).1 j = res m c b n i := by
  have hk := fun r d => kept_first m c t h b hb (ix2 r d)
  have e := outsAt0_A m c t h (by omega)
  rw [e]
  frame_out
  canon_tiles x k
  case piece0 =>
    rw [odd_first]
    refine odd_res m c t b _ (fun r d => (ld_all _ _ r d).trans (Eq.trans ?_ (hk r d))) x n (by omega) i (by omega) _ _ _
    rw [e]
    frame_out
  case piece1 =>
    rw [even_first]
    refine even_res m c t b _ (fun r d => (ld_all _ _ r d).trans (Eq.trans ?_ (hk r d))) x n (by omega) i (by omega) _ _ _
    rw [e]
    frame_out

/-- What a grid point leaves in the output block. -/
theorem out_at (c : Dev nD) (t : Fin cfg0.N) (j : S2x1024x512.Idx) (b : Fin 16) (hb : b.val = t.val / 12) (n : Fin 6144)
    (hn : n.val = t.val % 12 * 512 + (j 2).val) (i : Fin 2048) (hi : i.val = 2 * (j 1).val + (j 0).val) :
    (outsAt0 m c t.val t.isLt).1 j = res m c b n i := by
  by_cases h : t.val % 12 = 0
  · exact out_first m c t h j b hb n hn i hi
  · have hp : t.val - 1 < cfg0.N := lt_of_le_of_lt (Nat.sub_le _ _) t.isLt
    have hk := fun r d => kept m c b _ ⟨t.val - 1, hp⟩ rfl (by dsimp only; omega) (ix2 r d)
    rw [outsAt0_B m c t h (by omega)]
    frame_out
    simp only [read_unread_whole]
    canon_tiles x k
    case piece0 => exact odd_res m c t b _ hk x n (by omega) i (by omega) _ _ _
    case piece1 => exact even_res m c t b _ hk x n (by omega) i (by omega) _ _ _

end Cert.Kernel3Ideal.HyIn
-- ==== Proof.HyInClaim.lean ====
module

public import proofs.«01_k».proof.Proof.HyInKernel
public import proofs.«01_k».proof.Proof.Gen.Reference3Ideal.Run

@[expose] public section

set_option maxRecDepth 16384

noncomputable section

/-! Hyena's input projection with its short convolution: the kernel's result is the reference's. -/

namespace Cert.Kernel3Ideal.HyIn

open Idealize.ShloMosaic Idealize.ShloMosaic.TcCoe Idealize.SL.Sem
open Cert.Kernel3Ideal Cert.Kernel3Ideal.Gen
variable (m : (ℓ : Loc nD τ sig) → Buf (Elt Ideal) ℓ)

/-- The kernel's result array, entry by entry. -/
theorem final_at (c : Dev nD) : (dats m 0 c).arrAt 8 (cfgs 0).N = fun j : S2x16384x6144.Idx =>
    res m c ⟨(j 1).val / 1024, by have : (j 1).val < 16384 := (j 1).isLt; omega⟩ (j 2)
      ⟨2 * ((j 1).val % 1024) + (j 0).val, by have : (j 0).val < 2 := (j 0).isLt; omega⟩ := by
  refine (dats m 0 c).arrAt_eq_of_covers 8 _ (by decide +kernel) fun t hf y => ?_
  blk_simp
  rw [after0_8]
  have hN : t.val < 192 := lt_of_lt_of_eq t.isLt N_0
  have hy0 : (y 0).val < 2 := (y 0).isLt
  have hy1 : (y 1).val < 1024 := (y 1).isLt
  have hy2 : (y 2).val < 512 := (y 2).isLt
  have e0 : win0_8.index t 0 = 0 := by rw [(idx t).2.2.2.2.2.2.2.2.1]; rfl
  have e1 : win0_8.index t 1 = t.val / 12 := by rw [(idx t).2.2.2.2.2.2.2.2.1]; rfl
  have e2 : win0_8.index t 2 = t.val % 12 := by rw [(idx t).2.2.2.2.2.2.2.2.1]; rfl
  refine out_at m c t y _ ?_ _ ?_ _ ?_ <;> dsimp only <;> blk_simp [e0, e1, e2] <;> omega

/-- A run of the kernel ends with the result array that its blocks make up, and with the arguments as they were. -/
theorem run_blocks (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1 8,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_main m ρ)

end Cert.Kernel3Ideal.HyIn

namespace Cert.HyIn

open Idealize.ShloMosaic Idealize.ShloMosaic.TcCoe Idealize.SL.Sem

/-- The kernel and the reference, run in the extended reals on the same arguments, end with the same result. -/
theorem algebraic : letI := Cert.Kernel3Ideal.Gen.facts; letI := Cert.Reference3Ideal.Gen.facts
    Cert.algebraic_Kernel3Ideal_Reference3Ideal := by
  intro m g m' g' _ hagree
  refine ⟨fun c => (Cert.Kernel3Ideal.Gen.dats m 0 c).arrAt 8 Cert.Kernel3Ideal.cfg0.N, Cert.Kernel3Ideal.HyIn.run_blocks m g, ?_⟩
  refine (θ_run _ _ _).mono (fun r h c => ⟨(h c).1.trans ?_, (h c).2⟩) (Cert.Reference3Ideal.Value.run m' g')
  refine Eq.trans ?_ (Cert.Kernel3Ideal.HyIn.final_at m c).symm
  funext j
  obtain ⟨h0, h1, h2, h3, h4, h5, h6⟩ := hagree c
  unfold Cert.Reference3Ideal.Value.res_main_v63
  rw [h0, h1, h2, h3, h4, h5, h6]
  exact Cert.Reference3Ideal.HyIn.ref_at _ _ _ _ _ _ _ j _ _

end Cert.HyIn
-- ==== Proof.OutAttn.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Claim

@[expose] public section

set_option maxRecDepth 16384

noncomputable section

/-! The attention's output projection with its gated residual: `x + gate * ([a | b] · w)`. -/

namespace Cert.Kernel4Ideal.Out

open Idealize.ShloMosaic Idealize.ShloMosaic.TcCoe Idealize.SL.Sem
open Cert.Kernel4Ideal Cert.Kernel4Ideal.Gen
variable (m : (ℓ : Loc nD τ sig) → Buf (Elt Ideal) ℓ)

/-- An entry of the residual stream, of a gate, of the two attentions' outputs, of the weights. -/
def xs (c : Dev nD) (b : Fin 16) (i d : Fin 2048) : EReal := m ((c : Thread nD τ).loc main_arg2) (ix3 b i d)
/-- See `xs`. -/
def gate (c : Dev nD) (b : Fin 16) (d : Fin 2048) : EReal := m ((c : Thread nD τ).loc main_arg3) (ix3 b 5 d)
/-- See `xs`. -/
def oa (c : Dev nD) (r : Fin 32768) (k : Fin 1024) : EReal := m ((c : Thread nD τ).loc main_arg0) (ix2 r k)
/-- See `xs`. -/
def ob (c : Dev nD) (r : Fin 32768) (k : Fin 1024) : EReal := m ((c : Thread nD τ).loc main_arg1) (ix2 r k)
/-- See `xs`. -/
def wt (c : Dev nD) (k d : Fin 2048) : EReal := m ((c : Thread nD τ).loc main_arg4) (ix3 1 k d)

/-- The projection's result at row `r` (position `i` of image `b`) and feature `d`. -/
def res (c : Dev nD) (r : Fin 32768) (b : Fin 16) (i d : Fin 2048) : EReal :=
  xs m c b i d + gate m c b d * ((∑ k : Fin 1024, oa m c r k * wt m c ⟨k.val, by omega⟩ d)
    + ∑ k : Fin 1024, ob m c r k * wt m c ⟨1024 + k.val, by omega⟩ d)

/-- Which block each window is on at a grid point. -/
theorem idx : ∀ t : Fin cfg0.N, win0_0.index t = ![t.val, 0] ∧ win0_1.index t = ![t.val, 0] ∧ win0_2.index t = ![0, 0] ∧
    win0_3.index t = ![1, 0] ∧ win0_4.index t = ![0, 0] ∧ win0_5.index t = ![t.val, 0] ∧ win0_6.index t = ![t.val / 4, 0, 0] ∧
    win0_7.index t = ![t.val, 0] ∧ t.val / 4 < 16 :=
  (by decide +kernel : ∀ t : Fin grid0.N, _)

/-- The first attention's block. -/
theorem rd0 (c : Dev nD) (t : Fin cfg0.N) (r : Fin 512) (k : Fin 1024) (R : Fin 32768) (hR : R.val = t.val * 512 + r.val) :
    iblk m c 0 t (ix2 r k) = oa m c R k := by
  unfold oa; blk_ext! [iblk, V, idx t]
/-- The second attention's block. -/
theorem rd1 (c : Dev nD) (t : Fin cfg0.N) (r : Fin 512) (k : Fin 1024) (R : Fin 32768) (hR : R.val = t.val * 512 + r.val) :
    iblk m c 1 t (ix2 r k) = ob m c R k := by
  unfold ob; blk_ext! [iblk, V, idx t]
/-- The first half of the weights. -/
theorem rd2 (c : Dev nD) (t : Fin cfg0.N) (k : Fin 1024) (d : Fin 2048) : iblk m c 2 t (ix2 k d) = wt m c ⟨k.val, by omega⟩ d := by
  unfold wt; blk_ext! [iblk, V, idx t]
/-- The second half of the weights. -/
theorem rd3 (c : Dev nD) (t : Fin cfg0.N) (k : Fin 1024) (d : Fin 2048) : iblk m c 3 t (ix2 k d) = wt m c ⟨1024 + k.val, by omega⟩ d := by
  unfold wt; blk_ext! [iblk, V, idx t]
/-- The bias is zero. -/
theorem rd4 (c : Dev nD) (t : Fin cfg0.N) (d : Fin 2048) : iblk m c 4 t (ix2 0 d) = (0 : EReal) := by
  blk_ext! [iblk, V, idx t]
/-- The residual stream's block. -/
theorem rd5 (c : Dev nD) (t : Fin cfg0.N) (r : Fin 512) (d : Fin 2048) (b : Fin 16) (i : Fin 2048) (hb : b.val = t.val / 4)
    (hi : i.val = t.val % 4 * 512 + r.val) : iblk m c 5 t (ix2 r d) = xs m c b i d := by
  unfold xs; blk_ext! [iblk, V, idx t]
/-- The gate's row of the modulation. -/
theorem rd6 (c : Dev nD) (t : Fin cfg0.N) (d : Fin 2048) (b : Fin 16) (hb : b.val = t.val / 4) :
    iblk m c 6 t (ix3 0 2 d) = gate m c b d := by
  unfold gate; blk_ext! [iblk, V, idx t]

/-- What a grid point leaves in the output block. -/
theorem out_at (c : Dev nD) (t : Fin cfg0.N) (y : S512x2048.Idx) (d : Fin 2048) (R : Fin 32768) (b : Fin 16) (i : Fin 2048)
    (hR : R.val = t.val * 512 + (y 0).val) (hb : b.val = t.val / 4) (hi : i.val = t.val % 4 * 512 + (y 0).val)
    (hd : d.val = (y 1).val) :
    out0_7 (F := Ideal) (iblk m c 0 t) (iblk m c 1 t) (iblk m c 2 t) (iblk m c 3 t) (iblk m c 4 t) (iblk m c 5 t) (iblk m c 6 t) y
      = res m c R b i d := by
  obtain ⟨r, d', rfl⟩ : ∃ (r : Fin 512) (d' : Fin 2048), y = ix2 r d' := ⟨y 0, y 1, (ix2_eta y).symm⟩
  obtain rfl : d = d' := Fin.ext hd
  have e0 := fun k => rd0 m c t r k R hR
  have e1 := fun k => rd1 m c t r k R hR
  have e2 := fun k => rd2 m c t k d
  have e3 := fun k => rd3 m c t k d
  have e4 := rd4 m c t d
  have e5 := rd5 m c t r d b i hb hi
  have e6 := rd6 m c t d b hb
  unfold out0_7
  generalize iblk m c 0 t = X0 at *
  generalize iblk m c 1 t = X1 at *
  generalize iblk m c 2 t = X2 at *
  generalize iblk m c 3 t = X3 at *
  generalize iblk m c 4 t = X4 at *
  generalize iblk m c 5 t = X5 at *
  generalize iblk m c 6 t = X6 at *
  frame_out
  pointwise [k0_pay1]
  simp only [e0, e1, e2, e3, e4, e5, e6, zero_add]
  rfl

/-- The kernel's result array, entry by entry. -/
theorem final_at (c : Dev nD) : (dats m 0 c).arrAt 7 (cfgs 0).N = fun j : S32768x2048.Idx =>
    res m c (j 0) ⟨(j 0).val / 2048, by have : (j 0).val < 32768 := (j 0).isLt; omega⟩ ⟨(j 0).val % 2048, by omega⟩ (j 1) := by
  refine (dats m 0 c).arrAt_eq_of_covers 7 _ (by decide +kernel) fun t hf y => ?_
  blk_simp
  rw [after0_7]
  have hN : t.val < 64 := lt_of_lt_of_eq t.isLt N_0
  have hy : (y 0).val < 512 := (y 0).isLt
  have e6 : win0_7.index t 0 = t.val := by rw [(idx t).2.2.2.2.2.2.2.1]; rfl
  have e7 : win0_7.index t 1 = 0 := by rw [(idx t).2.2.2.2.2.2.2.1]; rfl
  refine out_at m c t y _ _ _ _ ?_ ?_ ?_ ?_ <;> dsimp only <;> blk_simp [e6, e7] <;> omega

end Cert.Kernel4Ideal.Out

namespace Cert.Reference4Ideal.Out

open Idealize.ShloMosaic Idealize.ShloMosaic.TcCoe Idealize.SL.Sem
open Cert.Reference4Ideal Cert.Reference4Ideal.Gen
variable (m : (ℓ : Loc nD τ sig) → Buf (Elt Ideal) ℓ)

/-- An entry of the reference's result, over named arguments. -/
theorem ref_at (A B : FVec Ideal S32768x1024 .bf16) (X : FVec Ideal S16x2048x2048 .f32) (M : FVec Ideal S16x9x2048 .f32)
    (W : FVec Ideal S2x2048x2048 .f32) (j : S32768x2048.Idx) (hb : (j 0).val / 2048 < 16)
    (hi : (j 0).val % 2048 < 2048) :
    (shapeCast S32768x2048 (addf X (mulf (broadcastInDim S16x2048x2048 ![0, 1, 2] bcast_S16x1x2048_S16x2048x2048_0_1_2 (broadcastInDim S16x1x2048 ![0, 2] bcast_S16x2048_S16x1x2048_0_2 (shapeCast _ (extractStridedSlice S16x1x2048 ![0, 5, 0] M slices_S16x9x2048_S16x1x2048_0_5_0) shapeCasts_S16x1x2048_S16x2048))) (Host.dotGeneral dot_S16x2048x2048_S2048x2048_S16x2048x2048_2_0_01_1_n_n none (shapeCast _ (extf .f32 (concatenate S32768x2048 1 [⟨S32768x1024, A⟩, ⟨S32768x1024, B⟩] concatenates_S32768x1024_S32768x1024_S32768x2048_d1) bitsLt_bf16_f32) shapeCasts_S32768x2048_S16x2048x2048) (shapeCast _ (extractStridedSlice S1x2048x2048 ![1, 0, 0] W slices_S2x2048x2048_S1x2048x2048_1_0_0) shapeCasts_S1x2048x2048_S2048x2048)))) shapeCasts_S16x2048x2048_S32768x2048 : FVec Ideal S32768x2048 .f32) j
      = X (ix3 ⟨_, hb⟩ ⟨_, hi⟩ (j 1)) + M (ix3 ⟨_, hb⟩ 5 (j 1)) * ((∑ k : Fin 1024, A (ix2 (j 0) k) * W (ix3 1 ⟨k.val, by omega⟩ (j 1)))
        + ∑ k : Fin 1024, B (ix2 (j 0) k) * W (ix3 1 ⟨1024 + k.val, by omega⟩ (j 1))) := by
  pointwise []

end Cert.Reference4Ideal.Out

namespace Cert.OutAttn

open Idealize.ShloMosaic Idealize.ShloMosaic.TcCoe Idealize.SL.Sem

/-- The kernel and the reference, run in the extended reals on the same arguments, end with the same result. -/
theorem algebraic : letI := Cert.Kernel4Ideal.Gen.facts; letI := Cert.Reference4Ideal.Gen.facts
    Cert.algebraic_Kernel4Ideal_Reference4Ideal := by
  intro m g m' g' _ hagree
  refine ⟨fun c => (Cert.Kernel4Ideal.Gen.dats m 0 c).arrAt 7 Cert.Kernel4Ideal.cfg0.N, Cert.Kernel4Ideal.Value.run_blocks m g, ?_⟩
  refine (θ_run _ _ _).mono (fun r h c => ⟨(h c).1.trans ?_, (h c).2⟩) (Cert.Reference4Ideal.Value.run m' g')
  refine Eq.trans ?_ (Cert.Kernel4Ideal.Out.final_at m c).symm
  funext j
  obtain ⟨h0, h1, h2, h3, h4⟩ := hagree c
  rw [h0, h1, h2, h3, h4]
  exact Cert.Reference4Ideal.Out.ref_at _ _ _ _ _ j _ _

end Cert.OutAttn
-- ==== Proof.OutHyena.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Claim
public import proofs.«01_k».proof.Proof.Perm

@[expose] public section

set_option maxRecDepth 16384

noncomputable section

/-! Hyena's output projection with its gated residual: `x + gate * (z · w + bias)`, where `z` comes with the tokens of even
position first and a 0/1 matrix puts each group of 256 back in order. -/

namespace Cert.Kernel5Ideal.Out

open Idealize.ShloMosaic Idealize.ShloMosaic.TcCoe Idealize.SL.Sem
open Cert.Kernel5Ideal Cert.Kernel5Ideal.Gen Cert.Perm
variable (m : (ℓ : Loc nD τ sig) → Buf (Elt Ideal) ℓ)

/-- An entry of the residual stream, of a gate, of the mixed tokens, of the weights, of the bias. -/
def xs (c : Dev nD) (b : Fin 16) (i d : Fin 2048) : EReal := m ((c : Thread nD τ).loc main_arg1) (ix3 b i d)
/-- See `xs`. -/
def gate (c : Dev nD) (b : Fin 16) (d : Fin 2048) : EReal := m ((c : Thread nD τ).loc main_arg2) (ix3 b 5 d)
/-- See `xs`. -/
def zz (c : Dev nD) (p : Fin 2) (r : Fin 16384) (k : Fin 2048) : EReal := m ((c : Thread nD τ).loc main_arg0) (ix3 p r k)
/-- See `xs`. -/
def wt (c : Dev nD) (k d : Fin 2048) : EReal := m ((c : Thread nD τ).loc main_arg3) (ix3 1 k d)
/-- See `xs`. -/
def bias (c : Dev nD) (d : Fin 2048) : EReal := m ((c : Thread nD τ).loc main_arg4) (ix2 1 d)

/-- The projection's result at the token of parity `p` and pair `r` (position `i` of image `b`) and feature `d`. -/
def res (c : Dev nD) (p : Fin 2) (r : Fin 16384) (b : Fin 16) (i d : Fin 2048) : EReal :=
  xs m c b i d + gate m c b d * ((∑ k : Fin 2048, zz m c p r k * wt m c k d) + bias m c d)

/-- Which block each window is on at a grid point. -/
theorem idx : ∀ t : Fin cfg0.N, win0_0.index t = ![0, t.val, 0] ∧ win0_1.index t = ![0, 0] ∧ win0_2.index t = ![0, 0] ∧
    win0_3.index t = ![0, 0] ∧ win0_4.index t = ![t.val, 0] ∧ win0_5.index t = ![t.val / 4, 0, 0] ∧
    win0_6.index t = ![t.val, 0] ∧ t.val / 4 < 16 :=
  (by decide +kernel : ∀ t : Fin grid0.N, _)

/-- The tokens' block. -/
theorem rd0 (c : Dev nD) (t : Fin cfg0.N) (p : Fin 2) (r : Fin 256) (k : Fin 2048) (R : Fin 16384) (hR : R.val = t.val * 256 + r.val) :
    iblk m c 0 t (ix3 p r k) = zz m c p R k := by
  unfold zz; blk_ext! [iblk, V, idx t]
/-- The array of the weights. -/
theorem arr2 (c : Dev nD) : V m c main_v2 = fun j : S2048x2048.Idx => wt m c (j 0) (j 1) := by
  unfold_abbrev_sides
  simp only [hostOps0, hostOps0_1, hostOps0_2, List.flatten_cons, List.flatten_nil, List.cons_append, List.nil_append, List.append_nil]
  after_results
  funext j; unfold wt; pointwise []
/-- The array of the bias. -/
theorem arr3 (c : Dev nD) : V m c main_v27 = fun j : S1x2048.Idx => bias m c (j 1) := by
  unfold_abbrev_sides
  simp only [hostOps0, hostOps0_1, hostOps0_2, List.flatten_cons, List.flatten_nil, List.cons_append, List.nil_append, List.append_nil]
  after_results
  funext j; unfold bias; pointwise []
/-- The residual stream's array. -/
theorem arr4 (c : Dev nD) : V m c main_v5 = fun j : S32768x2048.Idx =>
    xs m c ⟨(j 0).val / 2048, by have : (j 0).val < 32768 := (j 0).isLt; omega⟩ ⟨(j 0).val % 2048, by omega⟩ (j 1) := by
  unfold_abbrev_sides
  simp only [hostOps0, hostOps0_1, hostOps0_2, List.flatten_cons, List.flatten_nil, List.cons_append, List.nil_append, List.append_nil]
  after_results
  funext j; unfold xs; pointwise []
/-- The modulation's array. -/
theorem arr5 (c : Dev nD) (j : S16x3x2048.Idx) (h : (j 1).val = 2) : V m c main_v6 j = gate m c (j 0) (j 2) := by
  unfold_abbrev_sides
  simp only [hostOps0, hostOps0_1, hostOps0_2, List.flatten_cons, List.flatten_nil, List.cons_append, List.nil_append, List.append_nil]
  after_results
  unfold gate; pointwise []
  rw [show (⟨3 + (j 1).val, by omega⟩ : Fin 9) = 5 from Fin.ext (by show 3 + (j 1).val = 5; omega)]
/-- The array of the 0/1 matrix, transposed. -/
theorem arr1 (c : Dev nD) : V m c main_v26 = fun j : S256x256.Idx => if (j 0).val = src (j 1).val then (1 : EReal) else 0 := by
  unfold_abbrev_sides
  simp only [hostOps0, hostOps0_1, hostOps0_2, List.flatten_cons, List.flatten_nil, List.cons_append, List.nil_append, List.append_nil]
  after_results
  simp only [StableHlo.TRef.toBuf, StableHlo.TRef.ofBuf, cast_eq]
  funext j; pointwise []
  exact perm_word (j 0) (j 1)

/-- The weights' block. -/
theorem rd2 (c : Dev nD) (t : Fin cfg0.N) (k : Fin 2048) (d : Fin 2048) : iblk m c 2 t (ix2 k d) = wt m c k d := by
  unfold iblk
  exact (congrFun (arr2 m c) _).trans (by congr 1 <;> exact Fin.ext (by dsimp only; blk_simp [idx t] <;> omega))
/-- The bias's block. -/
theorem rd3 (c : Dev nD) (t : Fin cfg0.N) (d : Fin 2048) : iblk m c 3 t (ix2 0 d) = bias m c d := by
  unfold iblk
  exact (congrFun (arr3 m c) _).trans (by congr 1 <;> exact Fin.ext (by dsimp only; blk_simp [idx t] <;> omega))
/-- The residual stream's block. -/
theorem rd4 (c : Dev nD) (t : Fin cfg0.N) (r : Fin 512) (d : Fin 2048) (b : Fin 16) (i : Fin 2048) (hb : b.val = t.val / 4)
    (hi : i.val = t.val % 4 * 512 + r.val) : iblk m c 4 t (ix2 r d) = xs m c b i d := by
  unfold iblk
  exact (congrFun (arr4 m c) _).trans (by congr 1 <;> exact Fin.ext (by dsimp only; blk_simp [idx t] <;> omega))
/-- The gate's row of the modulation. -/
theorem rd5 (c : Dev nD) (t : Fin cfg0.N) (d : Fin 2048) (b : Fin 16) (hb : b.val = t.val / 4) :
    iblk m c 5 t (ix3 0 2 d) = gate m c b d := by
  unfold iblk
  exact (arr5 m c _ (by blk_simp [idx t]; rfl)).trans (by congr 1 <;> exact Fin.ext (by dsimp only; blk_simp [idx t] <;> omega))
/-- The 0/1 matrix's block. -/
theorem rd1 (c : Dev nD) (t : Fin cfg0.N) (r k : Fin 256) :
    iblk m c 1 t (ix2 r k) = if r.val = src k.val then (1 : EReal) else 0 := by
  unfold iblk
  refine (congrFun (arr1 m c) _).trans ?_
  dsimp only
  blk_simp [idx t]

/-- What a grid point leaves in the output block. -/
theorem out_at (c : Dev nD) (t : Fin cfg0.N) (y : S512x2048.Idx) (d : Fin 2048) (p : Fin 2) (R : Fin 16384) (b : Fin 16) (i : Fin 2048)
    (hR : 2 * R.val + p.val = t.val * 512 + (y 0).val) (hb : b.val = t.val / 4) (hi : i.val = t.val % 4 * 512 + (y 0).val)
    (hd : d.val = (y 1).val) :
    out0_6 (F := Ideal) (iblk m c 0 t) (iblk m c 1 t) (iblk m c 2 t) (iblk m c 3 t) (iblk m c 4 t) (iblk m c 5 t) y
      = res m c p R b i d := by
  obtain ⟨r, d', rfl⟩ : ∃ (r : Fin 512) (d' : Fin 2048), y = ix2 r d' := ⟨y 0, y 1, (ix2_eta y).symm⟩
  obtain rfl : d = d' := Fin.ext hd
  have e0 := fun p r k R hR => rd0 m c t p r k R hR
  have e1 := fun r k => rd1 m c t r k
  have e2 := fun k => rd2 m c t k d
  have e3 := rd3 m c t d
  have e4 := rd4 m c t r d b i hb hi
  have e5 := rd5 m c t d b hb
  unfold out0_6
  generalize iblk m c 0 t = X0 at *
  generalize iblk m c 1 t = X1 at *
  generalize iblk m c 2 t = X2 at *
  generalize iblk m c 3 t = X3 at *
  generalize iblk m c 4 t = X4 at *
  generalize iblk m c 5 t = X5 at *
  frame_out
  pointwise [k0_pay1, k0_pay2, k0_pay3, k0_pay4]
  rw [e3, e4, e5, add_comm (bias m c d)]
  unfold res
  congr 3
  refine Finset.sum_congr rfl fun x _ => ?_
  rw [e2]
  congr 1
  change 2 * R.val + p.val = t.val * 512 + r.val at hR
  split
  · exact (unperm (fun k => X1 (ix2 ⟨r.val, by omega⟩ k)) ⟨r.val / 2, by omega⟩ p
      (fun k => (e1 _ k).trans (if_congr (by dsimp only; omega) rfl rfl)) (fun p q => X0 (ix3 p ⟨q.val, by omega⟩ x))).trans
      (e0 _ _ _ _ (by dsimp only; omega))
  · exact (unperm (fun k => X1 (ix2 ⟨r.val - 256, by omega⟩ k)) ⟨(r.val - 256) / 2, by omega⟩ p
      (fun k => (e1 _ k).trans (if_congr (by dsimp only; omega) rfl rfl)) (fun p q => X0 (ix3 p ⟨128 + q.val, by omega⟩ x))).trans
      (e0 _ _ _ _ (by dsimp only; omega))

/-- The kernel's result array, entry by entry. -/
theorem final_at (c : Dev nD) : (dats m 0 c).arrAt 6 (cfgs 0).N = fun j : S32768x2048.Idx =>
    res m c ⟨(j 0).val % 2, by omega⟩ ⟨(j 0).val / 2, by have : (j 0).val < 32768 := (j 0).isLt; omega⟩
      ⟨(j 0).val / 2048, by have : (j 0).val < 32768 := (j 0).isLt; omega⟩ ⟨(j 0).val % 2048, by omega⟩ (j 1) := by
  refine (dats m 0 c).arrAt_eq_of_covers 6 _ (by decide +kernel) fun t hf y => ?_
  blk_simp
  rw [after0_6]
  have hN : t.val < 64 := lt_of_lt_of_eq t.isLt N_0
  have hy : (y 0).val < 512 := (y 0).isLt
  have e6 : win0_6.index t 0 = t.val := by rw [(idx t).2.2.2.2.2.2.1]; rfl
  have e7 : win0_6.index t 1 = 0 := by rw [(idx t).2.2.2.2.2.2.1]; rfl
  refine out_at m c t y _ _ _ _ _ ?_ ?_ ?_ ?_ <;> dsimp only <;> blk_simp [e6, e7] <;> omega

end Cert.Kernel5Ideal.Out

namespace Cert.Reference5Ideal.Out

open Idealize.ShloMosaic Idealize.ShloMosaic.TcCoe Idealize.SL.Sem
open Cert.Reference5Ideal Cert.Reference5Ideal.Gen

/-- An entry of the reference's result, over named arguments. -/
theorem ref_at (Z : FVec Ideal S2x16384x2048 .bf16) (X : FVec Ideal S16x2048x2048 .f32) (M : FVec Ideal S16x9x2048 .f32)
    (W : FVec Ideal S2x2048x2048 .f32) (B : FVec Ideal S2x2048 .f32) (j : S32768x2048.Idx) (hb : (j 0).val / 2048 < 16)
    (hi : (j 0).val % 2048 < 2048) (hp : (j 0).val % 2 < 2) (hr : (j 0).val / 2 < 16384) :
    (shapeCast S32768x2048 (addf X (mulf (broadcastInDim S16x2048x2048 ![0, 1, 2] bcast_S16x1x2048_S16x2048x2048_0_1_2 (broadcastInDim S16x1x2048 ![0, 2] bcast_S16x2048_S16x1x2048_0_2 (shapeCast _ (extractStridedSlice S16x1x2048 ![0, 5, 0] M slices_S16x9x2048_S16x1x2048_0_5_0) shapeCasts_S16x1x2048_S16x2048))) (addf (Host.dotGeneral dot_S16x2048x2048_S2048x2048_S16x2048x2048_2_0_01_1_n_n none (shapeCast _ (transpose S16384x2x2048 [1, 0, 2] (extf .f32 Z bitsLt_bf16_f32) transposes_S2x16384x2048_S16384x2x2048_1_0_2) shapeCasts_S16384x2x2048_S16x2048x2048) (shapeCast _ (extractStridedSlice S1x2048x2048 ![1, 0, 0] W slices_S2x2048x2048_S1x2048x2048_1_0_0) shapeCasts_S1x2048x2048_S2048x2048)) (broadcastInDim S16x2048x2048 ![0, 1, 2] bcast_S1x1x2048_S16x2048x2048_0_1_2 (broadcastInDim S1x1x2048 ![2] bcast_S2048_S1x1x2048_2 (shapeCast _ (extractStridedSlice S1x2048 ![1, 0] B slices_S2x2048_S1x2048_1_0) shapeCasts_S1x2048_S2048)))))) shapeCasts_S16x2048x2048_S32768x2048 : FVec Ideal S32768x2048 .f32) j
      = X (ix3 ⟨_, hb⟩ ⟨_, hi⟩ (j 1)) + M (ix3 ⟨_, hb⟩ 5 (j 1)) * ((∑ k : Fin 2048, Z (ix3 ⟨_, hp⟩ ⟨_, hr⟩ k) * W (ix3 1 k (j 1)))
        + B (ix2 1 (j 1))) := by
  pointwise []
  congr 3
  refine Finset.sum_congr rfl fun k _ => ?_
  congr 2
  blk_ext []

end Cert.Reference5Ideal.Out

namespace Cert.OutHyena

open Idealize.ShloMosaic Idealize.ShloMosaic.TcCoe Idealize.SL.Sem

/-- The kernel and the reference, run in the extended reals on the same arguments, end with the same result. -/
theorem algebraic : letI := Cert.Kernel5Ideal.Gen.facts; letI := Cert.Reference5Ideal.Gen.facts
    Cert.algebraic_Kernel5Ideal_Reference5Ideal := by
  intro m g m' g' _ hagree
  refine ⟨fun c => (Cert.Kernel5Ideal.Gen.dats m 0 c).arrAt 6 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  refine Eq.trans ?_ (Cert.Kernel5Ideal.Out.final_at m c).symm
  funext j
  obtain ⟨h0, h1, h2, h3, h4⟩ := hagree c
  rw [h0, h1, h2, h3, h4]
  exact Cert.Reference5Ideal.Out.ref_at _ _ _ _ _ j _ _ _ _

end Cert.OutHyena
-- ==== Proof.GlobSpec.lean ====
module

public import proofs.«01_k».proof.Proof.AttnSpec

@[expose] public section

noncomputable section

namespace Cert.AttnSpec

open Idealize.ShloMosaic

/-- One entry of the global attention: the query `q` over all keys `kc` of the context and all keys `kl` of the latent rows,
    with no sink, applied to the values. -/
def everywhere (q : Fin 128 → EReal) (kc : Fin 256 → Fin 128 → EReal) (kl : Fin 2048 → Fin 128 → EReal) (vc : Fin 256 → EReal) (vl : Fin 2048 → EReal) : EReal :=
  out (fun n => score q (kc n)) (fun l => score q (kl l)) ⊥ vc vl

/-- The score of a finite query and a finite key is not `⊥`. -/
theorem score_ne_bot (q k : Fin 128 → EReal) (hq : ∀ x, q x ≠ ⊤ ∧ q x ≠ ⊥) (hk : ∀ x, k x ≠ ⊤ ∧ k x ≠ ⊥) : score q k ≠ ⊥ := by
  obtain ⟨r, _, e⟩ := scale_real
  unfold score
  rw [sum_mul_real k q hk hq, e, ← EReal.coe_mul]
  exact EReal.coe_ne_bot _

/-- The largest score is a real, where every score is. -/
theorem top_real_of {n k : ℕ} (sc : Fin n → EReal) (t : Fin k → EReal) (i₀ : Fin n) (h1 : ∀ i, sc i ≠ ⊤) (h2 : ∀ l, t l ≠ ⊤)
    (h3 : sc i₀ ≠ ⊥) : ∃ r : ℝ, top sc t ⊥ = (r : EReal) := by
  have a : top sc t ⊥ ≠ ⊤ := by
    refine ne_of_lt (max_lt (max_lt ?_ ?_) bot_lt_top)
    · exact (Finset.sup_lt_iff (by exact bot_lt_top)).mpr fun i _ => Ne.lt_top (h1 i)
    · exact (Finset.sup_lt_iff (by exact bot_lt_top)).mpr fun l _ => Ne.lt_top (h2 l)
  have b : top sc t ⊥ ≠ ⊥ := fun h => h3 (le_bot_iff.mp (h ▸
    (Finset.le_sup (f := sc) (Finset.mem_univ i₀)).trans ((le_max_left _ _).trans (le_max_left _ _))))
  exact ⟨(top sc t ⊥).toReal, (EReal.coe_toReal a b).symm⟩

/-- The softmax over all of a query's scores in one row, the context's first, then the latent rows', applied to the values
    after it is divided: the same attention without a sink, where every score is real. -/
theorem softmax_eq_plain {n k N : ℕ} (hN : N = n + k) (S V : Fin N → EReal) (sc : Fin n → EReal) (t : Fin k → EReal)
    (vc : Fin n → EReal) (vl : Fin k → EReal)
    (s1 : ∀ i : Fin n, S ⟨i.val, by omega⟩ = sc i) (s2 : ∀ l : Fin k, S ⟨n + l.val, by omega⟩ = t l)
    (v1 : ∀ i : Fin n, V ⟨i.val, by omega⟩ = vc i) (v2 : ∀ l : Fin k, V ⟨n + l.val, by omega⟩ = vl l)
    (i₀ : Fin n) (h1 : ∀ i, sc i ≠ ⊤) (h2 : ∀ l, t l ≠ ⊤) (h3 : sc i₀ ≠ ⊥) :
    (∑ x : Fin N, V x * Ideal.div (Ideal.exp (S x - Finset.univ.sup S)) (∑ y, Ideal.exp (S y - Finset.univ.sup S)))
      = out sc t ⊥ vc vl := by
  subst hN
  have split : ∀ f : Fin (n + k) → EReal, ∑ x, f x = (∑ i : Fin n, f ⟨i.val, by omega⟩) + ∑ l : Fin k, f ⟨n + l.val, by omega⟩ :=
    fun f => Fin.sum_univ_add f
  have hm : Finset.univ.sup S = top sc t ⊥ := by
    refine le_antisymm (Finset.sup_le fun y _ => ?_) (max_le (max_le (Finset.sup_le fun i _ => ?_) (Finset.sup_le fun l _ => ?_)) bot_le)
    · by_cases hy : y.val < n
      · exact (le_of_eq (s1 ⟨y.val, hy⟩)).trans ((Finset.le_sup (f := sc) (Finset.mem_univ _)).trans ((le_max_left _ _).trans (le_max_left _ _)))
      · have e : y = ⟨n + (⟨y.val - n, by omega⟩ : Fin k).val, by omega⟩ := Fin.ext (by dsimp only; omega)
        rw [e, s2]
        exact (Finset.le_sup (f := t) (Finset.mem_univ _)).trans ((le_max_right _ _).trans (le_max_left _ _))
    · rw [← s1]; exact Finset.le_sup (f := S) (Finset.mem_univ _)
    · rw [← s2]; exact Finset.le_sup (f := S) (Finset.mem_univ _)
  obtain ⟨r, hr⟩ := top_real_of sc t i₀ h1 h2 h3
  have hL : (∑ y, Ideal.exp (S y - Finset.univ.sup S))
      = (∑ i, Ideal.exp (sc i - top sc t ⊥)) + (∑ l, Ideal.exp (t l - top sc t ⊥)) := by
    rw [hm, split]
    refine congrArg₂ (· + ·) (Finset.sum_congr rfl fun i _ => ?_) (Finset.sum_congr rfl fun l _ => ?_)
    · rw [← s1]
    · rw [← s2]
  have pos : ∀ i, ∃ p : ℝ, 0 ≤ p ∧ Ideal.exp (sc i - top sc t ⊥) = (p : EReal) := fun i => hr ▸ exp_sub_real (sc i) (h1 i) r
  obtain ⟨p, hp, ep⟩ := sum_real (fun i => Ideal.exp (sc i - top sc t ⊥)) pos
  obtain ⟨q, hq, eq⟩ := sum_real (fun l => Ideal.exp (t l - top sc t ⊥)) fun l => hr ▸ exp_sub_real (t l) (h2 l) r
  have hp0 : 0 < p := by
    have hi : (0 : EReal) < Ideal.exp (sc i₀ - top sc t ⊥) := by
      rw [hr, ← EReal.coe_toReal (h1 i₀) h3, ← EReal.coe_sub, Ideal.exp_coe]
      exact EReal.coe_pos.mpr (Real.exp_pos _)
    have hs : Ideal.exp (sc i₀ - top sc t ⊥) ≤ ∑ i, Ideal.exp (sc i - top sc t ⊥) :=
      Finset.single_le_sum (f := fun i => Ideal.exp (sc i - top sc t ⊥))
        (fun i _ => by obtain ⟨a, ha, ea⟩ := pos i; rw [ea]; exact EReal.coe_nonneg.mpr ha) (Finset.mem_univ i₀)
    exact EReal.coe_pos.mp (ep ▸ hi.trans_le hs)
  have hL' : (∑ i, Ideal.exp (sc i - top sc t ⊥)) + (∑ l, Ideal.exp (t l - top sc t ⊥)) = ((p + q : ℝ) : EReal) := by
    rw [ep, eq, EReal.coe_add]
  have h0 : p + q ≠ 0 := by positivity
  have hd : 0 ≤ 1 / (p + q) := by positivity
  unfold out
  rw [hL, exp_bot_sub, add_zero, hL', hm]
  simp only [Ideal.div_coe h0]
  rw [EReal.right_distrib_of_nonneg_of_ne_top (EReal.coe_nonneg.mpr hd) (EReal.coe_ne_top _), sum_mul_coe _ _ hd, sum_mul_coe _ _ hd, split]
  refine congrArg₂ (· + ·) (Finset.sum_congr rfl fun i _ => ?_) (Finset.sum_congr rfl fun l _ => ?_)
  · rw [v1, ← s1, ← mul_assoc]
    exact congrArg (· * _) (mul_comm _ _)
  · rw [v2, ← s2, ← mul_assoc]
    exact congrArg (· * _) (mul_comm _ _)

end Cert.AttnSpec
-- ==== Proof.GlobHead.lean ====
module

public import proofs.«01_k».proof.Proof.Gen.Kernel7Ideal.Value
public import proofs.«01_k».proof.Proof.GlobSpec
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel7Ideal.Glob

open Idealize.ShloMosaic Idealize.ShloMosaic.TcCoe Idealize.SL.Sem
open Cert.Kernel7Ideal Cert.Kernel7Ideal.Gen

/-- One head's block of results, from the queries, the context's keys and values, and the latent rows' keys and values. -/
def head (q : Vec Ideal S512x128 .bf16) (kc vc : Vec Ideal S256x128 .bf16) (kl vl : Vec Ideal S2048x128 .bf16) : FVec Ideal S512x128 .bf16 :=
  k0_pay23 (k0_pay3 q kc) (k0_pay12 q kl) (k0_pay16 (k0_pay7 q kc) q kl) vc vl

/-- The first head's payloads are that. -/
theorem head0_eq (q : Vec Ideal S512x128 .bf16) (kc vc : Vec Ideal S256x128 .bf16) (kl vl : Vec Ideal S2048x128 .bf16) :
    k0_pay22 (k0_pay11 (k0_pay10 q) kl) (k0_pay15 (k0_pay6 q kc) (k0_pay10 q) kl) (k0_pay20 (k0_pay2 q kc) (k0_pay6 q kc) (k0_pay10 q) kl)
      (k0_pay21 (k0_pay2 q kc) (k0_pay6 q kc) (k0_pay10 q) kl) vc vl = head q kc vc kl vl := rfl

/-- The third head's payloads are that. -/
theorem head2_eq (q : Vec Ideal S512x128 .bf16) (kc vc : Vec Ideal S256x128 .bf16) (kl vl : Vec Ideal S2048x128 .bf16) :
    k0_pay24 (k0_pay4 q kc) (k0_pay13 q kl) (k0_pay17 (k0_pay8 q kc) q kl) vc vl = head q kc vc kl vl := rfl

/-- The fourth head's payloads are that. -/
theorem head3_eq (q : Vec Ideal S512x128 .bf16) (kc vc : Vec Ideal S256x128 .bf16) (kl vl : Vec Ideal S2048x128 .bf16) :
    k0_pay1 (k0_pay26 (k0_pay5 q kc) (k0_pay18 (k0_pay9 q kc) q kl) vc) (k0_pay28 (k0_pay5 q kc) (k0_pay14 q kl) (k0_pay18 (k0_pay9 q kc) q kl))
      (k0_pay29 (k0_pay14 q kl) (k0_pay18 (k0_pay9 q kc) q kl)) vl = head q kc vc kl vl := rfl

/-- The largest entry of a row of the context's scores. -/
theorem max_ctx (s : FVec Ideal S512x256 .f32) (r : Fin 512) :
    multiReduction .maximumf [1] S512 s 0xFF800000#32 reduces_S512x256_S512 (.inl rfl) rfl (ix1 r) = Finset.univ.sup fun x : Fin 256 => s (ix2 r x) := by
  refine (Ideal.multiReduction_maximumf_single s _ _ _ _ (ix1 r)).trans ?_
  refine (congrArg (fun b => (Finset.univ : Finset (Fin 256)).fold max b _) AttnSpec.neg_inf).trans ?_
  refine congrArg (fun f => (Finset.univ : Finset (Fin 256)).sup f) ?_
  funext x
  refine congrArg s ?_
  funext a
  fin_cases a <;> rfl

/-- The largest entry of a row of the latent rows' scores. -/
theorem max_lat (s : FVec Ideal S512x2048 .f32) (r : Fin 512) :
    multiReduction .maximumf [1] S512 s 0xFF800000#32 reduces_S512x2048_S512 (.inl rfl) rfl (ix1 r) = Finset.univ.sup fun x : Fin 2048 => s (ix2 r x) := by
  refine (Ideal.multiReduction_maximumf_single s _ _ _ _ (ix1 r)).trans ?_
  refine (congrArg (fun b => (Finset.univ : Finset (Fin 2048)).fold max b _) AttnSpec.neg_inf).trans ?_
  refine congrArg (fun f => (Finset.univ : Finset (Fin 2048)).sup f) ?_
  funext x
  refine congrArg s ?_
  funext a
  fin_cases a <;> rfl

/-- The larger of two columns, read at a row. -/
theorem most_step (u w : FVec Ideal S512 .f32) (r : Fin 512) :
    maximumf (shapeCast S512x1 u shapeCasts_S512_S512x1) (shapeCast S512x1 w shapeCasts_S512_S512x1) (ix2 r 0) = max (u (ix1 r)) (w (ix1 r)) := by
  pointwise []

/-- The largest score of a query is the specification's. -/
theorem most_at (q : Vec Ideal S512x128 .bf16) (kc : Vec Ideal S256x128 .bf16) (kl : Vec Ideal S2048x128 .bf16) (r : Fin 512) :
    k0_pay16 (k0_pay7 q kc) q kl (ix2 r 0) = AttnSpec.top (fun n => k0_pay3 q kc (ix2 r n)) (fun l => k0_pay12 q kl (ix2 r l)) ⊥ := by
  refine (most_step (multiReduction .maximumf [1] S512 (k0_pay3 q kc) 0xFF800000#32 reduces_S512x256_S512 (.inl rfl) rfl)
    (multiReduction .maximumf [1] S512 (k0_pay12 q kl) 0xFF800000#32 reduces_S512x2048_S512 (.inl rfl) rfl) r).trans ?_
  rw [max_ctx, max_lat, AttnSpec.top, max_eq_left bot_le]

/-- The weighted values over the sum of the exponentials, whatever number each row is taken less. -/
theorem pay23_at (s : FVec Ideal S512x256 .f32) (t : FVec Ideal S512x2048 .f32) (mx : FVec Ideal S512x1 .f32)
    (vc : Vec Ideal S256x128 .bf16) (vl : Vec Ideal S2048x128 .bf16) (r : Fin 512) (d : Fin 128) :
    k0_pay23 s t mx vc vl (ix2 r d)
      = Ideal.div ((∑ n : Fin 256, Ideal.exp (s (ix2 r n) - mx (ix2 r 0)) * vc (ix2 n d))
          + ∑ w : Fin 2048, Ideal.exp (t (ix2 r w) - mx (ix2 r 0)) * vl (ix2 w d))
        ((∑ n : Fin 256, Ideal.exp (s (ix2 r n) - mx (ix2 r 0))) + ∑ w : Fin 2048, Ideal.exp (t (ix2 r w) - mx (ix2 r 0))) := by
  pointwise [k0_pay23]

/-- A score of the context. -/
theorem pay3_at (q : Vec Ideal S512x128 .bf16) (kc : Vec Ideal S256x128 .bf16) (j : S512x256.Idx) :
    k0_pay3 q kc j = ∑ x : Fin 128, q (ix2 (j 0) x) * kc (ix2 (j 1) x) := by
  pointwise [k0_pay3]

/-- A score of the latent rows. -/
theorem pay12_at (q : Vec Ideal S512x128 .bf16) (kl : Vec Ideal S2048x128 .bf16) (j : S512x2048.Idx) :
    k0_pay12 q kl j = ∑ x : Fin 128, q (ix2 (j 0) x) * kl (ix2 (j 1) x) := by
  pointwise [k0_pay12]

/-- One head's result at a row and a feature is the specification's over the context and the latent rows, with no sink. -/
theorem head_at (q : Vec Ideal S512x128 .bf16) (kc vc : Vec Ideal S256x128 .bf16) (kl vl : Vec Ideal S2048x128 .bf16) (r : Fin 512) (d : Fin 128) :
    head q kc vc kl vl (ix2 r d) = AttnSpec.out (fun n : Fin 256 => ∑ x : Fin 128, q (ix2 r x) * kc (ix2 n x))
      (fun l : Fin 2048 => ∑ x : Fin 128, q (ix2 r x) * kl (ix2 l x)) ⊥ (fun n => vc (ix2 n d)) (fun l => vl (ix2 l d)) := by
  have e1 : ∀ n : Fin 256, k0_pay3 q kc (ix2 r n) = ∑ x : Fin 128, q (ix2 r x) * kc (ix2 n x) := fun n => pay3_at q kc _
  have e2 : ∀ w : Fin 2048, k0_pay12 q kl (ix2 r w) = ∑ x : Fin 128, q (ix2 r x) * kl (ix2 w x) := fun w => pay12_at q kl _
  unfold head AttnSpec.out
  rw [pay23_at, most_at, AttnSpec.exp_bot_sub, add_zero]
  simp only [e1, e2]

end Cert.Kernel7Ideal.Glob
-- ==== Proof.GlobRd.lean ====
module

public import proofs.«01_k».proof.Proof.GlobHead

@[expose] public section

set_option maxRecDepth 16384

noncomputable section

namespace Cert.Kernel7Ideal.Glob

open Idealize.ShloMosaic Idealize.ShloMosaic.TcCoe Idealize.SL.Sem
open Cert.Kernel7Ideal Cert.Kernel7Ideal.Gen
variable (m : (ℓ : Loc nD τ sig) → Buf (Elt Ideal) ℓ)

/-- Which block each window is on at a grid point. -/
theorem idx : ∀ t : Fin cfg0.N, win0_1.index t = ![t.val / 8 * 4 + t.val % 4, t.val / 4 % 2] ∧
    win0_2.index t = ![t.val / 8, 16 + t.val / 4 % 2] ∧ win0_3.index t = ![t.val / 8, 18 + t.val / 4 % 2] ∧
    win0_4.index t = ![t.val / 8, 16 + t.val / 4 % 2] ∧ win0_5.index t = ![t.val / 8, 18 + t.val / 4 % 2] ∧
    win0_6.index t = ![t.val / 8 * 4 + t.val % 4, t.val / 4 % 2] :=
  (by decide +kernel : ∀ t : Fin grid0.N, _)

/-- An entry of the latent rows' projections. -/
def lat (c : Dev nD) (b : Fin 16) (i : Fin 2048) (k : Fin 3072) : EReal := m ((c : Thread nD τ).loc main_arg0) (ix3 b i k)

/-- An entry of the context's projections. -/
def ctx (c : Dev nD) (b : Fin 16) (i : Fin 256) (k : Fin 3072) : EReal := m ((c : Thread nD τ).loc main_arg1) (ix3 b i k)

/-- The kernel's latent array: the latent rows' projections one below the other, the queries' columns times the scores' scale. -/
theorem lat_arr (c : Dev nD) : V m c main_v7 = fun j : S32768x3072.Idx =>
    lat m c ⟨(j 0).val / 2048, by have : (j 0).val < 32768 := (j 0).isLt; omega⟩ ⟨(j 0).val % 2048, by omega⟩ (j 1)
      * if (j 1).val < 2048 then Ideal.ofBits .f32 0x3DB504F3#32 else 1 := by
  unfold_abbrev_sides
  after_results
  funext j
  unfold lat
  pointwise []
  rfl

/-- The kernel's context array: likewise of the context's projections. -/
theorem ctx_arr (c : Dev nD) : V m c main_v15 = fun j : S4096x3072.Idx =>
    ctx m c ⟨(j 0).val / 256, by have : (j 0).val < 4096 := (j 0).isLt; omega⟩ ⟨(j 0).val % 256, by omega⟩ (j 1)
      * if (j 1).val < 2048 then Ideal.ofBits .f32 0x3DB504F3#32 else 1 := by
  unfold_abbrev_sides
  after_results
  funext j
  unfold ctx
  pointwise []
  rfl

/-- The queries' block: the query's entry times the scores' scale. -/
theorem rd_q (c : Dev nD) (t : Fin cfg0.N) (r : Fin 512) (x : Fin 512) (b : Fin 16) (i : Fin 2048) (k : Fin 3072)
    (hb : b.val = t.val / 8) (hi : i.val = t.val % 4 * 512 + r.val) (hk : k.val = t.val / 4 % 2 * 512 + x.val) :
    iblk m c 1 t (ix2 r x) = lat m c b i k * Ideal.ofBits .f32 0x3DB504F3#32 := by
  have e : ∀ j : S32768x3072.Idx, (j 0).val = b.val * 2048 + i.val → (j 1).val = k.val → V m c main_v7 j = lat m c b i k * Ideal.ofBits .f32 0x3DB504F3#32 := fun j h0 h1 => by
    rw [lat_arr]
    dsimp only
    rw [if_pos (by omega)]
    congr 2 <;> exact Fin.ext (by dsimp only; omega)
  unfold iblk
  refine e _ ?_ ?_
  all_goals blk_simp [idx t]
  all_goals omega

/-- From column 2048 on the array is the projections themselves. -/
theorem lat_plain (c : Dev nD) (j : S32768x3072.Idx) (b : Fin 16) (i : Fin 2048) (k : Fin 3072) (hk : 2048 ≤ k.val)
    (h0 : (j 0).val = b.val * 2048 + i.val) (h1 : (j 1).val = k.val) : V m c main_v7 j = lat m c b i k := by
  rw [lat_arr]
  dsimp only
  rw [if_neg (by omega), mul_one]
  congr 1 <;> exact Fin.ext (by dsimp only; omega)

/-- From column 2048 on the array is the projections themselves. -/
theorem ctx_plain (c : Dev nD) (j : S4096x3072.Idx) (b : Fin 16) (i : Fin 256) (k : Fin 3072) (hk : 2048 ≤ k.val)
    (h0 : (j 0).val = b.val * 256 + i.val) (h1 : (j 1).val = k.val) : V m c main_v15 j = ctx m c b i k := by
  rw [ctx_arr]
  dsimp only
  rw [if_neg (by omega), mul_one]
  congr 1 <;> exact Fin.ext (by dsimp only; omega)

/-- The context's keys. -/
theorem rd_kc (c : Dev nD) (t : Fin cfg0.N) (r : Fin 256) (x : Fin 128) (b : Fin 16) (k : Fin 3072)
    (hb : b.val = t.val / 8) (hk : k.val = 2048 + (t.val / 4 % 2 * 128 + x.val)) :
    iblk m c 2 t (ix2 r x) = ctx m c b r k := by
  unfold iblk
  refine ctx_plain m c _ b r k (by omega) ?_ ?_
  all_goals blk_simp [idx t]
  all_goals omega

/-- The context's values. -/
theorem rd_vc (c : Dev nD) (t : Fin cfg0.N) (r : Fin 256) (x : Fin 128) (b : Fin 16) (k : Fin 3072)
    (hb : b.val = t.val / 8) (hk : k.val = 2304 + (t.val / 4 % 2 * 128 + x.val)) :
    iblk m c 3 t (ix2 r x) = ctx m c b r k := by
  unfold iblk
  refine ctx_plain m c _ b r k (by omega) ?_ ?_
  all_goals blk_simp [idx t]
  all_goals omega

/-- The latent rows' keys. -/
theorem rd_kl (c : Dev nD) (t : Fin cfg0.N) (r : Fin 2048) (x : Fin 128) (b : Fin 16) (k : Fin 3072)
    (hb : b.val = t.val / 8) (hk : k.val = 2048 + (t.val / 4 % 2 * 128 + x.val)) :
    iblk m c 4 t (ix2 r x) = lat m c b r k := by
  unfold iblk
  refine lat_plain m c _ b r k (by omega) ?_ ?_
  all_goals blk_simp [idx t]
  all_goals omega

/-- The latent rows' values. -/
theorem rd_vl (c : Dev nD) (t : Fin cfg0.N) (r : Fin 2048) (x : Fin 128) (b : Fin 16) (k : Fin 3072)
    (hb : b.val = t.val / 8) (hk : k.val = 2304 + (t.val / 4 % 2 * 128 + x.val)) :
    iblk m c 5 t (ix2 r x) = lat m c b r k := by
  unfold iblk
  refine lat_plain m c _ b r k (by omega) ?_ ?_
  all_goals blk_simp [idx t]
  all_goals omega

end Cert.Kernel7Ideal.Glob
-- ==== Proof.GlobKernel.lean ====
module

public import proofs.«01_k».proof.Proof.GlobRd

@[expose] public section

set_option maxRecDepth 16384

noncomputable section

namespace Cert.Kernel7Ideal.Glob

open Idealize.ShloMosaic Idealize.ShloMosaic.TcCoe Idealize.SL.Sem
open Cert.Kernel7Ideal Cert.Kernel7Ideal.Gen
variable (m : (ℓ : Loc nD τ sig) → Buf (Elt Ideal) ℓ)

/-- The global attention over the kernel's arguments: image `b`, latent row `i`, group `g`, head `h` of the group, feature `d`. -/
def res (c : Dev nD) (b : Fin 16) (i : Fin 2048) (g : Fin 2) (h : Fin 4) (d : Fin 128) : EReal :=
  AttnSpec.everywhere (fun x => lat m c b i ⟨g.val * 512 + h.val * 128 + x.val, by omega⟩)
    (fun n x => ctx m c b n ⟨2048 + (g.val * 128 + x.val), by omega⟩) (fun l x => lat m c b l ⟨2048 + (g.val * 128 + x.val), by omega⟩)
    (fun n => ctx m c b n ⟨2304 + (g.val * 128 + d.val), by omega⟩) (fun l => lat m c b l ⟨2304 + (g.val * 128 + d.val), by omega⟩)

/-- One head's block at a grid point: the global attention of the block's queries. -/
theorem head_out (c : Dev nD) (t : Fin cfg0.N) (q : Vec Ideal S512x128 .bf16)
    (b : Fin 16) (i : Fin 2048) (g : Fin 2) (h : Fin 4) (r : Fin 512) (d : Fin 128)
    (hb : b.val = t.val / 8) (hi : i.val = t.val % 4 * 512 + r.val) (hg : g.val = t.val / 4 % 2)
    (hq : ∀ x : Fin 128, q (ix2 r x) = iblk m c 1 t (ix2 r (⟨h.val * 128 + x.val, by omega⟩ : Fin 512))) :
    head q (iblk m c 2 t) (iblk m c 3 t) (iblk m c 4 t) (iblk m c 5 t) (ix2 r d) = res m c b i g h d := by
  have eq : ∀ x : Fin 128, q (ix2 r x) = lat m c b i ⟨g.val * 512 + h.val * 128 + x.val, by omega⟩ * Ideal.ofBits .f32 0x3DB504F3#32 :=
    fun x => (hq x).trans (rd_q m c t r _ b i _ hb hi (by dsimp only; omega))
  have ekc : ∀ (n : Fin 256) (x : Fin 128), iblk m c 2 t (ix2 n x) = ctx m c b n ⟨2048 + (g.val * 128 + x.val), by omega⟩ :=
    fun n x => rd_kc m c t n x b _ hb (by dsimp only; omega)
  have evc : ∀ n : Fin 256, iblk m c 3 t (ix2 n d) = ctx m c b n ⟨2304 + (g.val * 128 + d.val), by omega⟩ :=
    fun n => rd_vc m c t n d b _ hb (by dsimp only; omega)
  have ekl : ∀ (w : Fin 2048) (x : Fin 128), iblk m c 4 t (ix2 w x) = lat m c b w ⟨2048 + (g.val * 128 + x.val), by omega⟩ :=
    fun w x => rd_kl m c t _ x b _ hb (by dsimp only; omega)
  have evl : ∀ w : Fin 2048, iblk m c 5 t (ix2 w d) = lat m c b w ⟨2304 + (g.val * 128 + d.val), by omega⟩ :=
    fun w => rd_vl m c t _ d b _ hb (by dsimp only; omega)
  refine (head_at _ _ _ _ _ r d).trans (AttnSpec.out_congr (funext fun n => ?_) (funext fun w => ?_) rfl (funext evc) (funext evl))
  · exact (Finset.sum_congr rfl fun x _ => congrArg₂ (· * ·) (eq x) (ekc n x)).trans (AttnSpec.scaled_query _ _)
  · exact (Finset.sum_congr rfl fun x _ => congrArg₂ (· * ·) (eq x) (ekl w x)).trans (AttnSpec.scaled_query _ _)

/-- A load of the queries' block from column `o` on. -/
theorem ld_q (X : Vec Ideal S512x512 .bf16) (o : ℕ) (inb : ∀ a, (![0, o] : Fin 2 → ℕ) a + S512x128.size a ≤ S512x512.size a) (r : Fin 512) (x : Fin 128) (h : Fin 4)
    (ho : o = h.val * 128) : View.ld (Val := Elt Ideal) X (Rect.unit (s := S512x512) ![0, o] S512x128.size inb) (ix2 r x) = X (ix2 r (⟨h.val * 128 + x.val, by omega⟩ : Fin 512)) := by
  refine View.ld_unit_apply_of X _ _ inb _ _ fun a => ?_
  fin_cases a
  · exact (Nat.zero_add _).symm
  · subst ho; rfl

/-- What a grid point leaves in the output block. -/
theorem out_at (c : Dev nD) (t : Fin cfg0.N) (y : S512x512.Idx) (b : Fin 16) (i : Fin 2048) (g : Fin 2) (h : Fin 4) (d : Fin 128)
    (hb : b.val = t.val / 8) (hi : i.val = t.val % 4 * 512 + (y 0).val) (hg : g.val = t.val / 4 % 2)
    (hh : h.val = (y 1).val / 128) (hd : d.val = (y 1).val % 128) : outsAt0 m c t y = res m c b i g h d := by
  unfold outsAt0
  frame_out
  canon_tiles x k
  case piece0 =>
    obtain rfl : h = 3 := Fin.ext (by rw [hh]; show _ = 3; omega)
    have e : x = ix2 (x 0) d := by rw [show d = x 1 from Fin.ext (by rw [hd]; omega)]; exact (ix2_eta x).symm
    rw [e]
    exact head_out m c t _ b i g 3 (x 0) d hb (by omega) hg fun _ => ld_q _ 384 _ _ _ 3 rfl
  case piece1 =>
    obtain rfl : h = 2 := Fin.ext (by rw [hh]; show _ = 2; omega)
    have e : x = ix2 (x 0) d := by rw [show d = x 1 from Fin.ext (by rw [hd]; omega)]; exact (ix2_eta x).symm
    rw [e]
    exact head_out m c t _ b i g 2 (x 0) d hb (by omega) hg fun _ => ld_q _ 256 _ _ _ 2 rfl
  case piece2 =>
    obtain rfl : h = 1 := Fin.ext (by rw [hh]; show _ = 1; omega)
    have e : x = ix2 (x 0) d := by rw [show d = x 1 from Fin.ext (by rw [hd]; omega)]; exact (ix2_eta x).symm
    rw [e]
    exact head_out m c t _ b i g 1 (x 0) d hb (by omega) hg fun _ => ld_q _ 128 _ _ _ 1 rfl
  case piece3 =>
    obtain rfl : h = 0 := Fin.ext (by rw [hh]; show _ = 0; omega)
    have e : x = ix2 (x 0) d := by rw [show d = x 1 from Fin.ext (by rw [hd]; omega)]; exact (ix2_eta x).symm
    rw [e]
    exact head_out m c t _ b i g 0 (x 0) d hb (by omega) hg fun _ => ld_q _ 0 _ _ _ 0 rfl

/-- The kernel's result array: entry `(2048 b + i, 512 g + 128 h + d)` is the global attention of image `b` at latent row `i`
    in head `h` of group `g` and feature `d`. -/
theorem final_at (c : Dev nD) : (dats m 0 c).arrAt 6 (cfgs 0).N = fun j : S32768x1024.Idx =>
    res m c ⟨(j 0).val / 2048, by have : (j 0).val < 32768 := (j 0).isLt; omega⟩ ⟨(j 0).val % 2048, by omega⟩
      ⟨(j 1).val / 512, by have : (j 1).val < 1024 := (j 1).isLt; omega⟩ ⟨(j 1).val / 128 % 4, by omega⟩ ⟨(j 1).val % 128, by omega⟩ := by
  refine (dats m 0 c).arrAt_eq_of_covers 6 _ (by decide +kernel) fun t hf y => ?_
  blk_simp
  rw [after0_6]
  have hN : t.val < 128 := lt_of_lt_of_eq t.isLt N_0
  have hy : (y 0).val < 512 := (y 0).isLt
  have hz : (y 1).val < 512 := (y 1).isLt
  have e6 : win0_6.index t 0 = t.val / 8 * 4 + t.val % 4 := by rw [(idx t).2.2.2.2.2]; rfl
  have e7 : win0_6.index t 1 = t.val / 4 % 2 := by rw [(idx t).2.2.2.2.2]; rfl
  refine out_at m c t y _ _ _ _ _ ?_ ?_ ?_ ?_ ?_ <;> dsimp only <;> simp only [e6, e7] <;> omega

end Cert.Kernel7Ideal.Glob
-- ==== Proof.GlobRef.lean ====
module

public import proofs.«01_k».proof.Proof.Gen.Reference7Ideal.Run
public import proofs.«01_k».proof.Proof.GlobSpec
public import Idealize.ShloMosaic.Lib.Tactic.CleanTypes

@[expose] public section

set_option maxRecDepth 16384

noncomputable section

namespace Cert.Reference7Ideal.Glob

open Idealize.ShloMosaic Idealize.ShloMosaic.TcCoe Idealize.SL.Sem
open Cert.Reference7Ideal Cert.Reference7Ideal.Gen
variable (m : (ℓ : Loc nD τ sig) → Buf (Elt Ideal) ℓ)

/-- Columns `o … o + 255` of the context's rows and then of the latent rows, as two heads of 128 columns. -/
def joined (x : FVec Ideal S16x256x256 .f32) (y : FVec Ideal S16x2048x256 .f32) : FVec Ideal S16x2304x2x128 .f32 :=
  shapeCast _ (concatenate S16x2304x256 1 [⟨S16x256x256, x⟩, ⟨S16x2048x256, y⟩]
    concatenates_S16x256x256_S16x2048x256_S16x2304x256_d1) shapeCasts_S16x2304x256_S16x2304x2x128

/-- The scaled scores. -/
def scores (k : FVec Ideal S16x2304x2x128 .f32) (q : FVec Ideal S16x2048x1024 .f32) : FVec Ideal S16x2x4x2048x2304 .f32 :=
  mulf (transpose S16x2x4x2048x2304 [0, 1, 4, 3, 2] (Host.dotGeneral dot_S16x2304x2x128_S16x2048x2x4x128_S16x2x2304x2048x4_3_4_1_13_02_02 none k
      (shapeCast _ q shapeCasts_S16x2048x1024_S16x2048x2x4x128)) transposes_S16x2x2304x2048x4_S16x2x4x2048x2304_0_1_4_3_2)
    (broadcastInDim S16x2x4x2048x2304 ![] bcast_S_S16x2x4x2048x2304 (constant S_ .f32 0x3DB504F3#32))

/-- The exponentials of the scores less a number given for each row. -/
def shifted (s : FVec Ideal S16x2x4x2048x2304 .f32) (r : FVec Ideal S16x2x4x2048 .f32) : FVec Ideal S16x2x4x2048x2304 .f32 :=
  Host.exp (subf s (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3
    (maximumf (broadcastInDim S16x2x4x2048 ![] bcast_S_S16x2x4x2048 (constant S_ .f32 0xFF800000#32)) r))))

/-- The exponentials of the scores less their row's largest. -/
def expo (s : FVec Ideal S16x2x4x2048x2304 .f32) : FVec Ideal S16x2x4x2048x2304 .f32 :=
  shifted s (Host.reduce FloatOps.maximumf s (constant S_ .f32 0xFF800000#32) reducesTo_S16x2x4x2048x2304_S16x2x4x2048_d4 h_S_)

/-- The softmax of a row applied to the values. -/
def mix (e : FVec Ideal S16x2x4x2048x2304 .f32) (v : FVec Ideal S16x2304x2x128 .f32) : FVec Ideal S32768x1024 .bf16 :=
  truncf .bf16 (shapeCast _ (transpose S16x2048x2x4x128 [0, 4, 1, 3, 2] (Host.dotGeneral dot_S16x2304x2x128_S16x2x4x2048x2304_S16x2x128x4x2048_1_4_3_23_02_01 none v
    (Host.divf e (broadcastInDim S16x2x4x2048x2304 ![0, 1, 2, 3, 4] bcast_S16x2x4x2048x1_S16x2x4x2048x2304_0_1_2_3_4
      (broadcastInDim S16x2x4x2048x1 ![0, 1, 2, 3] bcast_S16x2x4x2048_S16x2x4x2048x1_0_1_2_3 (Host.reduceAdd e (constant S_ .f32 0x00000000#32) reducesTo_S16x2x4x2048x2304_S16x2x4x2048_d4 h_S_))))) transposes_S16x2x128x4x2048_S16x2048x2x4x128_0_4_1_3_2) shapeCasts_S16x2048x2x4x128_S32768x1024) bitsLt_bf16_f32

/-- The reference's result is its steps in turn. -/
theorem res_eq (c : Dev nD) : Value.res_main_v28 m c =
    mix (expo (scores (joined (extractStridedSlice S16x256x256 ![0, 0, 2048] (m ((c.tc : Thread nD τ).loc main_arg1)) slices_S16x256x3072_S16x256x256_0_0_2048)
        (extractStridedSlice S16x2048x256 ![0, 0, 2048] (m ((c.tc : Thread nD τ).loc main_arg0)) slices_S16x2048x3072_S16x2048x256_0_0_2048))
        (extractStridedSlice S16x2048x1024 ![0, 0, 0] (m ((c.tc : Thread nD τ).loc main_arg0)) slices_S16x2048x3072_S16x2048x1024_0_0_0)))
      (joined (extractStridedSlice S16x256x256 ![0, 0, 2304] (m ((c.tc : Thread nD τ).loc main_arg1)) slices_S16x256x3072_S16x256x256_0_0_2304)
        (extractStridedSlice S16x2048x256 ![0, 0, 2304] (m ((c.tc : Thread nD τ).loc main_arg0)) slices_S16x2048x3072_S16x2048x256_0_0_2304)) := rfl

/-- The joined rows at an index: a row of the context below 256, a latent row from there on. -/
theorem joined_at (x : FVec Ideal S16x256x256 .f32) (y : FVec Ideal S16x2048x256 .f32) (j : S16x2304x2x128.Idx) :
    joined x y j = if h : (j 1).val < 256 then x (ix3 (j 0) ⟨(j 1).val, h⟩ ⟨(j 2).val * 128 + (j 3).val, by have := (j 2).isLt; have := (j 3).isLt; dsimp at *; omega⟩)
      else y (ix3 (j 0) ⟨(j 1).val - 256, by have := (j 1).isLt; dsimp at *; omega⟩ ⟨(j 2).val * 128 + (j 3).val, by have := (j 2).isLt; have := (j 3).isLt; dsimp at *; omega⟩) := by
  pointwise [joined]

/-- A score. -/
theorem scores_at (k : FVec Ideal S16x2304x2x128 .f32) (q : FVec Ideal S16x2048x1024 .f32) (j : S16x2x4x2048x2304.Idx) :
    scores k q j = AttnSpec.score (fun x => q (ix3 (j 0) (j 3) ⟨(j 1).val * 512 + (j 2).val * 128 + x.val, by have := (j 1).isLt; have := (j 2).isLt; dsimp at *; omega⟩))
        (fun x => k (ix4 (j 0) (j 4) (j 1) x)) := by
  pointwise [scores, AttnSpec.score]

/-- The row's largest entry. -/
theorem rowMax_at (s : FVec Ideal S16x2x4x2048x2304 .f32) (j : S16x2x4x2048.Idx) :
    Host.reduce FloatOps.maximumf s (constant (F := Ideal) S_ .f32 0xFF800000#32) reducesTo_S16x2x4x2048x2304_S16x2x4x2048_d4 h_S_ j
      = (Finset.univ : Finset (Fin 2304)).fold max (Ideal.ofBits .f32 0xFF800000#32) (fun x => s (ix5 (j 0) (j 1) (j 2) (j 3) x)) := by
  have h : S16x2x4x2048x2304.Reduces [4] S16x2x4x2048 := by decide
  refine (Host.reduce_eq_fold_single FloatOps.maximumf s _ _ h h_S_ j).trans ?_
  refine congrArg (fun f => (Finset.univ : Finset (Fin 2304)).fold max (Ideal.ofBits .f32 0xFF800000#32) f) ?_
  funext x
  refine congrArg s ?_
  funext a
  fin_cases a <;> rfl

/-- The exponential of an entry less its row's number. -/
theorem shifted_at (s : FVec Ideal S16x2x4x2048x2304 .f32) (r : FVec Ideal S16x2x4x2048 .f32) (j : S16x2x4x2048x2304.Idx) :
    shifted s r j = Ideal.exp (s j - max (Ideal.ofBits .f32 0xFF800000#32) (r (ix4 (j 0) (j 1) (j 2) (j 3)))) := by
  pointwise [shifted]

/-- The exponential of an entry less its row's largest. -/
theorem expo_at (s : FVec Ideal S16x2x4x2048x2304 .f32) (j : S16x2x4x2048x2304.Idx) :
    expo s j = Ideal.exp (s j - Finset.univ.sup fun x : Fin 2304 => s (ix5 (j 0) (j 1) (j 2) (j 3) x)) := by
  unfold expo
  rw [shifted_at, rowMax_at, AttnSpec.neg_inf, max_eq_right bot_le]
  rfl

/-- The weighted values at an entry of the result. -/
theorem mix_at (e : FVec Ideal S16x2x4x2048x2304 .f32) (v : FVec Ideal S16x2304x2x128 .f32) (j : S32768x1024.Idx)
    (b : Fin 16) (i : Fin 2048) (g : Fin 2) (h : Fin 4) (d : Fin 128) (hb : b.val = (j 0).val / 2048) (hi : i.val = (j 0).val % 2048)
    (hg : g.val = (j 1).val / 512) (hh : h.val = (j 1).val / 128 % 4) (hd : d.val = (j 1).val % 128) :
    mix e v j = ∑ x : Fin 2304, v (ix4 b x g d) * Ideal.div (e (ix5 b g h i x)) (∑ y : Fin 2304, e (ix5 b g h i y)) := by
  pointwise [mix]
  blk_point

end Cert.Reference7Ideal.Glob
-- ==== Proof.GlobRefOut.lean ====
module

public import proofs.«01_k».proof.Proof.GlobRef

@[expose] public section

set_option maxRecDepth 16384

noncomputable section

namespace Cert.Reference7Ideal.Glob

open Idealize.ShloMosaic Idealize.ShloMosaic.TcCoe Idealize.SL.Sem
open Cert.Reference7Ideal Cert.Reference7Ideal.Gen
variable (m : (ℓ : Loc nD τ sig) → Buf (Elt Ideal) ℓ)

/-- The softmax of a row of scores, applied to the values, at an entry of the result. -/
theorem soft_at (s : FVec Ideal S16x2x4x2048x2304 .f32) (v : FVec Ideal S16x2304x2x128 .f32) (j : S32768x1024.Idx)
    (b : Fin 16) (i : Fin 2048) (g : Fin 2) (h : Fin 4) (d : Fin 128) (hb : b.val = (j 0).val / 2048) (hi : i.val = (j 0).val % 2048)
    (hg : g.val = (j 1).val / 512) (hh : h.val = (j 1).val / 128 % 4) (hd : d.val = (j 1).val % 128) :
    mix (expo s) v j = ∑ x : Fin 2304, v (ix4 b x g d) * Ideal.div (Ideal.exp (s (ix5 b g h i x) - Finset.univ.sup fun y : Fin 2304 => s (ix5 b g h i y)))
      (∑ y : Fin 2304, Ideal.exp (s (ix5 b g h i y) - Finset.univ.sup fun y : Fin 2304 => s (ix5 b g h i y))) := by
  have e : ∀ y, expo s (ix5 b g h i y) = Ideal.exp (s (ix5 b g h i y) - Finset.univ.sup fun y : Fin 2304 => s (ix5 b g h i y)) :=
    fun y => expo_at s (ix5 b g h i y)
  rw [mix_at (expo s) v j b i g h d hb hi hg hh hd]
  simp only [e]

/-- The joined rows at a row of the context. -/
theorem joined_ctx (x : FVec Ideal S16x256x256 .f32) (y : FVec Ideal S16x2048x256 .f32) (b : Fin 16) (n : Fin 256) (g : Fin 2) (d : Fin 128) :
    joined x y (ix4 b ⟨n.val, by omega⟩ g d) = x (ix3 b n ⟨g.val * 128 + d.val, by omega⟩) :=
  (joined_at x y _).trans (dif_pos (show n.val < 256 from n.isLt))

/-- The joined rows at a latent row. -/
theorem joined_lat (x : FVec Ideal S16x256x256 .f32) (y : FVec Ideal S16x2048x256 .f32) (b : Fin 16) (l : Fin 2048) (g : Fin 2) (d : Fin 128) :
    joined x y (ix4 b ⟨256 + l.val, by omega⟩ g d) = y (ix3 b l ⟨g.val * 128 + d.val, by omega⟩) :=
  (joined_at x y _).trans ((dif_neg (show ¬ 256 + l.val < 256 by omega)).trans
    (congrArg (fun w => y (ix3 b w _)) (Fin.ext (show 256 + l.val - 256 = l.val by omega))))

/-- An entry of the reference's result is the global attention of its query, where the queries and keys are finite. -/
theorem ref_at (c : Dev nD) (j : S32768x1024.Idx)
    (b : Fin 16) (i : Fin 2048) (g : Fin 2) (h : Fin 4) (d : Fin 128) (hb : b.val = (j 0).val / 2048) (hi : i.val = (j 0).val % 2048)
    (hg : g.val = (j 1).val / 512) (hh : h.val = (j 1).val / 128 % 4) (hd : d.val = (j 1).val % 128)
    (X : FVec Ideal S16x2048x3072 .f32) (Y : FVec Ideal S16x256x3072 .f32)
    (hX : m ((c.tc : Thread nD τ).loc main_arg0) = X) (hY : m ((c.tc : Thread nD τ).loc main_arg1) = Y)
    (fq : ∀ x : Fin 1024, X (ix3 b i ⟨x.val, by omega⟩) ≠ ⊤ ∧ X (ix3 b i ⟨x.val, by omega⟩) ≠ ⊥)
    (fk : ∀ (l : Fin 2048) (x : Fin 256), X (ix3 b l ⟨2048 + x.val, by omega⟩) ≠ ⊤ ∧ X (ix3 b l ⟨2048 + x.val, by omega⟩) ≠ ⊥)
    (fc : ∀ (n : Fin 256) (x : Fin 256), Y (ix3 b n ⟨2048 + x.val, by omega⟩) ≠ ⊤ ∧ Y (ix3 b n ⟨2048 + x.val, by omega⟩) ≠ ⊥) :
    Value.res_main_v28 m c j = AttnSpec.everywhere (fun x => X (ix3 b i ⟨g.val * 512 + h.val * 128 + x.val, by omega⟩))
      (fun n x => Y (ix3 b n ⟨2048 + (g.val * 128 + x.val), by omega⟩)) (fun l x => X (ix3 b l ⟨2048 + (g.val * 128 + x.val), by omega⟩))
      (fun n => Y (ix3 b n ⟨2304 + (g.val * 128 + d.val), by omega⟩)) (fun l => X (ix3 b l ⟨2304 + (g.val * 128 + d.val), by omega⟩)) := by
  subst hX hY
  refine (congrFun (res_eq m c) j).trans ((soft_at _ _ j b i g h d hb hi hg hh hd).trans ?_)
  have q1 : ∀ (x : Fin 1024), extractStridedSlice S16x2048x1024 ![0, 0, 0] (m ((c.tc : Thread nD τ).loc main_arg0)) slices_S16x2048x3072_S16x2048x1024_0_0_0 (ix3 b i x)
      = (m ((c.tc : Thread nD τ).loc main_arg0) : FVec Ideal S16x2048x3072 .f32) (ix3 b i ⟨x.val, by omega⟩) := fun x => by pointwise []
  have k1 : ∀ (l : Fin 2048) (x : Fin 256), extractStridedSlice S16x2048x256 ![0, 0, 2048] (m ((c.tc : Thread nD τ).loc main_arg0)) slices_S16x2048x3072_S16x2048x256_0_0_2048 (ix3 b l x)
      = (m ((c.tc : Thread nD τ).loc main_arg0) : FVec Ideal S16x2048x3072 .f32) (ix3 b l ⟨2048 + x.val, by omega⟩) := fun l x => by pointwise []
  have c1 : ∀ (l : Fin 256) (x : Fin 256), extractStridedSlice S16x256x256 ![0, 0, 2048] (m ((c.tc : Thread nD τ).loc main_arg1)) slices_S16x256x3072_S16x256x256_0_0_2048 (ix3 b l x)
      = (m ((c.tc : Thread nD τ).loc main_arg1) : FVec Ideal S16x256x3072 .f32) (ix3 b l ⟨2048 + x.val, by omega⟩) := fun l x => by pointwise []
  have v1 : ∀ (l : Fin 2048) (x : Fin 256), extractStridedSlice S16x2048x256 ![0, 0, 2304] (m ((c.tc : Thread nD τ).loc main_arg0)) slices_S16x2048x3072_S16x2048x256_0_0_2304 (ix3 b l x)
      = (m ((c.tc : Thread nD τ).loc main_arg0) : FVec Ideal S16x2048x3072 .f32) (ix3 b l ⟨2304 + x.val, by omega⟩) := fun l x => by pointwise []
  have w1 : ∀ (l : Fin 256) (x : Fin 256), extractStridedSlice S16x256x256 ![0, 0, 2304] (m ((c.tc : Thread nD τ).loc main_arg1)) slices_S16x256x3072_S16x256x256_0_0_2304 (ix3 b l x)
      = (m ((c.tc : Thread nD τ).loc main_arg1) : FVec Ideal S16x256x3072 .f32) (ix3 b l ⟨2304 + x.val, by omega⟩) := fun l x => by pointwise []
  have hq : ∀ x : Fin 128, _ := fun x => fq ⟨g.val * 512 + h.val * 128 + x.val, by omega⟩
  refine AttnSpec.softmax_eq_plain (n := 256) (k := 2048) (N := 2304) rfl (fun y => scores _ _ (ix5 b g h i y)) (fun x => joined _ _ (ix4 b x g d)) _ _ _ _
    (fun n => (scores_at _ _ _).trans ?_) (fun l => (scores_at _ _ _).trans ?_)
    (fun n => (joined_ctx _ _ b n g d).trans (w1 _ _)) (fun l => (joined_lat _ _ b l g d).trans (v1 _ _)) 0 (fun n => ?_) (fun l => ?_) ?_
  · exact congrArg₂ AttnSpec.score (funext fun x => q1 _) (funext fun x => (joined_ctx _ _ b n g x).trans (c1 _ _))
  · exact congrArg₂ AttnSpec.score (funext fun x => q1 _) (funext fun x => (joined_lat _ _ b l g x).trans (k1 _ _))
  · exact AttnSpec.score_ne_top _ _ hq fun x => fc n ⟨g.val * 128 + x.val, by omega⟩
  · exact AttnSpec.score_ne_top _ _ hq fun x => fk l ⟨g.val * 128 + x.val, by omega⟩
  · exact AttnSpec.score_ne_bot _ _ hq fun x => fc 0 ⟨g.val * 128 + x.val, by omega⟩

end Cert.Reference7Ideal.Glob
-- ==== Proof.GlobPre.lean ====
module

public import proofs.«01_k».proof.Proof.AttnPre
public import Idealize.ShloMosaic.Lib.Pipeline.ValueKit

@[expose] public section

set_option maxRecDepth 16384

noncomputable section

namespace Cert.GlobPre

open Idealize.ShloMosaic Cert.Pre_finite_global

/-- The shapes' side conditions of the precondition's operations. -/
theorem facts : Cert.Pre_finite_global.Facts :=
  ⟨by decide, by decide, by decide, by decide, by decide, by decide⟩

variable [Cert.Pre_finite_global.Facts] (X : FVec Ideal S16x2048x3072 .f32) (Y : FVec Ideal S16x256x3072 .f32) (Z : FVec Ideal S8 .f32)

/-- The queries are finite. -/
theorem q_fin (h : (fn X Y Z).1 = fun _ => 1#1) (b : Fin 16) (i : Fin 2048) (x : Fin 1024) :
    X (ix3 b i ⟨x.val, by omega⟩) ≠ ⊤ ∧ X (ix3 b i ⟨x.val, by omega⟩) ≠ ⊥ := by
  refine AttnPre.finite_of _ (Eq.trans ?_ (congrFun h (ix3 b i x)))
  pointwise [fn]

/-- The latent rows' keys are finite. -/
theorem k_fin (h : (fn X Y Z).2.1 = fun _ => 1#1) (b : Fin 16) (i : Fin 2048) (x : Fin 256) :
    X (ix3 b i ⟨2048 + x.val, by omega⟩) ≠ ⊤ ∧ X (ix3 b i ⟨2048 + x.val, by omega⟩) ≠ ⊥ := by
  refine AttnPre.finite_of _ (Eq.trans ?_ (congrFun h (ix3 b i x)))
  pointwise [fn]

/-- The context's keys are finite. -/
theorem c_fin (h : (fn X Y Z).2.2 = fun _ => 1#1) (b : Fin 16) (i : Fin 256) (x : Fin 256) :
    Y (ix3 b i ⟨2048 + x.val, by omega⟩) ≠ ⊤ ∧ Y (ix3 b i ⟨2048 + x.val, by omega⟩) ≠ ⊥ := by
  refine AttnPre.finite_of _ (Eq.trans ?_ (congrFun h (ix3 b i x)))
  pointwise [fn]

end Cert.GlobPre
-- ==== Proof.GlobClaim.lean ====
module

public import proofs.«01_k».proof.Defs
public import proofs.«01_k».proof.Proof.GlobKernel
public import proofs.«01_k».proof.Proof.GlobRefOut
public import proofs.«01_k».proof.Proof.GlobPre

@[expose] public section

set_option maxRecDepth 16384

noncomputable section

namespace Cert.GlobClaim

open Idealize.ShloMosaic Idealize.ShloMosaic.TcCoe Idealize.SL.Sem

/-- The value claim of the global attention: from matching arguments whose queries and keys are finite, the kernel's result
    array is the reference's. -/
theorem algebraic : letI := Cert.Kernel7Ideal.Gen.facts; letI := Cert.Reference7Ideal.Gen.facts; letI := Cert.GlobPre.facts
    Cert.algebraic_Kernel7Ideal_Reference7Ideal_pre_finite_global := by
  letI := Cert.GlobPre.facts
  intro m g m' g' hpre hagree
  refine ⟨fun c => (Cert.Kernel7Ideal.Gen.dats m 0 c).arrAt 6 Cert.Kernel7Ideal.cfg0.N,
    Cert.Kernel7Ideal.Value.run_blocks m g, ?_⟩
  refine (θ_run _ _ _).mono (fun r h c => ⟨(h c).1.trans ?_, (h c).2⟩) (Cert.Reference7Ideal.Value.run m' g')
  refine Eq.trans ?_ (Cert.Kernel7Ideal.Glob.final_at m c).symm
  funext j
  obtain ⟨h0, h1, _⟩ := hagree c
  obtain ⟨p0, p1, p2⟩ := hpre c
  exact Cert.Reference7Ideal.Glob.ref_at m' c j ⟨(j 0).val / 2048, by have : (j 0).val < 32768 := (j 0).isLt; omega⟩
    ⟨(j 0).val % 2048, by omega⟩ ⟨(j 1).val / 512, by have : (j 1).val < 1024 := (j 1).isLt; omega⟩ ⟨(j 1).val / 128 % 4, by omega⟩
    ⟨(j 1).val % 128, by omega⟩ rfl rfl rfl rfl rfl _ _ h0 h1
    (Cert.GlobPre.q_fin _ _ _ p0 _ _) (Cert.GlobPre.k_fin _ _ _ p1 _) (Cert.GlobPre.c_fin _ _ _ p2 _)

end Cert.GlobClaim
-- ==== Proof.QkvSpec.lean ====
module

public import Idealize.ShloMosaic.Lib.Pipeline.ValueKit
public import proofs.«01_k».proof.Proof.FfnSpec

@[expose] public section

noncomputable section

/-! The attention's input projection on one token, over the extended reals: the value of each of the 3072 columns
`[q_A | q_B | k_A | v_A | k_B | v_B]`. -/

namespace Cert.QkvSpec

open Idealize.ShloMosaic

/-- The inverse frequency of a rotation: `10000 ^ (-(2 k) / 64)`. -/
def invFreq (k : ℕ) : EReal :=
  Ideal.pow (Ideal.ofBits FTy.f32 0x461C4000#32)
    (Ideal.div (-(Ideal.ofBits FTy.f32 0x40000000#32 * (((BitVec.ofNat 32 k).toInt : ℝ) : EReal))) (Ideal.ofBits FTy.f32 0x42800000#32))
/-- The angle of the rotation `f` at position `i`: the first 32 turn with the grid's row, the others with its column. -/
def angle (i f : ℕ) : EReal :=
  if f < 32 then (((BitVec.ofNat 32 (i / 64)).toInt : ℝ) : EReal) * invFreq f else (((BitVec.ofNat 32 (i % 64)).toInt : ℝ) : EReal) * invFreq (f - 32)

/-- A head's normalised feature: `y / rms(y) * g`. -/
def headNorm (y g : Fin 128 → EReal) (d : Fin 128) : EReal :=
  y d * Ideal.rsqrt (Ideal.div (∑ k, y k * y k) (Ideal.ofBits FTy.f32 0x43000000#32) + Ideal.ofBits FTy.f32 897988541#32) * g d
/-- A head's features turned in pairs, by an angle with cosine `c` and sine `s`. -/
def turned (n : Fin 128 → EReal) (c s : EReal) (d : Fin 128) : EReal :=
  if h : d.val % 2 = 0 then n d * c - n ⟨d.val + 1, by omega⟩ * s else n ⟨d.val - 1, by omega⟩ * s + n d * c

/-- Whether a column belongs to the values. -/
def isValue (n : ℕ) : Prop := 2304 ≤ n ∧ n < 2560 ∨ 2816 ≤ n
instance (n : ℕ) : Decidable (isValue n) := inferInstanceAs (Decidable (_ ∨ _))
/-- The norm's gain of a column: one of four rows, and 1 for the values. -/
def gain (gq gk : Fin 2 → Fin 128 → EReal) (n : ℕ) : EReal :=
  if n < 1024 then gq 0 ⟨n % 128, by omega⟩ else if n < 2048 then gq 1 ⟨n % 128, by omega⟩ else
  if n < 2304 then gk 0 ⟨n % 128, by omega⟩ else if n < 2560 then 1 else if n < 2816 then gk 1 ⟨n % 128, by omega⟩ else 1
/-- The scale of a column: `1 / sqrt 128` for the queries. -/
def scale (n : ℕ) : EReal := if n < 2048 then Ideal.ofBits FTy.f32 0x3DB504F3#32 else 1

/-- A column of the result at position `i`, from the projected columns `p`. -/
def out (p : Fin 3072 → EReal) (gq gk : Fin 2 → Fin 128 → EReal) (i : ℕ) (n : Fin 3072) : EReal :=
  if isValue n.val then p n else
    turned (headNorm (fun d => p ⟨n.val / 128 * 128 + d.val, by omega⟩) (fun d => gain gq gk (n.val / 128 * 128 + d.val)))
      (Ideal.cos (angle i (n.val % 128 / 2))) (Ideal.sin (angle i (n.val % 128 / 2))) ⟨n.val % 128, by omega⟩ * scale n.val

end Cert.QkvSpec
-- ==== Proof.QkvHead.lean ====
module

public import proofs.«01_k».proof.Proof.Gen.Kernel6Ideal.Value
public import proofs.«01_k».proof.Proof.QkvSpec
public import Idealize.ShloMosaic.Lib.Pipeline.ValueKit
public import Idealize.ShloMosaic.Lib.Pipeline.ReadBack
public import Idealize.ShloMosaic.Lib.Claim

@[expose] public section

set_option maxRecDepth 16384

noncomputable section

/-! The attention's input projection: the kernel's normalisation and rotation of one head, and its projected rows. -/

namespace Cert.Kernel6Ideal.Qkv

open Idealize.ShloMosaic Idealize.ShloMosaic.TcCoe Idealize.SL.Sem
open Cert.Kernel6Ideal Cert.Kernel6Ideal.Gen

/-- One head's block of results, from the tables of cosines and sines, the projected columns, the gains, the scales and the marks of the values. -/
def head (cs sn p : Vec Ideal S1024x128 .f32) (g q v : Vec Ideal S1x128 .f32) : FVec Ideal S1024x128 .bf16 :=
  k0_pay11 (k0_pay5 cs) (k0_pay6 sn) k0_pay7 p (k0_pay8 p g) (k0_pay9 p g) (k0_pay10 p g) q v

/-- Whether a feature's number is even, as the kernel computes it, on words. -/
theorem even_lane : ∀ d : Fin 128, IntOp.cmpi CmpIPredicate.eq
                (Scalar.select
                  (IntOp.andi
                    (IntOp.xori
                      (IntOp.cmpi CmpIPredicate.slt
                        (IntOp.remsi ArithUnit.vector (BitVec.ofNat 32 d.val)
                          (Scalar.select (Scalar.cmpi CmpIPredicate.eq 2#32 0#32) 1#32 2#32))
                        0#32)
                      (Scalar.cmpi CmpIPredicate.slt (Scalar.select (Scalar.cmpi CmpIPredicate.eq 2#32 0#32) 1#32 2#32)
                        0#32))
                    (IntOp.cmpi CmpIPredicate.ne
                      (IntOp.remsi ArithUnit.vector (BitVec.ofNat 32 d.val)
                        (Scalar.select (Scalar.cmpi CmpIPredicate.eq 2#32 0#32) 1#32 2#32))
                      0#32))
                  (IntOp.addi
                    (IntOp.remsi ArithUnit.vector (BitVec.ofNat 32 d.val)
                      (Scalar.select (Scalar.cmpi CmpIPredicate.eq 2#32 0#32) 1#32 2#32))
                    (Scalar.select (Scalar.cmpi CmpIPredicate.eq 2#32 0#32) 1#32 2#32))
                  (IntOp.remsi ArithUnit.vector (BitVec.ofNat 32 d.val)
                    (Scalar.select (Scalar.cmpi CmpIPredicate.eq 2#32 0#32) 1#32 2#32)))
                0#32 = BitVec.ofBool (decide (d.val % 2 = 0)) := by
  decide +kernel

/-- The head's normalised features are the specification's. -/
theorem norm_at (p : Vec Ideal S1024x128 .f32) (g : Vec Ideal S1x128 .f32) (r : Fin 1024) (d : Fin 128) :
    k0_pay8 p g (ix2 r d) = QkvSpec.headNorm (fun k => p (ix2 r k)) (fun k => g (ix2 0 k)) d := by
  pointwise [k0_pay8, QkvSpec.headNorm]

/-- One head's result at a row and a feature: the projected column for the values, else the rotated features times the scale. -/
theorem head_at (cs sn p : Vec Ideal S1024x128 .f32) (g q v : Vec Ideal S1x128 .f32) (r : Fin 1024) (d : Fin 128) (cr sr : EReal)
    (hc : cs (ix2 r d) = cr) (hs : sn (ix2 r d) = sr * (if d.val % 2 = 0 then -1 else 1)) :
    head cs sn p g q v (ix2 r d) = if 0 < v (ix2 0 d) then p (ix2 r d) else
      QkvSpec.turned (QkvSpec.headNorm (fun k => p (ix2 r k)) (fun k => g (ix2 0 k))) cr sr d * q (ix2 0 d) := by
  unfold head
  pointwise [k0_pay11, k0_pay5, k0_pay6, k0_pay7, k0_pay9, k0_pay10]
  rw [even_lane d, norm_at, norm_at, norm_at, hc, hs]
  refine if_congr Iff.rfl rfl (congrArg (fun u : EReal => u * q (ix2 0 d)) ?_)
  unfold QkvSpec.turned
  by_cases h : d.val % 2 = 0
  · rw [dif_pos h, if_pos h, show (⟨(d.val + 128 - 127) % 128, by omega⟩ : Fin 128) = ⟨d.val + 1, by omega⟩ from Fin.ext (by dsimp only; omega)]
    simp [h, Scalar.select, sub_eq_add_neg]
  · rw [dif_neg h, if_neg h, show (⟨(d.val + 128 - 1) % 128, by omega⟩ : Fin 128) = ⟨d.val - 1, by omega⟩ from Fin.ext (by dsimp only; omega)]
    simp [h, Scalar.select]
    exact add_comm _ _

end Cert.Kernel6Ideal.Qkv
-- ==== Proof.QkvRd.lean ====
module

public import proofs.«01_k».proof.Defs
public import proofs.«01_k».proof.Proof.Gen.Kernel6Ideal.Frame
public import Idealize.ShloMosaic.Lib.Pipeline.ValueKit
public import Idealize.ShloMosaic.Lib.Pipeline.ReadBack
public import proofs.«01_k».proof.Proof.QkvSpec

@[expose] public section

set_option maxRecDepth 16384

noncomputable section

/-! The attention's input projection: what the kernel's blocks hold. -/

namespace Cert.Kernel6Ideal.Qkv

open Idealize.ShloMosaic Idealize.ShloMosaic.TcCoe Idealize.SL.Sem
open Cert.Kernel6Ideal Cert.Kernel6Ideal.Gen
variable (m : (ℓ : Loc nD τ sig) → Buf (Elt Ideal) ℓ)

/-- An entry of the tokens, of the modulation, of the norm's gain, of the projection's weights, of the heads' gains. -/
def xs (c : Dev nD) (b : Fin 16) (i d : Fin 2048) : EReal := m ((c : Thread nD τ).loc main_arg0) (ix3 b i d)
/-- See `xs`. -/
def md (c : Dev nD) (b : Fin 16) (k : Fin 9) (d : Fin 2048) : EReal := m ((c : Thread nD τ).loc main_arg1) (ix3 b k d)
/-- See `xs`. -/
def gn (c : Dev nD) (d : Fin 2048) : EReal := m ((c : Thread nD τ).loc main_arg2) (ix3 2 1 d)
/-- See `xs`. -/
def wt (c : Dev nD) (k : Fin 2048) (n : Fin 3072) : EReal := m ((c : Thread nD τ).loc main_arg3) (ix3 1 k n)
/-- See `xs`. -/
def gq (c : Dev nD) (r : Fin 2) (d : Fin 128) : EReal := m ((c : Thread nD τ).loc main_arg4) (ix3 1 r d)
/-- See `xs`. -/
def gk (c : Dev nD) (r : Fin 2) (d : Fin 128) : EReal := m ((c : Thread nD τ).loc main_arg5) (ix3 1 r d)

/-- Which block each window is on at a grid point. -/
theorem idx : ∀ t : Fin cfg0.N, (t.val % 4 = 0 → win0_0.index t = ![t.val / 4, 0]) ∧ win0_1.index t = ![t.val / 8, 0, 0] ∧ win0_2.index t = ![0, 0] ∧
    win0_3.index t = ![min (t.val % 4) 2, 0, 0] ∧ win0_4.index t = ![0, t.val % 4 - 1] ∧ win0_5.index t = ![0, t.val % 4 - 1] ∧
    win0_6.index t = ![0, t.val % 4 - 1] ∧ win0_7.index t = ![t.val / 4 % 2, 0] ∧ win0_8.index t = ![t.val / 4 % 2, 0] ∧
    win0_9.index t = ![t.val / 4, t.val % 4 - 1] ∧ t.val < 128 :=
  (by decide +kernel : ∀ t : Fin grid0.N, _)

/-- The tokens' array. -/
theorem arr0 (c : Dev nD) : V m c main_v47 = fun j : S32768x2048.Idx =>
    xs m c ⟨(j 0).val / 2048, by have : (j 0).val < 32768 := (j 0).isLt; omega⟩ ⟨(j 0).val % 2048, by omega⟩ (j 1) := by
  unfold_abbrev_sides
  simp only [hostOps0, hostOps0_1, hostOps0_2, hostOps0_3, hostOps0_4, List.flatten_cons, List.flatten_nil, List.cons_append, List.nil_append, List.append_nil]
  after_results
  funext j; unfold xs; pointwise []
/-- The modulation's array. -/
theorem arr1 (c : Dev nD) : V m c main_v48 = fun j : S16x3x2048.Idx =>
    md m c (j 0) ⟨3 + (j 1).val, by have : (j 1).val < 3 := (j 1).isLt; omega⟩ (j 2) := by
  unfold_abbrev_sides
  simp only [hostOps0, hostOps0_1, hostOps0_2, hostOps0_3, hostOps0_4, List.flatten_cons, List.flatten_nil, List.cons_append, List.nil_append, List.append_nil]
  after_results
  funext j; unfold md; pointwise []
/-- The gain's array. -/
theorem arr2 (c : Dev nD) : V m c main_v96 = fun j : S1x2048.Idx => gn m c (j 1) := by
  unfold_abbrev_sides
  simp only [hostOps0, hostOps0_1, hostOps0_2, hostOps0_3, hostOps0_4, List.flatten_cons, List.flatten_nil, List.cons_append, List.nil_append, List.append_nil]
  after_results
  funext j; unfold gn; pointwise []
/-- The weights' array: the columns in three blocks of 1024. -/
theorem arr3 (c : Dev nD) : V m c main_v46 = fun j : S3x2048x1024.Idx =>
    wt m c (j 1) ⟨(j 0).val * 1024 + (j 2).val, by have h0 : (j 0).val < 3 := (j 0).isLt; have h2 : (j 2).val < 1024 := (j 2).isLt; omega⟩ := by
  unfold_abbrev_sides
  simp only [hostOps0, hostOps0_1, hostOps0_2, hostOps0_3, hostOps0_4, List.flatten_cons, List.flatten_nil, List.cons_append, List.nil_append, List.append_nil]
  after_results
  funext j; unfold wt; pointwise []
/-- The array of the columns' gains. -/
theorem arr4 (c : Dev nD) : V m c main_v32 = fun j : S1x3072.Idx => QkvSpec.gain (gq m c) (gk m c) (j 1).val := by
  unfold_abbrev_sides
  simp only [hostOps0, hostOps0_1, hostOps0_2, hostOps0_3, hostOps0_4, List.flatten_cons, List.flatten_nil, List.cons_append, List.nil_append, List.append_nil]
  after_results_simp
  funext j; unfold QkvSpec.gain; pointwise []
  after_results_simp
  pointwise []
  split_ifs <;> first
    | (exfalso; omega) | rfl
    | (refine Eq.trans ?_ (if_pos (by omega)).symm
       show gq m c 1 _ = gq m c 1 _; refine congrArg _ (Fin.ext ?_); dsimp only; omega)
    | (refine Eq.trans ?_ ((if_neg (by omega)).trans (if_pos (by omega))).symm
       show gk m c 0 _ = gk m c 0 _; refine congrArg _ (Fin.ext ?_); dsimp only; omega)
    | (refine Eq.trans ?_ ((if_neg (by omega)).trans ((if_neg (by omega)).trans ((if_neg (by omega)).trans (if_pos (by omega))))).symm
       show gk m c 1 _ = gk m c 1 _; refine congrArg _ (Fin.ext ?_); dsimp only; omega)
/-- The array of the columns' scales. -/
theorem arr5 (c : Dev nD) : V m c main_v36 = fun j : S1x3072.Idx => QkvSpec.scale (j 1).val := by
  unfold_abbrev_sides
  simp only [hostOps0, hostOps0_1, hostOps0_2, hostOps0_3, hostOps0_4, List.flatten_cons, List.flatten_nil, List.cons_append, List.nil_append, List.append_nil]
  after_results
  funext j; unfold QkvSpec.scale; pointwise []
  split_ifs <;> rfl
/-- The array that marks the values' columns. -/
theorem arr6 (c : Dev nD) : V m c main_v41 = fun j : S1x3072.Idx => if QkvSpec.isValue (j 1).val then (1 : EReal) else 0 := by
  unfold_abbrev_sides
  simp only [hostOps0, hostOps0_1, hostOps0_2, hostOps0_3, hostOps0_4, List.flatten_cons, List.flatten_nil, List.cons_append, List.nil_append, List.append_nil]
  after_results_simp
  funext j; pointwise []
  after_results_simp
  pointwise []
  by_cases hv : QkvSpec.isValue (j 1).val
  · rw [if_pos hv]
    unfold QkvSpec.isValue at hv
    split_ifs <;> first | rfl | (exfalso; omega)
  · rw [if_neg hv]
    unfold QkvSpec.isValue at hv
    split_ifs <;> first | rfl | (exfalso; omega)
/-- Whether a feature's number is even, as the host computes it, on words. -/
theorem even_host : ∀ d : Fin 128, IntOp.cmpi CmpIPredicate.eq
          (Scalar.select
            (IntOp.andi
              (IntOp.cmpi CmpIPredicate.ne
                (IntOp.cmpi CmpIPredicate.slt
                  (IntOp.remsi ArithUnit.host (BitVec.ofNat 32 d.val)
                    (Scalar.select (IntOp.cmpi CmpIPredicate.eq 2#32 0#32) 1#32 2#32))
                  0#32)
                (IntOp.cmpi CmpIPredicate.slt (Scalar.select (IntOp.cmpi CmpIPredicate.eq 2#32 0#32) 1#32 2#32) 0#32))
              (IntOp.cmpi CmpIPredicate.ne
                (IntOp.remsi ArithUnit.host (BitVec.ofNat 32 d.val)
                  (Scalar.select (IntOp.cmpi CmpIPredicate.eq 2#32 0#32) 1#32 2#32))
                0#32))
            (IntOp.addi
              (IntOp.remsi ArithUnit.host (BitVec.ofNat 32 d.val)
                (Scalar.select (IntOp.cmpi CmpIPredicate.eq 2#32 0#32) 1#32 2#32))
              (Scalar.select (IntOp.cmpi CmpIPredicate.eq 2#32 0#32) 1#32 2#32))
            (IntOp.remsi ArithUnit.host (BitVec.ofNat 32 d.val)
              (Scalar.select (IntOp.cmpi CmpIPredicate.eq 2#32 0#32) 1#32 2#32)))
          0#32 = BitVec.ofBool (decide (d.val % 2 = 0)) := by
  decide +kernel
/-- The word of -1. -/
theorem neg_one : Ideal.ofBits FTy.f32 3212836864#32 = -1 := by
  have h : Ideal.ofBits FTy.f32 3212836864#32 = ((-(1 : ℝ)) : EReal) := by
    simp [Ideal.ofBits, Ideal.ieee, -EReal.coe_mul, -EReal.coe_neg]; norm_num
  rw [h]; simp
/-- The array of the rotations' cosines. -/
theorem arr7 (c : Dev nD) : V m c main_v83 = fun j : S2048x128.Idx => Ideal.cos (QkvSpec.angle (j 0).val ((j 1).val / 2)) := by
  unfold_abbrev_sides
  simp only [hostOps0, hostOps0_1, hostOps0_2, hostOps0_3, hostOps0_4, List.flatten_cons, List.flatten_nil, List.cons_append, List.nil_append, List.append_nil]
  after_results
  funext j; pointwise []
  unfold QkvSpec.angle; split <;> rfl
/-- The array of the rotations' sines, the even features' negated. -/
theorem arr8 (c : Dev nD) : V m c main_v95 = fun j : S2048x128.Idx => Ideal.sin (QkvSpec.angle (j 0).val ((j 1).val / 2)) * (if (j 1).val % 2 = 0 then -1 else 1) := by
  unfold_abbrev_sides
  simp only [hostOps0, hostOps0_1, hostOps0_2, hostOps0_3, hostOps0_4, List.flatten_cons, List.flatten_nil, List.cons_append, List.nil_append, List.append_nil]
  after_results
  simp only [StableHlo.TRef.toBuf, StableHlo.TRef.ofBuf, cast_eq, id]
  funext j; pointwise []
  rw [even_host (j 1), neg_one]
  refine congrArg₂ (fun u v : EReal => u * v) (by unfold QkvSpec.angle; split <;> rfl) ?_
  by_cases h : (j 1).val % 2 = 0
  · simp [h, Scalar.select]
  · simp [h, Scalar.select]

/-- The tokens' block, where it is used. -/
theorem rd0 (c : Dev nD) (t : Fin cfg0.N) (ht : t.val % 4 = 0) (r : Fin 1024) (d : Fin 2048) (b : Fin 16) (hb : b.val = t.val / 8)
    (i : Fin 2048) (hi : i.val = t.val / 4 % 2 * 1024 + r.val) : iblk m c 0 t (ix2 r d) = xs m c b i d := by
  have e0 : win0_0.index t 0 = t.val / 4 := by rw [(idx t).1 ht]; rfl
  have e1 : win0_0.index t 1 = 0 := by rw [(idx t).1 ht]; rfl
  unfold iblk
  exact (congrFun (arr0 m c) _).trans (by congr 1 <;> exact Fin.ext (by dsimp only; blk_simp [e0, e1] <;> omega))
/-- The modulation's block. -/
theorem rd1 (c : Dev nD) (t : Fin cfg0.N) (k : Fin 3) (d : Fin 2048) (b : Fin 16) (hb : b.val = t.val / 8) :
    iblk m c 1 t (ix3 0 k d) = md m c b ⟨3 + k.val, by omega⟩ d := by
  unfold iblk
  exact (congrFun (arr1 m c) _).trans (by congr 1 <;> exact Fin.ext (by dsimp only; blk_simp [idx t] <;> omega))
/-- The gain's block. -/
theorem rd2 (c : Dev nD) (t : Fin cfg0.N) (d : Fin 2048) : iblk m c 2 t (ix2 0 d) = gn m c d := by
  unfold iblk
  exact (congrFun (arr2 m c) _).trans (by congr 1 <;> exact Fin.ext (by dsimp only; blk_simp [idx t] <;> omega))
/-- The weights' block. -/
theorem rd3 (c : Dev nD) (t : Fin cfg0.N) (k : Fin 2048) (x : Fin 1024) (n : Fin 3072) (hn : n.val = min (t.val % 4) 2 * 1024 + x.val) :
    iblk m c 3 t (ix3 0 k x) = wt m c k n := by
  unfold iblk
  exact (congrFun (arr3 m c) _).trans (by congr 1 <;> exact Fin.ext (by dsimp only; blk_simp [idx t] <;> omega))
/-- The gains' block. -/
theorem rd4 (c : Dev nD) (t : Fin cfg0.N) (x : Fin 1024) (n : ℕ) (hn : n = (t.val % 4 - 1) * 1024 + x.val) :
    iblk m c 4 t (ix2 0 x) = QkvSpec.gain (gq m c) (gk m c) n := by
  unfold iblk
  exact (congrFun (arr4 m c) _).trans (congrArg (QkvSpec.gain (gq m c) (gk m c)) (by dsimp only; blk_simp [idx t] <;> omega))
/-- The scales' block. -/
theorem rd5 (c : Dev nD) (t : Fin cfg0.N) (x : Fin 1024) (n : ℕ) (hn : n = (t.val % 4 - 1) * 1024 + x.val) :
    iblk m c 5 t (ix2 0 x) = QkvSpec.scale n := by
  unfold iblk
  exact (congrFun (arr5 m c) _).trans (congrArg QkvSpec.scale (by dsimp only; blk_simp [idx t] <;> omega))
/-- The marks' block. -/
theorem rd6 (c : Dev nD) (t : Fin cfg0.N) (x : Fin 1024) (n : ℕ) (hn : n = (t.val % 4 - 1) * 1024 + x.val) :
    iblk m c 6 t (ix2 0 x) = if QkvSpec.isValue n then (1 : EReal) else 0 := by
  unfold iblk
  exact (congrFun (arr6 m c) _).trans (congrArg (fun n => if QkvSpec.isValue n then (1 : EReal) else 0) (by dsimp only; blk_simp [idx t] <;> omega))
/-- The cosines' block. -/
theorem rd7 (c : Dev nD) (t : Fin cfg0.N) (r : Fin 1024) (d : Fin 128) (i : ℕ) (hi : i = t.val / 4 % 2 * 1024 + r.val) :
    iblk m c 7 t (ix2 r d) = Ideal.cos (QkvSpec.angle i (d.val / 2)) := by
  unfold iblk
  exact (congrFun (arr7 m c) _).trans (congrArg₂ (fun i d => Ideal.cos (QkvSpec.angle i (d / 2))) (by dsimp only; blk_simp [idx t] <;> omega) (by dsimp only; blk_simp [idx t] <;> omega))
/-- The sines' block. -/
theorem rd8 (c : Dev nD) (t : Fin cfg0.N) (r : Fin 1024) (d : Fin 128) (i : ℕ) (hi : i = t.val / 4 % 2 * 1024 + r.val) :
    iblk m c 8 t (ix2 r d) = Ideal.sin (QkvSpec.angle i (d.val / 2)) * (if d.val % 2 = 0 then -1 else 1) := by
  unfold iblk
  exact (congrFun (arr8 m c) _).trans (congrArg₂ (fun i d => Ideal.sin (QkvSpec.angle i (d / 2)) * (if d % 2 = 0 then (-1 : EReal) else 1)) (by dsimp only; blk_simp [idx t] <;> omega) (by dsimp only; blk_simp [idx t] <;> omega))

end Cert.Kernel6Ideal.Qkv
-- ==== Proof.QkvKernel.lean ====
module

public import proofs.«01_k».proof.Proof.QkvHead
public import proofs.«01_k».proof.Proof.QkvRd

@[expose] public section

set_option maxRecDepth 16384

noncomputable section

/-! The attention's input projection: the kernel's result. -/

namespace Cert.Kernel6Ideal.Qkv

open Idealize.ShloMosaic Idealize.ShloMosaic.TcCoe Idealize.SL.Sem
open Cert.Kernel6Ideal Cert.Kernel6Ideal.Gen
variable (m : (ℓ : Loc nD τ sig) → Buf (Elt Ideal) ℓ)

/-- The normalised row of a sample's position. -/
def hrow (c : Dev nD) (b : Fin 16) (i : Fin 2048) : Fin 2048 → EReal :=
  FfnSpec.normed (xs m c b i) (gn m c) (md m c b 3) (md m c b 4)
/-- The projected columns of a sample's position. -/
def proj (c : Dev nD) (b : Fin 16) (i : Fin 2048) (n : Fin 3072) : EReal := ∑ k, hrow m c b i k * wt m c k n
/-- The normalised rows, as the kernel computes them. -/
theorem pay3_at (X : Vec Ideal S1024x2048 .f32) (G : Vec Ideal S1x2048 .f32) (A S : Vec Ideal S1x1x2048 .f32) (r : Fin 1024) (d : Fin 2048) :
    k0_pay3 X G A S (ix2 r d) = FfnSpec.normed (fun k => X (ix2 r k)) (fun k => G (ix2 0 k)) (fun k => A (ix3 0 0 k)) (fun k => S (ix3 0 0 k)) d := by
  pointwise [k0_pay3, k0_pay2, FfnSpec.normed]
/-- Their projection by the block of weights at the same grid point. -/
theorem pay4_at (X : Vec Ideal S1024x2048 .f32) (G : Vec Ideal S1x2048 .f32) (A S : Vec Ideal S1x1x2048 .f32) (W : Vec Ideal S1x2048x1024 .bf16) (r x : Fin 1024) :
    k0_pay4 X G A S W (ix2 r x) = ∑ k, k0_pay3 X G A S (ix2 r k) * W (ix3 0 k x) := by
  pointwise [k0_pay4, k0_pay3]
/-- The projection of kept rows by a later block of weights. -/
theorem pay25_at (H : Vec Ideal S1024x2048 .bf16) (W : Vec Ideal S1x2048x1024 .bf16) (r x : Fin 1024) :
    k0_pay25 H W (ix2 r x) = ∑ k, H (ix2 r k) * W (ix3 0 k x) := by
  pointwise [k0_pay25]
/-- A row of the modulation as it is read off its block. -/
theorem ld_mod (X : Vec Ideal S1x3x2048 .f32) (k : Fin 3) (inb : ∀ a : Fin 3, ![0, k.val, 0] a + S1x1x2048.size a ≤ S1x3x2048.size a) (d : Fin 2048) :
    View.ld X (Rect.unit ![0, k.val, 0] S1x1x2048.size inb) (ix3 0 0 d) = X (ix3 0 k d) := by
  refine View.ld_unit_apply_of X _ _ inb _ _ fun a => ?_
  match a with
  | ⟨0, _⟩ => rfl
  | ⟨1, _⟩ => rfl
  | ⟨2, _⟩ => show d.val = 0 + d.val; omega
/-- A head's columns as they are read off the kept columns. -/
theorem ld_cols (X : Vec Ideal S1024x1024 .f32) (o : ℕ) (inb : ∀ a : Fin 2, ![0, o] a + S1024x128.size a ≤ S1024x1024.size a) (r : Fin 1024) (d : Fin 128)
    (ho : o + d.val < 1024) : View.ld X (Rect.unit ![0, o] S1024x128.size inb) (ix2 r d) = X (ix2 r ⟨o + d.val, ho⟩) := by
  refine View.ld_unit_apply_of X _ _ inb _ _ fun a => ?_
  match a with
  | ⟨0, _⟩ => show r.val = 0 + r.val; omega
  | ⟨1, _⟩ => rfl
/-- A head's entries as they are read off a row. -/
theorem ld_row (X : Vec Ideal S1x1024 .f32) (o : ℕ) (inb : ∀ a : Fin 2, ![0, o] a + S1x128.size a ≤ S1x1024.size a) (d : Fin 128)
    (ho : o + d.val < 1024) : View.ld X (Rect.unit ![0, o] S1x128.size inb) (ix2 0 d) = X (ix2 0 ⟨o + d.val, ho⟩) := by
  refine View.ld_unit_apply_of X _ _ inb _ _ fun a => ?_
  match a with
  | ⟨0, _⟩ => rfl
  | ⟨1, _⟩ => rfl

/-- The rows that a tile's first grid point computes. -/
theorem rows_first (c : Dev nD) (t : Fin cfg0.N) (ht : t.val % 4 = 0) (b : Fin 16) (i : Fin 2048) (r : Fin 1024) (d : Fin 2048)
    (inb0 : ∀ a : Fin 3, ![0, 0, 0] a + S1x1x2048.size a ≤ S1x3x2048.size a) (inb1 : ∀ a : Fin 3, ![0, 1, 0] a + S1x1x2048.size a ≤ S1x3x2048.size a)
    (hb : b.val = t.val / 8) (hi : i.val = t.val / 4 % 2 * 1024 + r.val) :
    k0_pay3 (iblk m c 0 t) (iblk m c 2 t) (View.ld (iblk m c 1 t) (Rect.unit ![0, 0, 0] S1x1x2048.size inb0))
      (View.ld (iblk m c 1 t) (Rect.unit ![0, 1, 0] S1x1x2048.size inb1)) (ix2 r d) = hrow m c b i d := by
  refine (pay3_at _ _ _ _ r d).trans ?_
  unfold hrow
  congr 1
  · funext e; exact rd0 m c t ht r e b hb i hi
  · funext e; exact rd2 m c t e
  · funext e; exact (ld_mod _ 0 inb0 e).trans (rd1 m c t 0 e b hb)
  · funext e; exact (ld_mod _ 1 inb1 e).trans (rd1 m c t 1 e b hb)

/-- The rows kept after a tile's first grid point. -/
theorem kept_first (c : Dev nD) (t : Fin cfg0.N) (ht : t.val % 4 = 0) (b : Fin 16) (i : Fin 2048) (r : Fin 1024) (d : Fin 2048)
    (hb : b.val = t.val / 8) (hi : i.val = t.val / 4 % 2 * 1024 + r.val) :
    (outsAt0 m c t.val t.isLt).2.1 (ix2 r d) = hrow m c b i d := by
  rw [outsAt0_A m c t ht (by omega) (by omega)]
  frame_out
  exact rows_first m c t ht b i r d _ _ hb hi
/-- A later grid point, but the last, leaves the kept rows alone. -/
theorem kept_later (c : Dev nD) (t : Fin cfg0.N) (h : ¬ t.val % 4 = 0) (h3 : ¬ t.val % 4 = 3) (hp : t.val - 1 < cfg0.N) :
    (outsAt0 m c t.val t.isLt).2.1 = (outsAt0 m c (t.val - 1) hp).2.1 := by
  rw [outsAt0_B m c t h (by omega) h3]
  rfl
/-- The rows kept after each of a tile's grid points but the last. -/
theorem kept (c : Dev nD) (k : ℕ) (hk : k ≤ 2) : ∀ (t : Fin cfg0.N), t.val % 4 = k → ∀ (b : Fin 16) (i : Fin 2048) (r : Fin 1024) (d : Fin 2048),
    b.val = t.val / 8 → i.val = t.val / 4 % 2 * 1024 + r.val → (outsAt0 m c t.val t.isLt).2.1 (ix2 r d) = hrow m c b i d := by
  induction k with
  | zero => exact fun t ht b i r d hb hi => kept_first m c t ht b i r d hb hi
  | succ k ih =>
    intro t ht b i r d hb hi
    have hp : t.val - 1 < cfg0.N := Nat.lt_of_le_of_lt (Nat.sub_le _ _) t.isLt
    rw [kept_later m c t (by omega) (by omega) hp]
    exact ih (by omega) ⟨t.val - 1, hp⟩ (by dsimp only; omega) b i r d (by dsimp only; omega) (by dsimp only; omega)

/-- The columns kept after each of a tile's grid points but the last: a block of the projection. -/
theorem cols (c : Dev nD) (t : Fin cfg0.N) (ht : t.val % 4 ≤ 2) (b : Fin 16) (i : Fin 2048) (r x : Fin 1024) (n : Fin 3072)
    (hb : b.val = t.val / 8) (hi : i.val = t.val / 4 % 2 * 1024 + r.val) (hn : n.val = t.val % 4 * 1024 + x.val) :
    (outsAt0 m c t.val t.isLt).2.2 (ix2 r x) = proj m c b i n := by
  have hw (k : Fin 2048) : iblk m c 3 t (ix3 0 k x) = wt m c k n := rd3 m c t k x n (by omega)
  by_cases h : t.val % 4 = 0
  · rw [outsAt0_A m c t h (by omega) (by omega)]
    frame_out
    refine (pay4_at _ _ _ _ _ r x).trans (Finset.sum_congr rfl fun k _ => ?_)
    exact congrArg₂ (fun u v : EReal => u * v) (rows_first m c t h b i r k _ _ hb hi) (hw k)
  · have hp : t.val - 1 < cfg0.N := Nat.lt_of_le_of_lt (Nat.sub_le _ _) t.isLt
    rw [outsAt0_B m c t h (by omega) (by omega)]
    frame_out
    simp only [read_unread_whole]
    refine (pay25_at _ _ r x).trans (Finset.sum_congr rfl fun k _ => ?_)
    exact congrArg₂ (fun u v : EReal => u * v)
      (kept m c ((t.val - 1) % 4) (by omega) ⟨t.val - 1, hp⟩ rfl b i r k (by dsimp only; omega) (by dsimp only; omega)) (hw k)

/-- A head of a grid point's tile, over the columns `P` kept by the point before. -/
theorem piece (c : Dev nD) (t : Fin cfg0.N) (ht : t.val % 4 ≠ 0) (b : Fin 16) (i : Fin 2048) (P : Vec Ideal S1024x1024 .f32) (o : ℕ)
    (inbP : ∀ a : Fin 2, ![0, o] a + S1024x128.size a ≤ S1024x1024.size a) (inbG : ∀ a : Fin 2, ![0, o] a + S1x128.size a ≤ S1x1024.size a)
    (ho : o + 128 ≤ 1024) (ho8 : o % 128 = 0) (x : S1024x128.Idx) (n : Fin 3072)
    (hP : ∀ (y : Fin 1024) (l : Fin 3072), l.val = (t.val % 4 - 1) * 1024 + y.val → P (ix2 (x 0) y) = proj m c b i l)
    (hi : i.val = t.val / 4 % 2 * 1024 + (x 0).val) (hn : n.val = (t.val % 4 - 1) * 1024 + (o + (x 1).val)) :
    head (iblk m c 7 t) (iblk m c 8 t) (View.ld P (Rect.unit ![0, o] S1024x128.size inbP))
      (View.ld (iblk m c 4 t) (Rect.unit ![0, o] S1x128.size inbG)) (View.ld (iblk m c 5 t) (Rect.unit ![0, o] S1x128.size inbG))
      (View.ld (iblk m c 6 t) (Rect.unit ![0, o] S1x128.size inbG)) x = QkvSpec.out (proj m c b i) (gq m c) (gk m c) i n := by
  have hx1 : (x 1).val < 128 := (x 1).isLt
  obtain ⟨r, d, rfl⟩ : ∃ (r : Fin 1024) (d : Fin 128), x = ix2 r d := ⟨x 0, x 1, by funext a; match a with | ⟨0, _⟩ => rfl | ⟨1, _⟩ => rfl⟩
  replace hP : ∀ (y : Fin 1024) (l : Fin 3072), l.val = (t.val % 4 - 1) * 1024 + y.val → P (ix2 r y) = proj m c b i l := hP
  replace hi : i.val = t.val / 4 % 2 * 1024 + r.val := hi
  replace hn : n.val = (t.val % 4 - 1) * 1024 + (o + d.val) := hn
  replace hx1 : d.val < 128 := hx1
  have hd : n.val % 128 = d.val := by omega
  have hq : n.val / 128 * 128 = (t.val % 4 - 1) * 1024 + o := by omega
  refine (head_at _ _ _ _ _ _ r d _ _ (rd7 m c t r d i.val hi) (rd8 m c t r d i.val hi)).trans ?_
  have hp (e : Fin 128) (l : Fin 3072) (hl : l.val = (t.val % 4 - 1) * 1024 + (o + e.val)) :
      View.ld P (Rect.unit ![0, o] S1024x128.size inbP) (ix2 r e) = proj m c b i l :=
    (ld_cols P o inbP r e (by omega)).trans (hP _ l hl)
  have hv := (ld_row (iblk m c 6 t) o inbG d (by omega)).trans (rd6 m c t _ n.val hn)
  have hs := (ld_row (iblk m c 5 t) o inbG d (by omega)).trans (rd5 m c t _ n.val hn)
  have hg (e : Fin 128) : View.ld (iblk m c 4 t) (Rect.unit ![0, o] S1x128.size inbG) (ix2 0 e) = QkvSpec.gain (gq m c) (gk m c) (n.val / 128 * 128 + e.val) :=
    (ld_row (iblk m c 4 t) o inbG e (by omega)).trans (rd4 m c t _ _ (by dsimp only; omega))
  unfold QkvSpec.out
  by_cases hval : QkvSpec.isValue n.val
  · rw [if_pos hval]
    refine (if_pos ?_).trans (hp d n hn)
    rw [hv, if_pos hval]; exact zero_lt_one
  · rw [if_neg hval]
    refine (if_neg ?_).trans ?_
    · rw [hv, if_neg hval]; exact lt_irrefl _
    · refine congrArg₂ (fun u v : EReal => u * v) ?_ hs
      have e1 : d = (⟨n.val % 128, by omega⟩ : Fin 128) := Fin.ext hd.symm
      have e2 : d.val / 2 = n.val % 128 / 2 := by rw [hd]
      rw [e2]
      refine congr (congrArg (fun f => QkvSpec.turned f _ _) ?_) e1
      refine congrArg₂ QkvSpec.headNorm (funext fun e => hp e _ (by dsimp only; omega)) (funext fun e => hg e)

/-- Another head is the same computation. -/
theorem headB0 (cs sn p : Vec Ideal S1024x128 .f32) (g q v : Vec Ideal S1x128 .f32) :
    k0_pay11 (k0_pay5 cs) (k0_pay6 sn) k0_pay7 p (k0_pay8 p g) (k0_pay9 p g) (k0_pay10 p g) q v = head cs sn p g q v := rfl

/-- Another head is the same computation. -/
theorem headB1 (cs sn p : Vec Ideal S1024x128 .f32) (g q v : Vec Ideal S1x128 .f32) :
    k0_pay13 p (k0_pay12 (k0_pay5 cs) (k0_pay6 sn) k0_pay7 p g) q v = head cs sn p g q v := rfl

/-- Another head is the same computation. -/
theorem headB2 (cs sn p : Vec Ideal S1024x128 .f32) (g q v : Vec Ideal S1x128 .f32) :
    k0_pay15 p (k0_pay14 (k0_pay5 cs) (k0_pay6 sn) k0_pay7 p g q) v = head cs sn p g q v := rfl

/-- Another head is the same computation. -/
theorem headB3 (cs sn p : Vec Ideal S1024x128 .f32) (g q v : Vec Ideal S1x128 .f32) :
    k0_pay18 p (k0_pay16 (k0_pay5 cs) (k0_pay6 sn) k0_pay7 p g q) (k0_pay17 v) = head cs sn p g q v := rfl

/-- Another head is the same computation. -/
theorem headB4 (cs sn p : Vec Ideal S1024x128 .f32) (g q v : Vec Ideal S1x128 .f32) :
    k0_pay19 (k0_pay5 cs) (k0_pay6 sn) k0_pay7 p g q v = head cs sn p g q v := rfl

/-- Another head is the same computation. -/
theorem headB5 (cs sn p : Vec Ideal S1024x128 .f32) (g q v : Vec Ideal S1x128 .f32) :
    k0_pay20 (k0_pay5 cs) (k0_pay6 sn) k0_pay7 p g q v = head cs sn p g q v := rfl

/-- Another head is the same computation. -/
theorem headB6 (cs sn p : Vec Ideal S1024x128 .f32) (g q v : Vec Ideal S1x128 .f32) :
    k0_pay22 (k0_pay5 cs) (k0_pay6 sn) k0_pay7 p (k0_pay21 p) (FloatOps.ofBits FTy.f32 1124073472#32) g q v = head cs sn p g q v := rfl

/-- Another head is the same computation. -/
theorem headB7 (cs sn p : Vec Ideal S1024x128 .f32) (g q v : Vec Ideal S1x128 .f32) :
    k0_pay24 (k0_pay5 cs) (k0_pay6 sn) k0_pay7 p (k0_pay23 p) g q v = head cs sn p g q v := rfl

/-- Another head is the same computation. -/
theorem headC0 (cs sn p : Vec Ideal S1024x128 .f32) (g q v : Vec Ideal S1x128 .f32) :
    k0_pay32 (k0_pay26 cs) (k0_pay27 sn) k0_pay28 p (k0_pay29 p g) (k0_pay30 p g) (k0_pay31 p g) q v = head cs sn p g q v := rfl

/-- Another head is the same computation. -/
theorem headC1 (cs sn p : Vec Ideal S1024x128 .f32) (g q v : Vec Ideal S1x128 .f32) :
    k0_pay34 p (k0_pay33 (k0_pay26 cs) (k0_pay27 sn) k0_pay28 p g) q v = head cs sn p g q v := rfl

/-- Another head is the same computation. -/
theorem headC2 (cs sn p : Vec Ideal S1024x128 .f32) (g q v : Vec Ideal S1x128 .f32) :
    k0_pay36 p (k0_pay35 (k0_pay26 cs) (k0_pay27 sn) k0_pay28 p g q) v = head cs sn p g q v := rfl

/-- Another head is the same computation. -/
theorem headC3 (cs sn p : Vec Ideal S1024x128 .f32) (g q v : Vec Ideal S1x128 .f32) :
    k0_pay39 p (k0_pay37 (k0_pay26 cs) (k0_pay27 sn) k0_pay28 p g q) (k0_pay38 v) = head cs sn p g q v := rfl

/-- Another head is the same computation. -/
theorem headC4 (cs sn p : Vec Ideal S1024x128 .f32) (g q v : Vec Ideal S1x128 .f32) :
    k0_pay40 (k0_pay26 cs) (k0_pay27 sn) k0_pay28 p g q v = head cs sn p g q v := rfl

/-- Another head is the same computation. -/
theorem headC5 (cs sn p : Vec Ideal S1024x128 .f32) (g q v : Vec Ideal S1x128 .f32) :
    k0_pay41 (k0_pay26 cs) (k0_pay27 sn) k0_pay28 p g q v = head cs sn p g q v := rfl

/-- Another head is the same computation. -/
theorem headC6 (cs sn p : Vec Ideal S1024x128 .f32) (g q v : Vec Ideal S1x128 .f32) :
    k0_pay43 (k0_pay26 cs) (k0_pay27 sn) k0_pay28 p (k0_pay42 p) (FloatOps.ofBits FTy.f32 1124073472#32) g q v = head cs sn p g q v := rfl

/-- Another head is the same computation. -/
theorem headC7 (cs sn p : Vec Ideal S1024x128 .f32) (g q v : Vec Ideal S1x128 .f32) :
    k0_pay1 (k0_pay26 cs) (k0_pay27 sn) k0_pay28 p (k0_pay44 p) g q v = head cs sn p g q v := rfl

/-- The result's tile at a grid point that is neither first nor last. -/
theorem out_B (c : Dev nD) (t : Fin cfg0.N) (h : ¬ t.val % 4 = 0) (h3 : ¬ t.val % 4 = 3) (b : Fin 16) (i : Fin 2048) (j : S1024x1024.Idx) (n : Fin 3072)
    (hb : b.val = t.val / 8) (hi : i.val = t.val / 4 % 2 * 1024 + (j 0).val) (hn : n.val = (t.val % 4 - 1) * 1024 + (j 1).val) :
    (outsAt0 m c t.val t.isLt).1 j = QkvSpec.out (proj m c b i) (gq m c) (gk m c) i n := by
  have hp : t.val - 1 < cfg0.N := Nat.lt_of_le_of_lt (Nat.sub_le _ _) t.isLt
  have hP (r y : Fin 1024) (hr : i.val = t.val / 4 % 2 * 1024 + r.val) (l : Fin 3072) (hl : l.val = (t.val % 4 - 1) * 1024 + y.val) :
      (outsAt0 m c (t.val - 1) hp).2.2 (ix2 r y) = proj m c b i l :=
    cols m c ⟨t.val - 1, hp⟩ (by dsimp only; omega) b i r y l (by dsimp only; omega) (by dsimp only; omega) (by dsimp only; omega)
  rw [outsAt0_B m c t h (by omega) h3]
  frame_out
  simp only [read_unread_whole]
  canon_tiles x k

  case piece0 =>
    exact (congrFun (headB7 _ _ _ _ _ _) x).trans (piece m c t (by omega) b i _ 896 _ _ (by omega) (by omega) x n
      (fun y l hl => hP (x 0) y (by omega) l hl) (by omega) (by omega))

  case piece1 =>
    exact (congrFun (headB6 _ _ _ _ _ _) x).trans (piece m c t (by omega) b i _ 768 _ _ (by omega) (by omega) x n
      (fun y l hl => hP (x 0) y (by omega) l hl) (by omega) (by omega))

  case piece2 =>
    exact (congrFun (headB5 _ _ _ _ _ _) x).trans (piece m c t (by omega) b i _ 640 _ _ (by omega) (by omega) x n
      (fun y l hl => hP (x 0) y (by omega) l hl) (by omega) (by omega))

  case piece3 =>
    exact (congrFun (headB4 _ _ _ _ _ _) x).trans (piece m c t (by omega) b i _ 512 _ _ (by omega) (by omega) x n
      (fun y l hl => hP (x 0) y (by omega) l hl) (by omega) (by omega))

  case piece4 =>
    exact (congrFun (headB3 _ _ _ _ _ _) x).trans (piece m c t (by omega) b i _ 384 _ _ (by omega) (by omega) x n
      (fun y l hl => hP (x 0) y (by omega) l hl) (by omega) (by omega))

  case piece5 =>
    exact (congrFun (headB2 _ _ _ _ _ _) x).trans (piece m c t (by omega) b i _ 256 _ _ (by omega) (by omega) x n
      (fun y l hl => hP (x 0) y (by omega) l hl) (by omega) (by omega))

  case piece6 =>
    exact (congrFun (headB1 _ _ _ _ _ _) x).trans (piece m c t (by omega) b i _ 128 _ _ (by omega) (by omega) x n
      (fun y l hl => hP (x 0) y (by omega) l hl) (by omega) (by omega))

  case piece7 =>
    exact (congrFun (headB0 _ _ _ _ _ _) x).trans (piece m c t (by omega) b i _ 0 _ _ (by omega) (by omega) x n
      (fun y l hl => hP (x 0) y (by omega) l hl) (by omega) (by omega))

/-- The result's tile at a tile's last grid point. -/
theorem out_C (c : Dev nD) (t : Fin cfg0.N) (h3 : t.val % 4 = 3) (b : Fin 16) (i : Fin 2048) (j : S1024x1024.Idx) (n : Fin 3072)
    (hb : b.val = t.val / 8) (hi : i.val = t.val / 4 % 2 * 1024 + (j 0).val) (hn : n.val = (t.val % 4 - 1) * 1024 + (j 1).val) :
    (outsAt0 m c t.val t.isLt).1 j = QkvSpec.out (proj m c b i) (gq m c) (gk m c) i n := by
  have hp : t.val - 1 < cfg0.N := Nat.lt_of_le_of_lt (Nat.sub_le _ _) t.isLt
  have hP (r y : Fin 1024) (hr : i.val = t.val / 4 % 2 * 1024 + r.val) (l : Fin 3072) (hl : l.val = (t.val % 4 - 1) * 1024 + y.val) :
      (outsAt0 m c (t.val - 1) hp).2.2 (ix2 r y) = proj m c b i l :=
    cols m c ⟨t.val - 1, hp⟩ (by dsimp only; omega) b i r y l (by dsimp only; omega) (by dsimp only; omega) (by dsimp only; omega)
  rw [outsAt0_C m c t (by omega) (by omega) h3]
  frame_out
  simp only [read_unread_whole]
  canon_tiles x k

  case piece0 =>
    exact (congrFun (headC7 _ _ _ _ _ _) x).trans (piece m c t (by omega) b i _ 896 _ _ (by omega) (by omega) x n
      (fun y l hl => hP (x 0) y (by omega) l hl) (by omega) (by omega))

  case piece1 =>
    exact (congrFun (headC6 _ _ _ _ _ _) x).trans (piece m c t (by omega) b i _ 768 _ _ (by omega) (by omega) x n
      (fun y l hl => hP (x 0) y (by omega) l hl) (by omega) (by omega))

  case piece2 =>
    exact (congrFun (headC5 _ _ _ _ _ _) x).trans (piece m c t (by omega) b i _ 640 _ _ (by omega) (by omega) x n
      (fun y l hl => hP (x 0) y (by omega) l hl) (by omega) (by omega))

  case piece3 =>
    exact (congrFun (headC4 _ _ _ _ _ _) x).trans (piece m c t (by omega) b i _ 512 _ _ (by omega) (by omega) x n
      (fun y l hl => hP (x 0) y (by omega) l hl) (by omega) (by omega))

  case piece4 =>
    exact (congrFun (headC3 _ _ _ _ _ _) x).trans (piece m c t (by omega) b i _ 384 _ _ (by omega) (by omega) x n
      (fun y l hl => hP (x 0) y (by omega) l hl) (by omega) (by omega))

  case piece5 =>
    exact (congrFun (headC2 _ _ _ _ _ _) x).trans (piece m c t (by omega) b i _ 256 _ _ (by omega) (by omega) x n
      (fun y l hl => hP (x 0) y (by omega) l hl) (by omega) (by omega))

  case piece6 =>
    exact (congrFun (headC1 _ _ _ _ _ _) x).trans (piece m c t (by omega) b i _ 128 _ _ (by omega) (by omega) x n
      (fun y l hl => hP (x 0) y (by omega) l hl) (by omega) (by omega))

  case piece7 =>
    exact (congrFun (headC0 _ _ _ _ _ _) x).trans (piece m c t (by omega) b i _ 0 _ _ (by omega) (by omega) x n
      (fun y l hl => hP (x 0) y (by omega) l hl) (by omega) (by omega))

end Cert.Kernel6Ideal.Qkv
-- ==== Proof.QkvRef.lean ====
module

public import proofs.«01_k».proof.Defs
public import proofs.«01_k».proof.Proof.Gen.Reference6Ideal.Run
public import Idealize.ShloMosaic.Lib.Pipeline.ValueKit
public import Idealize.ShloMosaic.Lib.KernelVsHost
public import proofs.«01_k».proof.Proof.QkvSpec

@[expose] public section

set_option maxRecDepth 16384

noncomputable section

/-! The attention's input projection: the reference has the entries of `QkvSpec`. -/

namespace Cert.Reference6Ideal.Qkv

open Idealize.ShloMosaic Idealize.ShloMosaic.TcCoe Idealize.SL.Sem
open Cert.Reference6Ideal Cert.Reference6Ideal.Gen Cert.Reference6Ideal.Value

variable (V0 : Valuation τ sig (Elt Ideal))

/-- The reference's projection, over named arguments. -/
theorem proj_at (X : FVec Ideal S16x2048x2048 .f32) (M : FVec Ideal S16x9x2048 .f32) (G : FVec Ideal S4x3x2048 .f32)
    (W : FVec Ideal S2x2048x3072 .f32) (j : S16x2048x3072.Idx) :
    (Host.dotGeneral dot_S16x2048x2048_S2048x3072_S16x2048x3072_2_0_01_1_n_n none (addf (mulf (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ (extractStridedSlice S1x1x2048 ![2, 1, 0] G slices_S4x3x2048_S1x1x2048_2_1_0) shapeCasts_S1x1x2048_S2048)))) (broadcastInDim S16x2048x2048 ![0, 1, 2] bcast_S16x1x2048_S16x2048x2048_0_1_2 (addf (broadcastInDim S16x1x2048 ![] bcast_S_S16x1x2048 (constant S_ .f32 0x3F800000#32)) (broadcastInDim S16x1x2048 ![0, 2] bcast_S16x2048_S16x1x2048_0_2 (shapeCast _ (extractStridedSlice S16x1x2048 ![0, 4, 0] M slices_S16x9x2048_S16x1x2048_0_4_0) shapeCasts_S16x1x2048_S16x2048))))) (broadcastInDim S16x2048x2048 ![0, 1, 2] bcast_S16x1x2048_S16x2048x2048_0_1_2 (broadcastInDim S16x1x2048 ![0, 2] bcast_S16x2048_S16x1x2048_0_2 (shapeCast _ (extractStridedSlice S16x1x2048 ![0, 3, 0] M slices_S16x9x2048_S16x1x2048_0_3_0) shapeCasts_S16x1x2048_S16x2048)))) (shapeCast _ (extractStridedSlice S1x2048x3072 ![1, 0, 0] W slices_S2x2048x3072_S1x2048x3072_1_0_0) shapeCasts_S1x2048x3072_S2048x3072) : FVec Ideal S16x2048x3072 .f32) j
      = ∑ k, FfnSpec.normed (fun d => X (ix3 (j 0) (j 1) d)) (fun d => G (ix3 2 1 d)) (fun d => M (ix3 (j 0) 3 d))
          (fun d => M (ix3 (j 0) 4 d)) k * W (ix3 1 k (j 2)) := by
  pointwise [FfnSpec.normed]

/-- The frequencies. -/
theorem freq_at (f : Fin 32) : res_main_v47 V0 (ix1 f) = QkvSpec.invFreq f.val := by
  unfold res_main_v47
  pointwise [QkvSpec.invFreq]
  rfl
/-- The angles, over named frequencies. -/
theorem angle_gen (Q : FVec Ideal S32 .f32) (hQ : ∀ f : Fin 32, Q (ix1 f) = QkvSpec.invFreq f.val) (i : Fin 2048) (f : Fin 64) :
    (concatenate S2048x64 1 [⟨S2048x32, (mulf (broadcastInDim S2048x32 ![0, 1] bcast_S2048x1_S2048x32_0_1 (broadcastInDim S2048x1 ![0] bcast_S2048_S2048x1_0 (sitofp .f32 (shapeCast _ (broadcastInDim S32x64 ![0] bcast_S32_S32x64_0 (iotaInDim S32 32 0)) shapeCasts_S32x64_S2048)))) (broadcastInDim S2048x32 ![0, 1] bcast_S1x32_S2048x32_0_1 (broadcastInDim S1x32 ![1] bcast_S32_S1x32_1 Q)))⟩, ⟨S2048x32, (mulf (broadcastInDim S2048x32 ![0, 1] bcast_S2048x1_S2048x32_0_1 (broadcastInDim S2048x1 ![0] bcast_S2048_S2048x1_0 (sitofp .f32 (shapeCast _ (broadcastInDim S32x64 ![1] bcast_S64_S32x64_1 (iotaInDim S64 32 0)) shapeCasts_S32x64_S2048)))) (broadcastInDim S2048x32 ![0, 1] bcast_S1x32_S2048x32_0_1 (broadcastInDim S1x32 ![1] bcast_S32_S1x32_1 Q)))⟩] concatenates_S2048x32_S2048x32_S2048x64_d1 : FVec Ideal S2048x64 .f32) (ix2 i f)
      = QkvSpec.angle i.val f.val := by
  pointwise [QkvSpec.angle]
  simp only [hQ]
  split <;> rfl
/-- The angles. -/
theorem angle_at (i : Fin 2048) (f : Fin 64) : res_main_v58 V0 (ix2 i f) = QkvSpec.angle i.val f.val :=
  angle_gen (res_main_v47 V0) (freq_at V0) i f

/-- The cosines and the sines, spread over the samples and the heads. -/
theorem spread_at (Z : FVec Ideal S2048x64 .f32) (i : Fin 2048) (f : Fin 64) :
    (broadcastInDim S1x2048x1x64 ![1, 3] bcast_S2048x64_S1x2048x1x64_1_3 Z : FVec Ideal S1x2048x1x64 .f32) (ix4 0 i 0 f) = Z (ix2 i f) := by
  pointwise []
/-- The cosines. -/
theorem cos_at (i : Fin 2048) (f : Fin 64) : res_main_v59 V0 (ix2 i f) = Ideal.cos (QkvSpec.angle i.val f.val) :=
  congrArg Ideal.cos (angle_at V0 i f)
/-- The sines. -/
theorem sin_at (i : Fin 2048) (f : Fin 64) : res_main_v60 V0 (ix2 i f) = Ideal.sin (QkvSpec.angle i.val f.val) :=
  congrArg Ideal.sin (angle_at V0 i f)

/-- The normalised features of 8 heads, in pairs. -/
theorem norm8_at (Y : FVec Ideal S16x2048x8x128 .f32) (G : FVec Ideal S128 .f32) (b : Fin 16) (i : Fin 2048) (h : Fin 8) (f : Fin 64) (e : Fin 2) :
    (shapeCast _ (mulf (mulf Y (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf Y Y) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 G))) shapeCasts_S16x2048x8x128_S16x2048x8x64x2 : FVec Ideal S16x2048x8x64x2 .f32) (ix5 b i h f e)
      = QkvSpec.headNorm (fun d => Y (ix4 b i h d)) (fun d => G (ix1 d)) ⟨f.val * 2 + e.val, by omega⟩ := by
  pointwise [QkvSpec.headNorm]
/-- The turned features of 8 heads. -/
theorem turn8_at (N : FVec Ideal S16x2048x8x64x2 .f32) (C S : FVec Ideal S1x2048x1x64 .f32) (E O : FVec Ideal S16x2048x8x64 .f32)
    (hE : E = shapeCast _ (extractStridedSlice S16x2048x8x64x1 ![0, 0, 0, 0, 0] N slices_S16x2048x8x64x2_S16x2048x8x64x1_0_0_0_0_0) shapeCasts_S16x2048x8x64x1_S16x2048x8x64)
    (hO : O = shapeCast _ (extractStridedSlice S16x2048x8x64x1 ![0, 0, 0, 0, 1] N slices_S16x2048x8x64x2_S16x2048x8x64x1_0_0_0_0_1) shapeCasts_S16x2048x8x64x1_S16x2048x8x64)
    (b : Fin 16) (i : Fin 2048) (x : Fin 1024) :
    (shapeCast _ (shapeCast _ (concatenate S16x2048x8x64x2 4 [⟨S16x2048x8x64x1, (broadcastInDim S16x2048x8x64x1 ![0, 1, 2, 3] bcast_S16x2048x8x64_S16x2048x8x64x1_0_1_2_3 (subf (mulf E (broadcastInDim S16x2048x8x64 ![0, 1, 2, 3] bcast_S1x2048x1x64_S16x2048x8x64_0_1_2_3 C)) (mulf O (broadcastInDim S16x2048x8x64 ![0, 1, 2, 3] bcast_S1x2048x1x64_S16x2048x8x64_0_1_2_3 S))))⟩, ⟨S16x2048x8x64x1, (broadcastInDim S16x2048x8x64x1 ![0, 1, 2, 3] bcast_S16x2048x8x64_S16x2048x8x64x1_0_1_2_3 (addf (mulf E (broadcastInDim S16x2048x8x64 ![0, 1, 2, 3] bcast_S1x2048x1x64_S16x2048x8x64_0_1_2_3 S)) (mulf O (broadcastInDim S16x2048x8x64 ![0, 1, 2, 3] bcast_S1x2048x1x64_S16x2048x8x64_0_1_2_3 C))))⟩] concatenates_S16x2048x8x64x1_S16x2048x8x64x1_S16x2048x8x64x2_d4) shapeCasts_S16x2048x8x64x2_S16x2048x8x128) shapeCasts_S16x2048x8x128_S16x2048x1024 : FVec Ideal S16x2048x1024 .f32) (ix3 b i x)
      = QkvSpec.turned (fun d => N (ix5 b i ⟨x.val / 128, by omega⟩ ⟨d.val / 2, by omega⟩ ⟨d.val % 2, by omega⟩))
          (C (ix4 0 i 0 ⟨x.val % 128 / 2, by omega⟩)) (S (ix4 0 i 0 ⟨x.val % 128 / 2, by omega⟩)) ⟨x.val % 128, by omega⟩ := by
  subst hE hO
  pointwise [QkvSpec.turned]
  have hN (h : Fin 8) (f f' : Fin 64) (e e' : Fin 2) (hf : f.val = f'.val) (he : e.val = e'.val) : N (ix5 b i h f e) = N (ix5 b i h f' e') := by
    rw [Fin.ext hf, Fin.ext he]
  have hZ (Z : FVec Ideal S1x2048x1x64 .f32) (f f' : Fin 64) (hf : f.val = f'.val) : Z (ix4 0 i 0 f) = Z (ix4 0 i 0 f') := by rw [Fin.ext hf]
  have hm {u u' v v' : EReal} (hu : u = u') (hv : v = v') : u * v = u' * v' := by rw [hu, hv]
  by_cases hx : x.val % 2 = 0
  · refine (dif_pos (by omega)).trans (Eq.trans ?_ (dif_pos (by omega)).symm)
    refine congrArg₂ (fun u v : EReal => u - v) (hm (hN _ _ _ _ _ ?_ ?_) (hZ C _ _ ?_)) (hm (hN _ _ _ _ _ ?_ ?_) (hZ S _ _ ?_)) <;>
      simp only [Fin.val_zero, Fin.val_one] <;> omega
  · refine (dif_neg (by omega)).trans (Eq.trans ?_ (dif_neg (by omega)).symm)
    refine congrArg₂ (fun u v : EReal => u + v) (hm (hN _ _ _ _ _ ?_ ?_) (hZ S _ _ ?_)) (hm (hN _ _ _ _ _ ?_ ?_) (hZ C _ _ ?_)) <;>
      simp only [Fin.val_zero, Fin.val_one] <;> omega
/-- The columns of 8 heads. -/
theorem heads8_at (P : FVec Ideal S16x2048x1024 .f32) (b : Fin 16) (i : Fin 2048) (h : Fin 8) (d : Fin 128) :
    (shapeCast _ P shapeCasts_S16x2048x1024_S16x2048x8x128 : FVec Ideal S16x2048x8x128 .f32) (ix4 b i h d) = P (ix3 b i ⟨h.val * 128 + d.val, by omega⟩) := by
  pointwise []
/-- A feature of 8 heads, from the heads' columns `P` and gains `G`. -/
theorem group8_at (P : FVec Ideal S16x2048x1024 .f32) (Y : FVec Ideal S16x2048x8x128 .f32) (G : FVec Ideal S128 .f32) (N : FVec Ideal S16x2048x8x64x2 .f32)
    (C S : FVec Ideal S1x2048x1x64 .f32) (E O : FVec Ideal S16x2048x8x64 .f32)
    (hE : E = shapeCast _ (extractStridedSlice S16x2048x8x64x1 ![0, 0, 0, 0, 0] N slices_S16x2048x8x64x2_S16x2048x8x64x1_0_0_0_0_0) shapeCasts_S16x2048x8x64x1_S16x2048x8x64)
    (hO : O = shapeCast _ (extractStridedSlice S16x2048x8x64x1 ![0, 0, 0, 0, 1] N slices_S16x2048x8x64x2_S16x2048x8x64x1_0_0_0_0_1) shapeCasts_S16x2048x8x64x1_S16x2048x8x64)
    (hN : N = (shapeCast _ (mulf (mulf Y (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf Y Y) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 G))) shapeCasts_S16x2048x8x128_S16x2048x8x64x2 : FVec Ideal S16x2048x8x64x2 .f32))
    (hY : Y = shapeCast _ P shapeCasts_S16x2048x1024_S16x2048x8x128)
    (b : Fin 16) (i : Fin 2048) (x : Fin 1024) (n : ℕ) (hn : x.val % 128 = n % 128) (p g : Fin 128 → EReal) (cr sr : EReal)
    (hp : ∀ (d : Fin 128) (y : Fin 1024), y.val = x.val / 128 * 128 + d.val → P (ix3 b i y) = p d) (hg : ∀ d, G (ix1 d) = g d)
    (hc : ∀ f : Fin 64, f.val = n % 128 / 2 → C (ix4 0 i 0 f) = cr) (hs : ∀ f : Fin 64, f.val = n % 128 / 2 → S (ix4 0 i 0 f) = sr) :
    (shapeCast _ (shapeCast _ (concatenate S16x2048x8x64x2 4 [⟨S16x2048x8x64x1, (broadcastInDim S16x2048x8x64x1 ![0, 1, 2, 3] bcast_S16x2048x8x64_S16x2048x8x64x1_0_1_2_3 (subf (mulf E (broadcastInDim S16x2048x8x64 ![0, 1, 2, 3] bcast_S1x2048x1x64_S16x2048x8x64_0_1_2_3 C)) (mulf O (broadcastInDim S16x2048x8x64 ![0, 1, 2, 3] bcast_S1x2048x1x64_S16x2048x8x64_0_1_2_3 S))))⟩, ⟨S16x2048x8x64x1, (broadcastInDim S16x2048x8x64x1 ![0, 1, 2, 3] bcast_S16x2048x8x64_S16x2048x8x64x1_0_1_2_3 (addf (mulf E (broadcastInDim S16x2048x8x64 ![0, 1, 2, 3] bcast_S1x2048x1x64_S16x2048x8x64_0_1_2_3 S)) (mulf O (broadcastInDim S16x2048x8x64 ![0, 1, 2, 3] bcast_S1x2048x1x64_S16x2048x8x64_0_1_2_3 C))))⟩] concatenates_S16x2048x8x64x1_S16x2048x8x64x1_S16x2048x8x64x2_d4) shapeCasts_S16x2048x8x64x2_S16x2048x8x128) shapeCasts_S16x2048x8x128_S16x2048x1024 : FVec Ideal S16x2048x1024 .f32) (ix3 b i x)
      = QkvSpec.turned (QkvSpec.headNorm p g) cr sr ⟨n % 128, by omega⟩ := by
  refine (turn8_at N C S E O hE hO b i x).trans ?_
  have e1 : (⟨x.val % 128, by omega⟩ : Fin 128) = ⟨n % 128, by omega⟩ := Fin.ext hn
  rw [e1, hc _ (by dsimp only; omega), hs _ (by dsimp only; omega)]
  refine congrArg (fun f => QkvSpec.turned f cr sr ⟨n % 128, by omega⟩) (funext fun d => ?_)
  subst hN hY
  refine (norm8_at _ G b i _ _ _).trans ?_
  have e2 : (⟨d.val / 2 * 2 + d.val % 2, by omega⟩ : Fin 128) = d := Fin.ext (by dsimp only; omega)
  refine congr (congrArg₂ QkvSpec.headNorm (funext fun k => ?_) (funext hg)) e2
  exact (heads8_at P b i _ k).trans (hp k _ (by dsimp only))

/-- The normalised features of 2 heads, in pairs. -/
theorem norm2_at (Y : FVec Ideal S16x2048x2x128 .f32) (G : FVec Ideal S128 .f32) (b : Fin 16) (i : Fin 2048) (h : Fin 2) (f : Fin 64) (e : Fin 2) :
    (shapeCast _ (mulf (mulf Y (broadcastInDim S16x2048x2x128 ![0, 1, 2, 3] bcast_S16x2048x2x1_S16x2048x2x128_0_1_2_3 (Host.rsqrt (addf (Host.divf (broadcastInDim S16x2048x2x1 ![0, 1, 2] bcast_S16x2048x2_S16x2048x2x1_0_1_2 (Host.reduceAdd (mulf Y Y) (constant S_ .f32 0x00000000#32) reducesTo_S16x2048x2x128_S16x2048x2_d3 h_S_)) (broadcastInDim S16x2048x2x1 ![] bcast_S_S16x2048x2x1 (constant S_ .f32 0x43000000#32))) (broadcastInDim S16x2048x2x1 ![] bcast_S_S16x2048x2x1 (constant S_ .f32 0x358637BD#32)))))) (broadcastInDim S16x2048x2x128 ![0, 1, 2, 3] bcast_S1x1x1x128_S16x2048x2x128_0_1_2_3 (broadcastInDim S1x1x1x128 ![3] bcast_S128_S1x1x1x128_3 G))) shapeCasts_S16x2048x2x128_S16x2048x2x64x2 : FVec Ideal S16x2048x2x64x2 .f32) (ix5 b i h f e)
      = QkvSpec.headNorm (fun d => Y (ix4 b i h d)) (fun d => G (ix1 d)) ⟨f.val * 2 + e.val, by omega⟩ := by
  pointwise [QkvSpec.headNorm]
/-- The turned features of 2 heads. -/
theorem turn2_at (N : FVec Ideal S16x2048x2x64x2 .f32) (C S : FVec Ideal S1x2048x1x64 .f32) (E O : FVec Ideal S16x2048x2x64 .f32)
    (hE : E = shapeCast _ (extractStridedSlice S16x2048x2x64x1 ![0, 0, 0, 0, 0] N slices_S16x2048x2x64x2_S16x2048x2x64x1_0_0_0_0_0) shapeCasts_S16x2048x2x64x1_S16x2048x2x64)
    (hO : O = shapeCast _ (extractStridedSlice S16x2048x2x64x1 ![0, 0, 0, 0, 1] N slices_S16x2048x2x64x2_S16x2048x2x64x1_0_0_0_0_1) shapeCasts_S16x2048x2x64x1_S16x2048x2x64)
    (b : Fin 16) (i : Fin 2048) (x : Fin 256) :
    (shapeCast _ (shapeCast _ (concatenate S16x2048x2x64x2 4 [⟨S16x2048x2x64x1, (broadcastInDim S16x2048x2x64x1 ![0, 1, 2, 3] bcast_S16x2048x2x64_S16x2048x2x64x1_0_1_2_3 (subf (mulf E (broadcastInDim S16x2048x2x64 ![0, 1, 2, 3] bcast_S1x2048x1x64_S16x2048x2x64_0_1_2_3 C)) (mulf O (broadcastInDim S16x2048x2x64 ![0, 1, 2, 3] bcast_S1x2048x1x64_S16x2048x2x64_0_1_2_3 S))))⟩, ⟨S16x2048x2x64x1, (broadcastInDim S16x2048x2x64x1 ![0, 1, 2, 3] bcast_S16x2048x2x64_S16x2048x2x64x1_0_1_2_3 (addf (mulf E (broadcastInDim S16x2048x2x64 ![0, 1, 2, 3] bcast_S1x2048x1x64_S16x2048x2x64_0_1_2_3 S)) (mulf O (broadcastInDim S16x2048x2x64 ![0, 1, 2, 3] bcast_S1x2048x1x64_S16x2048x2x64_0_1_2_3 C))))⟩] concatenates_S16x2048x2x64x1_S16x2048x2x64x1_S16x2048x2x64x2_d4) shapeCasts_S16x2048x2x64x2_S16x2048x2x128) shapeCasts_S16x2048x2x128_S16x2048x256 : FVec Ideal S16x2048x256 .f32) (ix3 b i x)
      = QkvSpec.turned (fun d => N (ix5 b i ⟨x.val / 128, by omega⟩ ⟨d.val / 2, by omega⟩ ⟨d.val % 2, by omega⟩))
          (C (ix4 0 i 0 ⟨x.val % 128 / 2, by omega⟩)) (S (ix4 0 i 0 ⟨x.val % 128 / 2, by omega⟩)) ⟨x.val % 128, by omega⟩ := by
  subst hE hO
  pointwise [QkvSpec.turned]
  have hN (h : Fin 2) (f f' : Fin 64) (e e' : Fin 2) (hf : f.val = f'.val) (he : e.val = e'.val) : N (ix5 b i h f e) = N (ix5 b i h f' e') := by
    rw [Fin.ext hf, Fin.ext he]
  have hZ (Z : FVec Ideal S1x2048x1x64 .f32) (f f' : Fin 64) (hf : f.val = f'.val) : Z (ix4 0 i 0 f) = Z (ix4 0 i 0 f') := by rw [Fin.ext hf]
  have hm {u u' v v' : EReal} (hu : u = u') (hv : v = v') : u * v = u' * v' := by rw [hu, hv]
  by_cases hx : x.val % 2 = 0
  · refine (dif_pos (by omega)).trans (Eq.trans ?_ (dif_pos (by omega)).symm)
    refine congrArg₂ (fun u v : EReal => u - v) (hm (hN _ _ _ _ _ ?_ ?_) (hZ C _ _ ?_)) (hm (hN _ _ _ _ _ ?_ ?_) (hZ S _ _ ?_)) <;>
      simp only [Fin.val_zero, Fin.val_one] <;> omega
  · refine (dif_neg (by omega)).trans (Eq.trans ?_ (dif_neg (by omega)).symm)
    refine congrArg₂ (fun u v : EReal => u + v) (hm (hN _ _ _ _ _ ?_ ?_) (hZ S _ _ ?_)) (hm (hN _ _ _ _ _ ?_ ?_) (hZ C _ _ ?_)) <;>
      simp only [Fin.val_zero, Fin.val_one] <;> omega
/-- The columns of 2 heads. -/
theorem heads2_at (P : FVec Ideal S16x2048x256 .f32) (b : Fin 16) (i : Fin 2048) (h : Fin 2) (d : Fin 128) :
    (shapeCast _ P shapeCasts_S16x2048x256_S16x2048x2x128 : FVec Ideal S16x2048x2x128 .f32) (ix4 b i h d) = P (ix3 b i ⟨h.val * 128 + d.val, by omega⟩) := by
  pointwise []
/-- A feature of 2 heads, from the heads' columns `P` and gains `G`. -/
theorem group2_at (P : FVec Ideal S16x2048x256 .f32) (Y : FVec Ideal S16x2048x2x128 .f32) (G : FVec Ideal S128 .f32) (N : FVec Ideal S16x2048x2x64x2 .f32)
    (C S : FVec Ideal S1x2048x1x64 .f32) (E O : FVec Ideal S16x2048x2x64 .f32)
    (hE : E = shapeCast _ (extractStridedSlice S16x2048x2x64x1 ![0, 0, 0, 0, 0] N slices_S16x2048x2x64x2_S16x2048x2x64x1_0_0_0_0_0) shapeCasts_S16x2048x2x64x1_S16x2048x2x64)
    (hO : O = shapeCast _ (extractStridedSlice S16x2048x2x64x1 ![0, 0, 0, 0, 1] N slices_S16x2048x2x64x2_S16x2048x2x64x1_0_0_0_0_1) shapeCasts_S16x2048x2x64x1_S16x2048x2x64)
    (hN : N = (shapeCast _ (mulf (mulf Y (broadcastInDim S16x2048x2x128 ![0, 1, 2, 3] bcast_S16x2048x2x1_S16x2048x2x128_0_1_2_3 (Host.rsqrt (addf (Host.divf (broadcastInDim S16x2048x2x1 ![0, 1, 2] bcast_S16x2048x2_S16x2048x2x1_0_1_2 (Host.reduceAdd (mulf Y Y) (constant S_ .f32 0x00000000#32) reducesTo_S16x2048x2x128_S16x2048x2_d3 h_S_)) (broadcastInDim S16x2048x2x1 ![] bcast_S_S16x2048x2x1 (constant S_ .f32 0x43000000#32))) (broadcastInDim S16x2048x2x1 ![] bcast_S_S16x2048x2x1 (constant S_ .f32 0x358637BD#32)))))) (broadcastInDim S16x2048x2x128 ![0, 1, 2, 3] bcast_S1x1x1x128_S16x2048x2x128_0_1_2_3 (broadcastInDim S1x1x1x128 ![3] bcast_S128_S1x1x1x128_3 G))) shapeCasts_S16x2048x2x128_S16x2048x2x64x2 : FVec Ideal S16x2048x2x64x2 .f32))
    (hY : Y = shapeCast _ P shapeCasts_S16x2048x256_S16x2048x2x128)
    (b : Fin 16) (i : Fin 2048) (x : Fin 256) (n : ℕ) (hn : x.val % 128 = n % 128) (p g : Fin 128 → EReal) (cr sr : EReal)
    (hp : ∀ (d : Fin 128) (y : Fin 256), y.val = x.val / 128 * 128 + d.val → P (ix3 b i y) = p d) (hg : ∀ d, G (ix1 d) = g d)
    (hc : ∀ f : Fin 64, f.val = n % 128 / 2 → C (ix4 0 i 0 f) = cr) (hs : ∀ f : Fin 64, f.val = n % 128 / 2 → S (ix4 0 i 0 f) = sr) :
    (shapeCast _ (shapeCast _ (concatenate S16x2048x2x64x2 4 [⟨S16x2048x2x64x1, (broadcastInDim S16x2048x2x64x1 ![0, 1, 2, 3] bcast_S16x2048x2x64_S16x2048x2x64x1_0_1_2_3 (subf (mulf E (broadcastInDim S16x2048x2x64 ![0, 1, 2, 3] bcast_S1x2048x1x64_S16x2048x2x64_0_1_2_3 C)) (mulf O (broadcastInDim S16x2048x2x64 ![0, 1, 2, 3] bcast_S1x2048x1x64_S16x2048x2x64_0_1_2_3 S))))⟩, ⟨S16x2048x2x64x1, (broadcastInDim S16x2048x2x64x1 ![0, 1, 2, 3] bcast_S16x2048x2x64_S16x2048x2x64x1_0_1_2_3 (addf (mulf E (broadcastInDim S16x2048x2x64 ![0, 1, 2, 3] bcast_S1x2048x1x64_S16x2048x2x64_0_1_2_3 S)) (mulf O (broadcastInDim S16x2048x2x64 ![0, 1, 2, 3] bcast_S1x2048x1x64_S16x2048x2x64_0_1_2_3 C))))⟩] concatenates_S16x2048x2x64x1_S16x2048x2x64x1_S16x2048x2x64x2_d4) shapeCasts_S16x2048x2x64x2_S16x2048x2x128) shapeCasts_S16x2048x2x128_S16x2048x256 : FVec Ideal S16x2048x256 .f32) (ix3 b i x)
      = QkvSpec.turned (QkvSpec.headNorm p g) cr sr ⟨n % 128, by omega⟩ := by
  refine (turn2_at N C S E O hE hO b i x).trans ?_
  have e1 : (⟨x.val % 128, by omega⟩ : Fin 128) = ⟨n % 128, by omega⟩ := Fin.ext hn
  rw [e1, hc _ (by dsimp only; omega), hs _ (by dsimp only; omega)]
  refine congrArg (fun f => QkvSpec.turned f cr sr ⟨n % 128, by omega⟩) (funext fun d => ?_)
  subst hN hY
  refine (norm2_at _ G b i _ _ _).trans ?_
  have e2 : (⟨d.val / 2 * 2 + d.val % 2, by omega⟩ : Fin 128) = d := Fin.ext (by dsimp only; omega)
  refine congr (congrArg₂ QkvSpec.headNorm (funext fun k => ?_) (funext hg)) e2
  exact (heads2_at P b i _ k).trans (hp k _ (by dsimp only))

/-- The result's entry, over the six groups of columns. -/
theorem parts_at (A B : FVec Ideal S16x2048x1024 .f32) (C D E F : FVec Ideal S16x2048x256 .f32) (j : S32768x3072.Idx)
    (hb : (j 0).val / 2048 < 16) (h1 : (j 1).val < 3072) :
    (truncf .bf16 (shapeCast _ (concatenate S16x2048x3072 2 [⟨S16x2048x1024, A⟩, ⟨S16x2048x1024, B⟩, ⟨S16x2048x256, C⟩, ⟨S16x2048x256, D⟩, ⟨S16x2048x256, E⟩, ⟨S16x2048x256, F⟩] concatenates_S16x2048x1024_S16x2048x1024_S16x2048x256_S16x2048x256_S16x2048x256_S16x2048x256_S16x2048x3072_d2 : FVec Ideal S16x2048x3072 .f32) shapeCasts_S16x2048x3072_S32768x3072) bitsLt_bf16_f32 : FVec Ideal S32768x3072 .bf16) j
      = if h : (j 1).val < 1024 then A (ix3 ⟨(j 0).val / 2048, hb⟩ ⟨(j 0).val % 2048, by omega⟩ ⟨(j 1).val, h⟩) else
        if h : (j 1).val - 1024 < 1024 then B (ix3 ⟨(j 0).val / 2048, hb⟩ ⟨(j 0).val % 2048, by omega⟩ ⟨(j 1).val - 1024, h⟩) else
        if h : (j 1).val - 1024 - 1024 < 256 then C (ix3 ⟨(j 0).val / 2048, hb⟩ ⟨(j 0).val % 2048, by omega⟩ ⟨(j 1).val - 1024 - 1024, h⟩) else
        if h : (j 1).val - 1024 - 1024 - 256 < 256 then D (ix3 ⟨(j 0).val / 2048, hb⟩ ⟨(j 0).val % 2048, by omega⟩ ⟨(j 1).val - 1024 - 1024 - 256, h⟩) else
        if h : (j 1).val - 1024 - 1024 - 256 - 256 < 256 then E (ix3 ⟨(j 0).val / 2048, hb⟩ ⟨(j 0).val % 2048, by omega⟩ ⟨(j 1).val - 1024 - 1024 - 256 - 256, h⟩)
        else F (ix3 ⟨(j 0).val / 2048, hb⟩ ⟨(j 0).val % 2048, by omega⟩ ⟨(j 1).val - 1024 - 1024 - 256 - 256 - 256, by omega⟩) := by
  pointwise []

/-- A group of columns of the projection. -/
theorem slice1024_at (Q : FVec Ideal S16x2048x3072 .f32) (b : Fin 16) (i : Fin 2048) (x : Fin 1024) :
    (extractStridedSlice S16x2048x1024 ![0, 0, 0] Q slices_S16x2048x3072_S16x2048x1024_0_0_0 : FVec Ideal S16x2048x1024 .f32) (ix3 b i x) = Q (ix3 b i ⟨x.val, by omega⟩)
    ∧ (extractStridedSlice S16x2048x1024 ![0, 0, 1024] Q slices_S16x2048x3072_S16x2048x1024_0_0_1024 : FVec Ideal S16x2048x1024 .f32) (ix3 b i x) = Q (ix3 b i ⟨1024 + x.val, by omega⟩) := by
  constructor
  · pointwise []
  · pointwise []
/-- A group of columns of the projection. -/
theorem slice256_at (Q : FVec Ideal S16x2048x3072 .f32) (b : Fin 16) (i : Fin 2048) (x : Fin 256) :
    (extractStridedSlice S16x2048x256 ![0, 0, 2048] Q slices_S16x2048x3072_S16x2048x256_0_0_2048 : FVec Ideal S16x2048x256 .f32) (ix3 b i x) = Q (ix3 b i ⟨2048 + x.val, by omega⟩)
    ∧ (extractStridedSlice S16x2048x256 ![0, 0, 2304] Q slices_S16x2048x3072_S16x2048x256_0_0_2304 : FVec Ideal S16x2048x256 .f32) (ix3 b i x) = Q (ix3 b i ⟨2304 + x.val, by omega⟩)
    ∧ (extractStridedSlice S16x2048x256 ![0, 0, 2560] Q slices_S16x2048x3072_S16x2048x256_0_0_2560 : FVec Ideal S16x2048x256 .f32) (ix3 b i x) = Q (ix3 b i ⟨2560 + x.val, by omega⟩)
    ∧ (extractStridedSlice S16x2048x256 ![0, 0, 2816] Q slices_S16x2048x3072_S16x2048x256_0_0_2816 : FVec Ideal S16x2048x256 .f32) (ix3 b i x) = Q (ix3 b i ⟨2816 + x.val, by omega⟩) := by
  refine ⟨?_, ?_, ?_, ?_⟩
  · pointwise []
  · pointwise []
  · pointwise []
  · pointwise []
/-- The rows of a gain. -/
theorem row_at (G : FVec Ideal S2x2x128 .f32) (d : Fin 128) :
    (shapeCast _ (extractStridedSlice S1x1x128 ![1, 0, 0] G slices_S2x2x128_S1x1x128_1_0_0) shapeCasts_S1x1x128_S128 : FVec Ideal S128 .f32) (ix1 d) = G (ix3 1 0 d)
    ∧ (shapeCast _ (extractStridedSlice S1x1x128 ![1, 1, 0] G slices_S2x2x128_S1x1x128_1_1_0) shapeCasts_S1x1x128_S128 : FVec Ideal S128 .f32) (ix1 d) = G (ix3 1 1 d) := by
  constructor
  · pointwise []
  · pointwise []
/-- The queries' scale. -/
theorem scaled_at (T : FVec Ideal S16x2048x1024 .f32) (j : S16x2048x1024.Idx) :
    (mulf T (broadcastInDim S16x2048x1024 ![] bcast_S_S16x2048x1024 (constant S_ .f32 0x3DB504F3#32)) : FVec Ideal S16x2048x1024 .f32) j = T j * Ideal.ofBits FTy.f32 0x3DB504F3#32 := by
  pointwise []

/-- An entry of the reference's result. -/
theorem ref_at (j : S32768x3072.Idx) (hb : (j 0).val / 2048 < 16) (h1 : (j 1).val < 3072) :
    (truncf .bf16 (shapeCast _ (res_main_v223 V0) shapeCasts_S16x2048x3072_S32768x3072) bitsLt_bf16_f32 : FVec Ideal S32768x3072 .bf16) j
      = QkvSpec.out (fun n => (res_main_v29 V0 : FVec Ideal S16x2048x3072 .f32) (ix3 ⟨(j 0).val / 2048, hb⟩ ⟨(j 0).val % 2048, by omega⟩ n))
          (fun r d => (V0 (Proc.devRef .tc main_arg4) : FVec Ideal S2x2x128 .f32) (ix3 1 r d))
          (fun r d => (V0 (Proc.devRef .tc main_arg5) : FVec Ideal S2x2x128 .f32) (ix3 1 r d)) ((j 0).val % 2048) ⟨(j 1).val, h1⟩ := by
  unfold res_main_v223
  refine (parts_at _ _ _ _ _ _ j hb h1).trans ?_
  generalize hbe : (⟨(j 0).val / 2048, hb⟩ : Fin 16) = b
  generalize hie : (⟨(j 0).val % 2048, by omega⟩ : Fin 2048) = i
  have hi : (j 0).val % 2048 = i.val := by rw [← hie]
  rw [hi]
  generalize hne : (⟨(j 1).val, h1⟩ : Fin 3072) = n
  have hn : (j 1).val = n.val := by rw [← hne]
  simp only [hn]
  have hQ (k l : Fin 3072) (h : k.val = l.val) : (res_main_v29 V0 : FVec Ideal S16x2048x3072 .f32) (ix3 b i k) = (res_main_v29 V0 : FVec Ideal S16x2048x3072 .f32) (ix3 b i l) := by
    rw [Fin.ext h]
  have hc (f : Fin 64) (hf : f.val = n.val % 128 / 2) : (broadcastInDim S1x2048x1x64 ![1, 3] bcast_S2048x64_S1x2048x1x64_1_3 (res_main_v59 V0) : FVec Ideal S1x2048x1x64 .f32) (ix4 0 i 0 f)
      = Ideal.cos (QkvSpec.angle i.val (n.val % 128 / 2)) := by rw [← hf]; exact (spread_at _ i f).trans (cos_at V0 i f)
  have hs (f : Fin 64) (hf : f.val = n.val % 128 / 2) : (broadcastInDim S1x2048x1x64 ![1, 3] bcast_S2048x64_S1x2048x1x64_1_3 (res_main_v60 V0) : FVec Ideal S1x2048x1x64 .f32) (ix4 0 i 0 f)
      = Ideal.sin (QkvSpec.angle i.val (n.val % 128 / 2)) := by rw [← hf]; exact (spread_at _ i f).trans (sin_at V0 i f)
  have hG (G : FVec Ideal S2x2x128 .f32) (r : Fin 2) (k d : Fin 128) (h : k.val = d.val) : G (ix3 1 r k) = G (ix3 1 r d) := by rw [Fin.ext h]
  have hn3 : n.val < 3072 := n.isLt
  unfold QkvSpec.out
  by_cases c1 : n.val < 1024
  · rw [dif_pos c1, if_neg (by unfold QkvSpec.isValue; omega)]
    refine (scaled_at _ _).trans (congrArg₂ (fun u v : EReal => u * v) ?_ ?_)
    · refine group8_at _ (res_main_v64 V0) _ (res_main_v78 V0) _ _ _ _ rfl rfl rfl rfl b i _ n.val (by dsimp only) _ _ _ _ ?_ ?_ hc hs
      · exact fun d y hy => ((slice1024_at _ b i y).1).trans (hQ _ _ (by dsimp only at hy ⊢; omega))
      · intro d
        refine ((row_at _ d).1).trans ?_
        unfold QkvSpec.gain
        refine Eq.trans ?_ (if_pos (by omega)).symm
        exact hG _ _ _ _ (by dsimp only; omega)
    · unfold QkvSpec.scale; exact (if_pos (by omega)).symm
  rw [dif_neg c1]
  by_cases c2 : n.val - 1024 < 1024
  · rw [dif_pos c2, if_neg (by unfold QkvSpec.isValue; omega)]
    refine (scaled_at _ _).trans (congrArg₂ (fun u v : EReal => u * v) ?_ ?_)
    · refine group8_at _ (res_main_v103 V0) _ (res_main_v117 V0) _ _ _ _ rfl rfl rfl rfl b i _ n.val (by dsimp only; omega) _ _ _ _ ?_ ?_ hc hs
      · exact fun d y hy => ((slice1024_at _ b i y).2).trans (hQ _ _ (by dsimp only at hy ⊢; omega))
      · intro d
        refine ((row_at _ d).2).trans ?_
        unfold QkvSpec.gain
        refine Eq.trans ?_ ((if_neg (by omega)).trans (if_pos (by omega))).symm
        exact hG _ _ _ _ (by dsimp only; omega)
    · unfold QkvSpec.scale; exact (if_pos (by omega)).symm
  rw [dif_neg c2]
  have hs1 : QkvSpec.scale n.val = 1 := by unfold QkvSpec.scale; exact if_neg (by omega)
  rw [hs1, mul_one]
  by_cases c3 : n.val - 1024 - 1024 < 256
  · rw [dif_pos c3, if_neg (by unfold QkvSpec.isValue; omega)]
    refine group2_at _ (res_main_v142 V0) _ (res_main_v156 V0) _ _ _ _ rfl rfl rfl rfl b i _ n.val (by dsimp only; omega) _ _ _ _ ?_ ?_ hc hs
    · exact fun d y hy => ((slice256_at _ b i y).1).trans (hQ _ _ (by dsimp only at hy ⊢; omega))
    · intro d
      refine ((row_at _ d).1).trans ?_
      unfold QkvSpec.gain
      refine Eq.trans ?_ ((if_neg (by omega)).trans ((if_neg (by omega)).trans (if_pos (by omega)))).symm
      exact hG _ _ _ _ (by dsimp only; omega)
  rw [dif_neg c3]
  by_cases c4 : n.val - 1024 - 1024 - 256 < 256
  · rw [dif_pos c4, if_pos (by unfold QkvSpec.isValue; omega)]
    exact ((slice256_at _ b i _).2.1).trans (hQ _ _ (by dsimp only; omega))
  rw [dif_neg c4]
  by_cases c5 : n.val - 1024 - 1024 - 256 - 256 < 256
  · rw [dif_pos c5, if_neg (by unfold QkvSpec.isValue; omega)]
    refine group2_at _ (res_main_v181 V0) _ (res_main_v195 V0) _ _ _ _ rfl rfl rfl rfl b i _ n.val (by dsimp only; omega) _ _ _ _ ?_ ?_ hc hs
    · exact fun d y hy => ((slice256_at _ b i y).2.2.1).trans (hQ _ _ (by dsimp only at hy ⊢; omega))
    · intro d
      refine ((row_at _ d).2).trans ?_
      unfold QkvSpec.gain
      refine Eq.trans ?_ ((if_neg (by omega)).trans ((if_neg (by omega)).trans ((if_neg (by omega)).trans ((if_neg (by omega)).trans (if_pos (by omega)))))).symm
      exact hG _ _ _ _ (by dsimp only; omega)
  rw [dif_neg c5, if_pos (by unfold QkvSpec.isValue; omega)]
  exact ((slice256_at _ b i _).2.2.2).trans (hQ _ _ (by dsimp only; omega))

end Cert.Reference6Ideal.Qkv
-- ==== Proof.QkvClaim.lean ====
module

public import proofs.«01_k».proof.Proof.QkvKernel
public import proofs.«01_k».proof.Proof.QkvRef

@[expose] public section

set_option maxRecDepth 16384

noncomputable section

/-! The attention's input projection: the kernel and the reference have the same result. -/

namespace Cert.Kernel6Ideal.Qkv

open Idealize.ShloMosaic Idealize.ShloMosaic.TcCoe Idealize.SL.Sem
open Cert.Kernel6Ideal Cert.Kernel6Ideal.Gen
variable (m : (ℓ : Loc nD τ sig) → Buf (Elt Ideal) ℓ)

/-- The tile of every grid point but a tile's first. -/
theorem out_at (c : Dev nD) (t : Fin cfg0.N) (h : ¬ t.val % 4 = 0) (b : Fin 16) (i : Fin 2048) (j : S1024x1024.Idx) (n : Fin 3072)
    (hb : b.val = t.val / 8) (hi : i.val = t.val / 4 % 2 * 1024 + (j 0).val) (hn : n.val = (t.val % 4 - 1) * 1024 + (j 1).val) :
    (outsAt0 m c t.val t.isLt).1 j = QkvSpec.out (proj m c b i) (gq m c) (gk m c) i n := by
  by_cases h3 : t.val % 4 = 3
  · exact out_C m c t h3 b i j n hb hi hn
  · exact out_B m c t h h3 b i j n hb hi hn

/-- A grid point after which the result's tile is written back is not a tile's first. -/
theorem flush_later : ∀ t : Fin cfg0.N, win0_9.flush t = true → ¬ t.val % 4 = 0 :=
  (by decide +kernel : ∀ t : Fin grid0.N, _)

/-- The kernel's result array, entry by entry. -/
theorem final_at (c : Dev nD) : (dats m 0 c).arrAt 9 (cfgs 0).N = fun j : S32768x3072.Idx =>
    QkvSpec.out (proj m c ⟨(j 0).val / 2048, by have : (j 0).val < 32768 := (j 0).isLt; omega⟩ ⟨(j 0).val % 2048, by omega⟩) (gq m c) (gk m c)
      ((j 0).val % 2048) ⟨(j 1).val, (j 1).isLt⟩ := by
  refine (dats m 0 c).arrAt_eq_of_covers 9 _ (by decide +kernel) fun t hf y => ?_
  have hne : ¬ t.val % 4 = 0 := flush_later t hf
  blk_simp
  rw [after0_9]
  have hN : t.val < 128 := lt_of_lt_of_eq t.isLt N_0
  have hy0 : (y 0).val < 1024 := (y 0).isLt
  have hy1 : (y 1).val < 1024 := (y 1).isLt
  have e0 : win0_9.index t 0 = t.val / 4 := by rw [(idx t).2.2.2.2.2.2.2.2.2.1]; rfl
  have e1 : win0_9.index t 1 = t.val % 4 - 1 := by rw [(idx t).2.2.2.2.2.2.2.2.2.1]; rfl
  refine out_at m c t hne _ ⟨_, _⟩ y _ ?_ ?_ ?_ <;> dsimp only <;> blk_simp [e0, e1] <;> omega

end Cert.Kernel6Ideal.Qkv

namespace Cert.Qkv

open Idealize.ShloMosaic Idealize.ShloMosaic.TcCoe Idealize.SL.Sem

/-- The kernel and the reference, run in the extended reals on the same arguments, end with the same result. -/
theorem algebraic : letI := Cert.Kernel6Ideal.Gen.facts; letI := Cert.Reference6Ideal.Gen.facts
    Cert.algebraic_Kernel6Ideal_Reference6Ideal := by
  intro m g m' g' _ hagree
  refine ⟨fun c => (Cert.Kernel6Ideal.Gen.dats m 0 c).arrAt 9 Cert.Kernel6Ideal.cfg0.N, Cert.Kernel6Ideal.Value.run_blocks m g, ?_⟩
  refine (θ_run _ _ _).mono (fun r h c => ⟨(h c).1.trans ?_, (h c).2⟩) (Cert.Reference6Ideal.Value.run m' g')
  refine Eq.trans ?_ (Cert.Kernel6Ideal.Qkv.final_at m c).symm
  funext j
  obtain ⟨h0, h1, h2, h3, h4, h5⟩ := hagree c
  have hb : (j 0).val / 2048 < 16 := by have : (j 0).val < 32768 := (j 0).isLt; omega
  refine (Cert.Reference6Ideal.Qkv.ref_at _ j hb (j 1).isLt).trans ?_
  have eq : (fun (r : Fin 2) (d : Fin 128) => StableHlo.launchContents m' c (Proc.devRef .tc Cert.Reference6Ideal.main_arg4) (ix3 1 r d)) = Cert.Kernel6Ideal.Qkv.gq m c :=
    funext fun r => funext fun d => congrFun h4 _
  have ek : (fun (r : Fin 2) (d : Fin 128) => StableHlo.launchContents m' c (Proc.devRef .tc Cert.Reference6Ideal.main_arg5) (ix3 1 r d)) = Cert.Kernel6Ideal.Qkv.gk m c :=
    funext fun r => funext fun d => congrFun h5 _
  refine congr (congr (congr (congr (congrArg QkvSpec.out (funext fun n => ?_)) eq) ek) rfl) rfl
  unfold Cert.Reference6Ideal.Value.res_main_v29
  refine (Cert.Reference6Ideal.Qkv.proj_at _ _ _ _ _).trans ?_
  refine Finset.sum_congr rfl fun k _ => congrArg₂ (fun u v : EReal => u * v) ?_ (congrFun h3 _)
  exact congr (congr (congr (congr (congrArg FfnSpec.normed (funext fun d => congrFun h0 _)) (funext fun d => congrFun h2 _))
    (funext fun d => congrFun h1 _)) (funext fun d => congrFun h1 _)) rfl

end Cert.Qkv
-- ==== Proof.ModSpec.lean ====
module

public import Idealize.ShloMosaic.Lib.Pipeline.ValueKit

@[expose] public section

noncomputable section

/-! The modulation vectors of all samples and of the context at every layer, over the extended reals. -/

namespace Cert.ModSpec

open Idealize.ShloMosaic

/-- The activation `x * logistic x`. -/
def silu (x : EReal) : EReal := x * Ideal.div 1 (1 + Ideal.exp (-x))

/-- Row `r` of the conditioning: a sample's, then the context's, then rows of zeros. -/
def row (s : Fin 16 → Fin 2048 → EReal) (x : Fin 2048 → EReal) (r : Fin 24) (k : Fin 2048) : EReal :=
  if h : r.val < 16 then s ⟨r.val, h⟩ k else if r.val < 17 then x k else 0

/-- Row `r` of the activated conditioning: a sample's, then the context's, then rows of zeros. -/
def act (s : Fin 16 → Fin 2048 → EReal) (x : Fin 2048 → EReal) (r : Fin 24) (k : Fin 2048) : EReal :=
  if h : r.val < 16 then silu (s ⟨r.val, h⟩ k) else if r.val < 17 then silu (x k) else 0

/-- Activating the padded rows is padding the activated rows: the activation of zero is zero. -/
theorem silu_row (s : Fin 16 → Fin 2048 → EReal) (x : Fin 2048 → EReal) (r : Fin 24) (k : Fin 2048) :
    silu (row s x r k) = act s x r k := by
  unfold row act
  split_ifs
  · rfl
  · rfl
  · exact zero_mul _

/-- One entry of the result: the activated row times a layer's weights, plus the layer's bias. -/
def out (s : Fin 16 → Fin 2048 → EReal) (x : Fin 2048 → EReal) (w : Fin 2048 → EReal) (b : EReal) (r : Fin 24) : EReal :=
  (∑ k, act s x r k * w k) + b

end Cert.ModSpec
-- ==== Proof.ModKernel.lean ====
module

public import proofs.«01_k».proof.Proof.ModSpec
public import proofs.«01_k».proof.Proof.Gen.Kernel8Ideal.Value
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Kernel8Ideal.Mod

open Idealize.ShloMosaic Idealize.ShloMosaic.TcCoe Idealize.SL.Sem
open Cert.Kernel8Ideal Cert.Kernel8Ideal.Gen Cert.ModSpec
variable (m : (ℓ : Loc nD τ sig) → Buf (Elt Ideal) ℓ)

/-- An entry of the samples' conditioning, of the context's, of the weights, of the bias. -/
def smp (c : Dev nD) (r : Fin 16) (k : Fin 2048) : EReal := m ((c : Thread nD τ).loc main_arg0) (ix2 r k)
/-- See `smp`. -/
def ctx (c : Dev nD) (k : Fin 2048) : EReal := m ((c : Thread nD τ).loc main_arg1) (ix1 k)
/-- See `smp`. -/
def wt (c : Dev nD) (l : Fin 4) (n : Fin 18432) (k : Fin 2048) : EReal := m ((c : Thread nD τ).loc main_arg2) (ix3 l k n)
/-- See `smp`. -/
def bias (c : Dev nD) (l : Fin 4) (n : Fin 18432) : EReal := m ((c : Thread nD τ).loc main_arg3) (ix2 l n)

/-- Which block each window is on at a grid point. -/
theorem idx : ∀ t : Fin cfg0.N, win0_0.index t = ![0, 0] ∧ win0_1.index t = ![t.val / 9, 0, t.val % 9] ∧
    win0_2.index t = ![t.val / 9, 0, t.val % 9] ∧ win0_3.index t = ![t.val / 9, 0, t.val % 9] ∧ t.val / 9 < 4 :=
  (by decide +kernel : ∀ t : Fin grid0.N, _)

/-- The padded conditioning's array. -/
theorem arr0 (c : Dev nD) : V m c main_v2 = fun j : S24x2048.Idx => row (smp m c) (ctx m c) (j 0) (j 1) := by
  unfold_abbrev_sides
  simp only [hostOps0, hostOps0_1, hostOps0_2, List.flatten_cons, List.flatten_nil, List.cons_append, List.nil_append, List.append_nil]
  after_results
  simp only [StableHlo.TRef.toBuf, StableHlo.TRef.ofBuf, cast_eq]
  funext j; unfold row smp ctx; pointwise []
  split_ifs <;> first | (exfalso; omega) | rfl | exact sitofp_zero (φ := .f32)
/-- The bias's array. -/
theorem arr2 (c : Dev nD) : V m c main_v3 = fun j : S4x1x18432.Idx => bias m c (j 0) (j 2) := by
  unfold_abbrev_sides
  simp only [hostOps0, hostOps0_1, hostOps0_2, List.flatten_cons, List.flatten_nil, List.cons_append, List.nil_append, List.append_nil]
  after_results
  funext j; unfold bias; pointwise []

/-- The padded conditioning's block. -/
theorem rd0 (c : Dev nD) (t : Fin cfg0.N) (r : Fin 24) (k : Fin 2048) : iblk m c 0 t (ix2 r k) = row (smp m c) (ctx m c) r k := by
  unfold iblk
  exact (congrFun (arr0 m c) _).trans (by congr 1 <;> exact Fin.ext (by dsimp only; blk_simp [idx t] <;> omega))
/-- The weights' block. -/
theorem rd1 (c : Dev nD) (t : Fin cfg0.N) (k n : Fin 2048) (l : Fin 4) (N : Fin 18432) (hl : l.val = t.val / 9)
    (hN : N.val = t.val % 9 * 2048 + n.val) : iblk m c 1 t (ix3 0 k n) = wt m c l N k := by
  unfold wt; blk_ext! [iblk, V, idx t]
/-- The bias's block. -/
theorem rd2 (c : Dev nD) (t : Fin cfg0.N) (n : Fin 2048) (l : Fin 4) (N : Fin 18432) (hl : l.val = t.val / 9)
    (hN : N.val = t.val % 9 * 2048 + n.val) : iblk m c 2 t (ix3 0 0 n) = bias m c l N := by
  unfold iblk
  exact (congrFun (arr2 m c) _).trans (by congr 1 <;> exact Fin.ext (by dsimp only; blk_simp [idx t] <;> omega))

/-- What a grid point leaves in the output block. -/
theorem out_at (c : Dev nD) (t : Fin cfg0.N) (y : S1x24x2048.Idx) (r : Fin 24) (l : Fin 4) (N : Fin 18432)
    (hr : r.val = (y 1).val) (hl : l.val = t.val / 9) (hN : N.val = t.val % 9 * 2048 + (y 2).val) :
    out0_3 (F := Ideal) (iblk m c 0 t) (iblk m c 1 t) (iblk m c 2 t) y
      = out (smp m c) (ctx m c) (wt m c l N) (bias m c l N) r := by
  obtain ⟨z, r', n, rfl⟩ : ∃ (z : Fin 1) (r : Fin 24) (n : Fin 2048), y = ix3 z r n := ⟨y 0, y 1, y 2, (ix3_eta y).symm⟩
  obtain rfl : r = r' := Fin.ext hr
  have e0 := fun k => rd0 m c t r k
  have e1 := fun k => rd1 m c t k n l N hl hN
  have e2 := rd2 m c t n l N hl hN
  unfold out0_3
  generalize iblk m c 0 t = X0 at *
  generalize iblk m c 1 t = X1 at *
  generalize iblk m c 2 t = X2 at *
  frame_out
  pointwise [k0_pay1]
  simp only [e0, e1, e2]
  refine congrArg (· + bias m c l N) (Finset.sum_congr rfl fun k _ => congrArg (· * wt m c l N k) ?_)
  rw [zero_sub]
  exact silu_row (smp m c) (ctx m c) r k

/-- The kernel's result array, entry by entry. -/
theorem final_at (c : Dev nD) : (dats m 0 c).arrAt 3 (cfgs 0).N = fun j : S4x24x18432.Idx =>
    out (smp m c) (ctx m c) (wt m c (j 0) (j 2)) (bias m c (j 0) (j 2)) (j 1) := by
  refine (dats m 0 c).arrAt_eq_of_covers 3 _ (by decide +kernel) fun t hf y => ?_
  blk_simp
  rw [after0_3]
  have hN : t.val < 36 := lt_of_lt_of_eq t.isLt N_0
  have hy : (y 0).val < 1 := (y 0).isLt
  have e0 : win0_3.index t 0 = t.val / 9 := by rw [(idx t).2.2.2.1]; rfl
  have e1 : win0_3.index t 1 = 0 := by rw [(idx t).2.2.2.1]; rfl
  have e2 : win0_3.index t 2 = t.val % 9 := by rw [(idx t).2.2.2.1]; rfl
  refine out_at m c t y _ _ _ ?_ ?_ ?_ <;> dsimp only <;> blk_simp [e0, e1, e2] <;> omega

end Cert.Kernel8Ideal.Mod
-- ==== Proof.ModRef.lean ====
module

public import proofs.«01_k».proof.Proof.ModSpec
public import proofs.«01_k».proof.Proof.Gen.Reference8Ideal.Run
public import Idealize.ShloMosaic.Lib.Pipeline.ValueKit
public import Idealize.ShloMosaic.Lib.Tactic.CleanTypes

@[expose] public section

set_option maxRecDepth 16384

noncomputable section

namespace Cert.Reference8Ideal.Mod

open Idealize.ShloMosaic Idealize.ShloMosaic.TcCoe Idealize.SL.Sem
open Cert.Reference8Ideal Cert.Reference8Ideal.Gen Cert.ModSpec

/-- The reference's activated rows, stacked. -/
theorem act_ref (A : FVec Ideal S16x2048 .f32) (X : FVec Ideal S2048 .f32) :
    (concatenate S24x2048 0 [⟨S16x2048, ((mulf A (Host.divf (broadcastInDim S16x2048 ![] bcast_S_S16x2048 (constant (F := Ideal) S_ .f32 0x3F800000#32)) (addf (broadcastInDim S16x2048 ![] bcast_S_S16x2048 (constant (F := Ideal) S_ .f32 0x3F800000#32)) (Host.exp (Host.negf A))))) : (⟨S16x2048, .f32⟩ : BufTy).Contents (Elt Ideal))⟩, ⟨S1x2048, ((broadcastInDim S1x2048 ![1] bcast_S2048_S1x2048_1 (mulf X (Host.divf (broadcastInDim S2048 ![] bcast_S_S2048 (constant (F := Ideal) S_ .f32 0x3F800000#32)) (addf (broadcastInDim S2048 ![] bcast_S_S2048 (constant (F := Ideal) S_ .f32 0x3F800000#32)) (Host.exp (Host.negf X)))))) : (⟨S1x2048, .f32⟩ : BufTy).Contents (Elt Ideal))⟩, ⟨S7x2048, ((broadcastInDim S7x2048 ![] bcast_S_S7x2048 (constant (F := Ideal) S_ .f32 0x00000000#32)) : (⟨S7x2048, .f32⟩ : BufTy).Contents (Elt Ideal))⟩] concatenates_S16x2048_S1x2048_S7x2048_S24x2048_d0 : (⟨S24x2048, .f32⟩ : BufTy).Contents (Elt Ideal))
      = fun j : S24x2048.Idx => act (fun r k => A (ix2 r k)) (fun k => X (ix1 k)) (j 0) (j 1) := by
  funext j
  unfold act silu
  pointwise []
  split_ifs <;> first | (exfalso; omega) | rfl

/-- The reference's stack of four layers, over the activated rows. -/
theorem stack_at (S : FVec Ideal S24x2048 .f32) (W : FVec Ideal S4x2048x18432 .f32) (B : FVec Ideal S4x18432 .f32) (j : S4x24x18432.Idx) :
    (concatenate S4x24x18432 0 [⟨S1x24x18432, ((broadcastInDim S1x24x18432 ![1, 2] bcast_S24x18432_S1x24x18432_1_2 (addf (Host.dotGeneral dot_S24x2048_S2048x18432_S24x18432_1_0_0_1_n_n none (S) (shapeCast _ (extractStridedSlice S1x2048x18432 ![0, 0, 0] W slices_S4x2048x18432_S1x2048x18432_0_0_0) shapeCasts_S1x2048x18432_S2048x18432)) (broadcastInDim S24x18432 ![0, 1] bcast_S1x18432_S24x18432_0_1 (broadcastInDim S1x18432 ![1] bcast_S18432_S1x18432_1 (shapeCast _ (extractStridedSlice S1x18432 ![0, 0] B slices_S4x18432_S1x18432_0_0) shapeCasts_S1x18432_S18432))))) : (⟨S1x24x18432, .f32⟩ : BufTy).Contents (Elt Ideal))⟩, ⟨S1x24x18432, ((broadcastInDim S1x24x18432 ![1, 2] bcast_S24x18432_S1x24x18432_1_2 (addf (Host.dotGeneral dot_S24x2048_S2048x18432_S24x18432_1_0_0_1_n_n none (S) (shapeCast _ (extractStridedSlice S1x2048x18432 ![1, 0, 0] W slices_S4x2048x18432_S1x2048x18432_1_0_0) shapeCasts_S1x2048x18432_S2048x18432)) (broadcastInDim S24x18432 ![0, 1] bcast_S1x18432_S24x18432_0_1 (broadcastInDim S1x18432 ![1] bcast_S18432_S1x18432_1 (shapeCast _ (extractStridedSlice S1x18432 ![1, 0] B slices_S4x18432_S1x18432_1_0) shapeCasts_S1x18432_S18432))))) : (⟨S1x24x18432, .f32⟩ : BufTy).Contents (Elt Ideal))⟩, ⟨S1x24x18432, ((broadcastInDim S1x24x18432 ![1, 2] bcast_S24x18432_S1x24x18432_1_2 (addf (Host.dotGeneral dot_S24x2048_S2048x18432_S24x18432_1_0_0_1_n_n none (S) (shapeCast _ (extractStridedSlice S1x2048x18432 ![2, 0, 0] W slices_S4x2048x18432_S1x2048x18432_2_0_0) shapeCasts_S1x2048x18432_S2048x18432)) (broadcastInDim S24x18432 ![0, 1] bcast_S1x18432_S24x18432_0_1 (broadcastInDim S1x18432 ![1] bcast_S18432_S1x18432_1 (shapeCast _ (extractStridedSlice S1x18432 ![2, 0] B slices_S4x18432_S1x18432_2_0) shapeCasts_S1x18432_S18432))))) : (⟨S1x24x18432, .f32⟩ : BufTy).Contents (Elt Ideal))⟩, ⟨S1x24x18432, ((broadcastInDim S1x24x18432 ![1, 2] bcast_S24x18432_S1x24x18432_1_2 (addf (Host.dotGeneral dot_S24x2048_S2048x18432_S24x18432_1_0_0_1_n_n none (S) (shapeCast _ (extractStridedSlice S1x2048x18432 ![3, 0, 0] W slices_S4x2048x18432_S1x2048x18432_3_0_0) shapeCasts_S1x2048x18432_S2048x18432)) (broadcastInDim S24x18432 ![0, 1] bcast_S1x18432_S24x18432_0_1 (broadcastInDim S1x18432 ![1] bcast_S18432_S1x18432_1 (shapeCast _ (extractStridedSlice S1x18432 ![3, 0] B slices_S4x18432_S1x18432_3_0) shapeCasts_S1x18432_S18432))))) : (⟨S1x24x18432, .f32⟩ : BufTy).Contents (Elt Ideal))⟩] concatenates_S1x24x18432_S1x24x18432_S1x24x18432_S1x24x18432_S4x24x18432_d0 : (⟨S4x24x18432, .f32⟩ : BufTy).Contents (Elt Ideal)) j
      = (∑ k : Fin 2048, S (ix2 (j 1) k) * W (ix3 (j 0) k (j 2))) + B (ix2 (j 0) (j 2)) := by
  obtain ⟨l, r, n, rfl⟩ : ∃ (l : Fin 4) (r : Fin 24) (n : Fin 18432), j = ix3 l r n := ⟨j 0, j 1, j 2, (ix3_eta j).symm⟩
  pointwise []
  fin_cases l <;> rfl

/-- An entry of the reference's result. -/
theorem ref_at (m : (ℓ : Loc nD τ sig) → Buf (Elt Ideal) ℓ) (c : Dev nD) (j : S4x24x18432.Idx) :
    Value.res_main_v41 m c j = out (fun r k => m ((c.tc : Thread nD τ).loc main_arg0) (ix2 r k))
      (fun k => m ((c.tc : Thread nD τ).loc main_arg1) (ix1 k))
      (fun k => m ((c.tc : Thread nD τ).loc main_arg2) (ix3 (j 0) k (j 2)))
      (m ((c.tc : Thread nD τ).loc main_arg3) (ix2 (j 0) (j 2))) (j 1) := by
  unfold Value.res_main_v41
  refine (stack_at _ _ _ j).trans ?_
  unfold out
  refine congrArg (· + _) (Finset.sum_congr rfl fun k _ => congrArg (· * _) ?_)
  exact congrFun (act_ref _ _) _

end Cert.Reference8Ideal.Mod
-- ==== Proof.ModClaim.lean ====
module

public import proofs.«01_k».proof.Defs
public import proofs.«01_k».proof.Proof.ModKernel
public import proofs.«01_k».proof.Proof.ModRef
public import Idealize.ShloMosaic.Lib.Claim

@[expose] public section

set_option maxRecDepth 16384

noncomputable section

namespace Cert.Mod

open Idealize.ShloMosaic Idealize.ShloMosaic.TcCoe Idealize.SL.Sem

/-- The kernel and the reference, run in the extended reals on the same arguments, end with the same result. -/
theorem algebraic : letI := Cert.Kernel8Ideal.Gen.facts; letI := Cert.Reference8Ideal.Gen.facts
    Cert.algebraic_Kernel8Ideal_Reference8Ideal := by
  intro m g m' g' _ hagree
  refine ⟨fun c => (Cert.Kernel8Ideal.Gen.dats m 0 c).arrAt 3 Cert.Kernel8Ideal.cfg0.N, Cert.Kernel8Ideal.Value.run_blocks m g, ?_⟩
  refine (θ_run _ _ _).mono (fun r h c => ⟨(h c).1.trans ?_, (h c).2⟩) (Cert.Reference8Ideal.Value.run m' g')
  refine Eq.trans ?_ (Cert.Kernel8Ideal.Mod.final_at m c).symm
  funext j
  refine (Cert.Reference8Ideal.Mod.ref_at m' c j).trans ?_
  obtain ⟨h0, h1, h2, h3⟩ := hagree c
  rw [h0, h1, h2, h3]
  rfl

end Cert.Mod
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.AttnClaim
public import proofs.«01_k».proof.Proof.FfnClaim
public import proofs.«01_k».proof.Proof.HyInClaim
public import proofs.«01_k».proof.Proof.OutAttn
public import proofs.«01_k».proof.Proof.OutHyena
public import proofs.«01_k».proof.Proof.GlobClaim
public import proofs.«01_k».proof.Proof.QkvClaim
public import proofs.«01_k».proof.Proof.ModClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Lib.Claim
public import Idealize.ShloMosaic.Adequacy
public import Idealize.ShloMosaic.Init

@[expose] public section

noncomputable section

namespace Cert.Proof

open Idealize.ShloMosaic Idealize.SL.Sem

/-- Every claim of the certificate: the runs of the programs, the accounting of the rewrites, and the equality of the
    kernel's and the reference's results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.AttnPre.facts, Cert.GlobPre.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, sem_eq_zero_of_no_sems (by decide) r.2⟩) (Cert.ReferenceIdeal.Value.run m ρ),
  fun m ρ _ => (θ_run Cert.ReferenceIdeal.defs _ _).mono
    (fun r h => ⟨fun c => (h c).2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => Cert.Kernel7Ideal.Gen.frame m ρ,
  fun m ρ _ => (θ_run Cert.Reference7Ideal.defs _ _).mono
    (fun r h => ⟨fun c => (h c).2, sem_eq_zero_of_no_sems (by decide) r.2⟩) (Cert.Reference7Ideal.Value.run m ρ),
  fun m ρ _ => (θ_run Cert.Reference7Ideal.defs _ _).mono
    (fun r h => ⟨fun c => (h c).2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run Cert.Reference8Ideal.defs _ _).mono
    (fun r h => ⟨fun c => (h c).2, sem_eq_zero_of_no_sems (by decide) r.2⟩) (Cert.Reference8Ideal.Value.run m ρ),
  IdealRules.named_const.statement Cert.KernelIdeal.κ "mask" .f32 0xF149F2CA#32 ⊥ rfl,
  Cert.AttnClaim.algebraic,
  trivial,
  Cert.FfnClaim.algebraic,
  trivial,
  Cert.HyIn.algebraic,
  trivial,
  Cert.OutAttn.algebraic,
  trivial,
  Cert.OutHyena.algebraic,
  trivial,
  Cert.Qkv.algebraic,
  trivial,
  Cert.GlobClaim.algebraic,
  trivial,
  Cert.Mod.algebraic⟩

end Cert.Proof

end
